-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S4096x2048 : Shape := ⟨2, ![4096, 2048]⟩
abbrev S3x2x64x1024 : Shape := ⟨4, ![3, 2, 64, 1024]⟩
abbrev S3x2 : Shape := ⟨2, ![3, 2]⟩
abbrev S_ : Shape := ⟨0, ![]⟩
abbrev S64x1024 : Shape := ⟨2, ![64, 1024]⟩
abbrev S1x1x64x1024 : Shape := ⟨4, ![1, 1, 64, 1024]⟩
abbrev S1x1 : Shape := ⟨2, ![1, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x2048, .f32⟩
  | .local _ .vmem, ⟨0, _⟩ => ⟨S4096x128, .bf16⟩
  | .local _ .vmem, ⟨1, _⟩ => ⟨S128x2048, .bf16⟩
  | .local _ .vmem, ⟨2, _⟩ => ⟨S4096x2048, .f32⟩
  | .local _ .vmem, ⟨3, _⟩ => ⟨S4096x2048, .bf16⟩
  | .local _ .vmem, ⟨4, _⟩ => ⟨S3x2x64x1024, .bf16⟩
  | .local _ .vmem, ⟨5, _⟩ => ⟨S3x2x64x1024, .bf16⟩
  | .local _ .vmem, ⟨6, _⟩ => ⟨S3x2x64x1024, .bf16⟩
  | .local _ .vmem, ⟨7, _⟩ => ⟨S3x2x64x1024, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 3 27 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_15 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v22 : BitVec 32 := Scalar.muli v2 c128_i32
  let v23 : BitVec 32 := Scalar.addi v22 c0_i32_15
  let v24 : Index := Scalar.indexCast v23
  let c0_16 : Index := 0#32
  ![v24.toNat, 0]
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_29 : BitVec 32 := 1#32
  let v29 : BitVec 32 := Scalar.muli v7 c1_i32_29
  let v30 : BitVec 32 := Scalar.addi c0_i32_30 v29
  v30.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_48 : BitVec 32 := 1#32
  let v46 : BitVec 32 := Scalar.muli v7 c1_i32_48
  let v47 : BitVec 32 := Scalar.addi c0_i32_49 v46
  v47.toNat
def k0_off2 (d0 : Dev nD) (c0_i32_55 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_54 : BitVec 32 := 128#32
  let v56 : BitVec 32 := Scalar.muli v2 c128_i32_54
  let v57 : BitVec 32 := Scalar.addi v56 c0_i32_55
  let v58 : Index := Scalar.indexCast v57
  let c1024 : Index := 1024#32
  ![v58.toNat, 1024]
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_68 : BitVec 32 := 1#32
  let v63 : BitVec 32 := Scalar.muli v5 c1_i32_68
  let v64 : BitVec 32 := Scalar.addi c0_i32_69 v63
  v64.toNat
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_89 : BitVec 32 := 1#32
  let v80 : BitVec 32 := Scalar.muli v5 c1_i32_89
  let v81 : BitVec 32 := Scalar.addi c0_i32_90 v80
  v81.toNat
def k0_off3 (d0 : Dev nD) (c0_i32_95 : BitVec 32) (c0_i32_117 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v90 : BitVec 32 := Scalar.subi v2 c0_i32_95
  let c1_i32_96 : BitVec 32 := 1#32
  let v91 : BitVec 32 := Scalar.subi v90 c1_i32_96
  let c64_i32_97 : BitVec 32 := 64#32
  let v92 : BitVec 32 := Scalar.addi v91 c64_i32_97
  let c32_i32_98 : BitVec 32 := 32#32
  let v93 : BitVec 32 := Scalar.remsi v92 c32_i32_98
  let c128_i32_116 : BitVec 32 := 128#32
  let v105 : BitVec 32 := Scalar.muli v93 c128_i32_116
  let v106 : BitVec 32 := Scalar.addi v105 c0_i32_117
  let v107 : Index := Scalar.indexCast v106
  let c0_118 : Index := 0#32
  ![v107.toNat, 0]
def k0_dev7 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_135 : BitVec 32 := 1#32
  let v115 : BitVec 32 := Scalar.muli v7 c1_i32_135
  let v116 : BitVec 32 := Scalar.addi c0_i32_136 v115
  v116.toNat
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_174 : BitVec 32 := 1#32
  let v143 : BitVec 32 := Scalar.muli v7 c1_i32_174
  let v144 : BitVec 32 := Scalar.addi c0_i32_175 v143
  v144.toNat
def k0_off4 (d0 : Dev nD) (c0_i32_99 : BitVec 32) (c0_i32_195 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v94 : BitVec 32 := Scalar.addi v2 c0_i32_99
  let c1_i32_100 : BitVec 32 := 1#32
  let v95 : BitVec 32 := Scalar.addi v94 c1_i32_100
  let c32_i32_101 : BitVec 32 := 32#32
  let v96 : BitVec 32 := Scalar.remsi v95 c32_i32_101
  let c128_i32_194 : BitVec 32 := 128#32
  let v161 : BitVec 32 := Scalar.muli v96 c128_i32_194
  let v162 : BitVec 32 := Scalar.addi v161 c0_i32_195
  let v163 : Index := Scalar.indexCast v162
  let c1024_196 : Index := 1024#32
  ![v163.toNat, 1024]
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_213 : BitVec 32 := 1#32
  let v171 : BitVec 32 := Scalar.muli v5 c1_i32_213
  let v172 : BitVec 32 := Scalar.addi c0_i32_214 v171
  v172.toNat
def k0_dev10 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_252 : BitVec 32 := 1#32
  let v199 : BitVec 32 := Scalar.muli v5 c1_i32_252
  let v200 : BitVec 32 := Scalar.addi c0_i32_253 v199
  v200.toNat
def k0_dev11 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_349 : BitVec 32 := 1#32
  let v258 : BitVec 32 := Scalar.muli v7 c1_i32_349
  let v259 : BitVec 32 := Scalar.addi c0_i32_350 v258
  v259.toNat
def k0_dev12 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_388 : BitVec 32 := 1#32
  let v286 : BitVec 32 := Scalar.muli v7 c1_i32_388
  let v287 : BitVec 32 := Scalar.addi c0_i32_389 v286
  v287.toNat
def k0_dev13 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_427 : BitVec 32 := 1#32
  let v314 : BitVec 32 := Scalar.muli v5 c1_i32_427
  let v315 : BitVec 32 := Scalar.addi c0_i32_428 v314
  v315.toNat
def k0_dev14 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_466 : BitVec 32 := 1#32
  let v342 : BitVec 32 := Scalar.muli v5 c1_i32_466
  let v343 : BitVec 32 := Scalar.addi c0_i32_467 v342
  v343.toNat
def k0_dev15 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_525 : BitVec 32 := 1#32
  let v376 : BitVec 32 := Scalar.muli v5 c1_i32_525
  let v377 : BitVec 32 := Scalar.addi c0_i32_526 v376
  v377.toNat
def k0_dev16 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_528 : BitVec 32 := 1#32
  let v378 : BitVec 32 := Scalar.muli v7 c1_i32_528
  let v379 : BitVec 32 := Scalar.addi c0_i32_529 v378
  v379.toNat
def k0_dev17 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_574 : BitVec 32 := 1#32
  let v405 : BitVec 32 := Scalar.muli v7 c1_i32_574
  let v406 : BitVec 32 := Scalar.addi c0_i32_575 v405
  v406.toNat
def k0_dev18 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_613 : BitVec 32 := 1#32
  let v433 : BitVec 32 := Scalar.muli v7 c1_i32_613
  let v434 : BitVec 32 := Scalar.addi c0_i32_614 v433
  v434.toNat
def k0_dev19 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_652 : BitVec 32 := 1#32
  let v461 : BitVec 32 := Scalar.muli v5 c1_i32_652
  let v462 : BitVec 32 := Scalar.addi c0_i32_653 v461
  v462.toNat
def k0_dev20 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_691 : BitVec 32 := 1#32
  let v489 : BitVec 32 := Scalar.muli v5 c1_i32_691
  let v490 : BitVec 32 := Scalar.addi c0_i32_692 v489
  v490.toNat
def k0_dev21 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_750 : BitVec 32 := 1#32
  let v523 : BitVec 32 := Scalar.muli v5 c1_i32_750
  let v524 : BitVec 32 := Scalar.addi c0_i32_751 v523
  v524.toNat
def k0_dev22 (d0 : Dev nD) : Nat :=
  let c0_i32_754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_753 : BitVec 32 := 1#32
  let v525 : BitVec 32 := Scalar.muli v7 c1_i32_753
  let v526 : BitVec 32 := Scalar.addi c0_i32_754 v525
  v526.toNat
def k0_dev23 (d0 : Dev nD) : Nat :=
  let c0_i32_799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_798 : BitVec 32 := 1#32
  let v552 : BitVec 32 := Scalar.muli v7 c1_i32_798
  let v553 : BitVec 32 := Scalar.addi c0_i32_799 v552
  v553.toNat
def k0_dev24 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_837 : BitVec 32 := 1#32
  let v580 : BitVec 32 := Scalar.muli v7 c1_i32_837
  let v581 : BitVec 32 := Scalar.addi c0_i32_838 v580
  v581.toNat
def k0_dev25 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_876 : BitVec 32 := 1#32
  let v608 : BitVec 32 := Scalar.muli v5 c1_i32_876
  let v609 : BitVec 32 := Scalar.addi c0_i32_877 v608
  v609.toNat
def k0_dev26 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_915 : BitVec 32 := 1#32
  let v636 : BitVec 32 := Scalar.muli v5 c1_i32_915
  let v637 : BitVec 32 := Scalar.addi c0_i32_916 v636
  v637.toNat
def k0_dev27 (d0 : Dev nD) : Nat :=
  let c0_i32_975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_974 : BitVec 32 := 1#32
  let v670 : BitVec 32 := Scalar.muli v5 c1_i32_974
  let v671 : BitVec 32 := Scalar.addi c0_i32_975 v670
  v671.toNat
def k0_dev28 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_977 : BitVec 32 := 1#32
  let v672 : BitVec 32 := Scalar.muli v7 c1_i32_977
  let v673 : BitVec 32 := Scalar.addi c0_i32_978 v672
  v673.toNat
def k0_dev29 (d0 : Dev nD) : Nat :=
  let c0_i32_1023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1022 : BitVec 32 := 1#32
  let v699 : BitVec 32 := Scalar.muli v7 c1_i32_1022
  let v700 : BitVec 32 := Scalar.addi c0_i32_1023 v699
  v700.toNat
def k0_dev30 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1061 : BitVec 32 := 1#32
  let v727 : BitVec 32 := Scalar.muli v7 c1_i32_1061
  let v728 : BitVec 32 := Scalar.addi c0_i32_1062 v727
  v728.toNat
def k0_dev31 (d0 : Dev nD) : Nat :=
  let c0_i32_1101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1100 : BitVec 32 := 1#32
  let v755 : BitVec 32 := Scalar.muli v5 c1_i32_1100
  let v756 : BitVec 32 := Scalar.addi c0_i32_1101 v755
  v756.toNat
def k0_dev32 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1139 : BitVec 32 := 1#32
  let v783 : BitVec 32 := Scalar.muli v5 c1_i32_1139
  let v784 : BitVec 32 := Scalar.addi c0_i32_1140 v783
  v784.toNat
def k0_dev33 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1198 : BitVec 32 := 1#32
  let v817 : BitVec 32 := Scalar.muli v5 c1_i32_1198
  let v818 : BitVec 32 := Scalar.addi c0_i32_1199 v817
  v818.toNat
def k0_dev34 (d0 : Dev nD) : Nat :=
  let c0_i32_1202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1201 : BitVec 32 := 1#32
  let v819 : BitVec 32 := Scalar.muli v7 c1_i32_1201
  let v820 : BitVec 32 := Scalar.addi c0_i32_1202 v819
  v820.toNat
def k0_dev35 (d0 : Dev nD) : Nat :=
  let c0_i32_1247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1246 : BitVec 32 := 1#32
  let v846 : BitVec 32 := Scalar.muli v7 c1_i32_1246
  let v847 : BitVec 32 := Scalar.addi c0_i32_1247 v846
  v847.toNat
def k0_dev36 (d0 : Dev nD) : Nat :=
  let c0_i32_1286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1285 : BitVec 32 := 1#32
  let v874 : BitVec 32 := Scalar.muli v7 c1_i32_1285
  let v875 : BitVec 32 := Scalar.addi c0_i32_1286 v874
  v875.toNat
def k0_dev37 (d0 : Dev nD) : Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1324 : BitVec 32 := 1#32
  let v902 : BitVec 32 := Scalar.muli v5 c1_i32_1324
  let v903 : BitVec 32 := Scalar.addi c0_i32_1325 v902
  v903.toNat
def k0_dev38 (d0 : Dev nD) : Nat :=
  let c0_i32_1364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1363 : BitVec 32 := 1#32
  let v930 : BitVec 32 := Scalar.muli v5 c1_i32_1363
  let v931 : BitVec 32 := Scalar.addi c0_i32_1364 v930
  v931.toNat
def k0_dev39 (d0 : Dev nD) : Nat :=
  let c0_i32_1423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1422 : BitVec 32 := 1#32
  let v964 : BitVec 32 := Scalar.muli v5 c1_i32_1422
  let v965 : BitVec 32 := Scalar.addi c0_i32_1423 v964
  v965.toNat
def k0_dev40 (d0 : Dev nD) : Nat :=
  let c0_i32_1426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1425 : BitVec 32 := 1#32
  let v966 : BitVec 32 := Scalar.muli v7 c1_i32_1425
  let v967 : BitVec 32 := Scalar.addi c0_i32_1426 v966
  v967.toNat
def k0_dev41 (d0 : Dev nD) : Nat :=
  let c0_i32_1471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1470 : BitVec 32 := 1#32
  let v993 : BitVec 32 := Scalar.muli v7 c1_i32_1470
  let v994 : BitVec 32 := Scalar.addi c0_i32_1471 v993
  v994.toNat
def k0_dev42 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1509 : BitVec 32 := 1#32
  let v1021 : BitVec 32 := Scalar.muli v7 c1_i32_1509
  let v1022 : BitVec 32 := Scalar.addi c0_i32_1510 v1021
  v1022.toNat
def k0_dev43 (d0 : Dev nD) : Nat :=
  let c0_i32_1549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1548 : BitVec 32 := 1#32
  let v1049 : BitVec 32 := Scalar.muli v5 c1_i32_1548
  let v1050 : BitVec 32 := Scalar.addi c0_i32_1549 v1049
  v1050.toNat
def k0_dev44 (d0 : Dev nD) : Nat :=
  let c0_i32_1588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1587 : BitVec 32 := 1#32
  let v1077 : BitVec 32 := Scalar.muli v5 c1_i32_1587
  let v1078 : BitVec 32 := Scalar.addi c0_i32_1588 v1077
  v1078.toNat
def k0_dev45 (d0 : Dev nD) : Nat :=
  let c0_i32_1647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1646 : BitVec 32 := 1#32
  let v1111 : BitVec 32 := Scalar.muli v5 c1_i32_1646
  let v1112 : BitVec 32 := Scalar.addi c0_i32_1647 v1111
  v1112.toNat
def k0_dev46 (d0 : Dev nD) : Nat :=
  let c0_i32_1650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1649 : BitVec 32 := 1#32
  let v1113 : BitVec 32 := Scalar.muli v7 c1_i32_1649
  let v1114 : BitVec 32 := Scalar.addi c0_i32_1650 v1113
  v1114.toNat
def k0_dev47 (d0 : Dev nD) : Nat :=
  let c0_i32_1695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1694 : BitVec 32 := 1#32
  let v1140 : BitVec 32 := Scalar.muli v7 c1_i32_1694
  let v1141 : BitVec 32 := Scalar.addi c0_i32_1695 v1140
  v1141.toNat
def k0_dev48 (d0 : Dev nD) : Nat :=
  let c0_i32_1734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1733 : BitVec 32 := 1#32
  let v1168 : BitVec 32 := Scalar.muli v7 c1_i32_1733
  let v1169 : BitVec 32 := Scalar.addi c0_i32_1734 v1168
  v1169.toNat
def k0_dev49 (d0 : Dev nD) : Nat :=
  let c0_i32_1773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1772 : BitVec 32 := 1#32
  let v1196 : BitVec 32 := Scalar.muli v5 c1_i32_1772
  let v1197 : BitVec 32 := Scalar.addi c0_i32_1773 v1196
  v1197.toNat
def k0_dev50 (d0 : Dev nD) : Nat :=
  let c0_i32_1812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1811 : BitVec 32 := 1#32
  let v1224 : BitVec 32 := Scalar.muli v5 c1_i32_1811
  let v1225 : BitVec 32 := Scalar.addi c0_i32_1812 v1224
  v1225.toNat
def k0_dev51 (d0 : Dev nD) : Nat :=
  let c0_i32_1871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1870 : BitVec 32 := 1#32
  let v1258 : BitVec 32 := Scalar.muli v5 c1_i32_1870
  let v1259 : BitVec 32 := Scalar.addi c0_i32_1871 v1258
  v1259.toNat
def k0_dev52 (d0 : Dev nD) : Nat :=
  let c0_i32_1874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1873 : BitVec 32 := 1#32
  let v1260 : BitVec 32 := Scalar.muli v7 c1_i32_1873
  let v1261 : BitVec 32 := Scalar.addi c0_i32_1874 v1260
  v1261.toNat
def k0_dev53 (d0 : Dev nD) : Nat :=
  let c0_i32_1919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1918 : BitVec 32 := 1#32
  let v1287 : BitVec 32 := Scalar.muli v7 c1_i32_1918
  let v1288 : BitVec 32 := Scalar.addi c0_i32_1919 v1287
  v1288.toNat
def k0_dev54 (d0 : Dev nD) : Nat :=
  let c0_i32_1958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1957 : BitVec 32 := 1#32
  let v1315 : BitVec 32 := Scalar.muli v7 c1_i32_1957
  let v1316 : BitVec 32 := Scalar.addi c0_i32_1958 v1315
  v1316.toNat
def k0_dev55 (d0 : Dev nD) : Nat :=
  let c0_i32_1997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1996 : BitVec 32 := 1#32
  let v1343 : BitVec 32 := Scalar.muli v5 c1_i32_1996
  let v1344 : BitVec 32 := Scalar.addi c0_i32_1997 v1343
  v1344.toNat
def k0_dev56 (d0 : Dev nD) : Nat :=
  let c0_i32_2036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2035 : BitVec 32 := 1#32
  let v1371 : BitVec 32 := Scalar.muli v5 c1_i32_2035
  let v1372 : BitVec 32 := Scalar.addi c0_i32_2036 v1371
  v1372.toNat
def k0_dev57 (d0 : Dev nD) : Nat :=
  let c0_i32_2095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2094 : BitVec 32 := 1#32
  let v1405 : BitVec 32 := Scalar.muli v5 c1_i32_2094
  let v1406 : BitVec 32 := Scalar.addi c0_i32_2095 v1405
  v1406.toNat
def k0_dev58 (d0 : Dev nD) : Nat :=
  let c0_i32_2098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2097 : BitVec 32 := 1#32
  let v1407 : BitVec 32 := Scalar.muli v7 c1_i32_2097
  let v1408 : BitVec 32 := Scalar.addi c0_i32_2098 v1407
  v1408.toNat
def k0_dev59 (d0 : Dev nD) : Nat :=
  let c0_i32_2143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2142 : BitVec 32 := 1#32
  let v1434 : BitVec 32 := Scalar.muli v7 c1_i32_2142
  let v1435 : BitVec 32 := Scalar.addi c0_i32_2143 v1434
  v1435.toNat
def k0_dev60 (d0 : Dev nD) : Nat :=
  let c0_i32_2182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2181 : BitVec 32 := 1#32
  let v1462 : BitVec 32 := Scalar.muli v7 c1_i32_2181
  let v1463 : BitVec 32 := Scalar.addi c0_i32_2182 v1462
  v1463.toNat
def k0_dev61 (d0 : Dev nD) : Nat :=
  let c0_i32_2221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2220 : BitVec 32 := 1#32
  let v1490 : BitVec 32 := Scalar.muli v5 c1_i32_2220
  let v1491 : BitVec 32 := Scalar.addi c0_i32_2221 v1490
  v1491.toNat
def k0_dev62 (d0 : Dev nD) : Nat :=
  let c0_i32_2260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2259 : BitVec 32 := 1#32
  let v1518 : BitVec 32 := Scalar.muli v5 c1_i32_2259
  let v1519 : BitVec 32 := Scalar.addi c0_i32_2260 v1518
  v1519.toNat
def k0_dev63 (d0 : Dev nD) : Nat :=
  let c0_i32_2319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2318 : BitVec 32 := 1#32
  let v1552 : BitVec 32 := Scalar.muli v5 c1_i32_2318
  let v1553 : BitVec 32 := Scalar.addi c0_i32_2319 v1552
  v1553.toNat
def k0_dev64 (d0 : Dev nD) : Nat :=
  let c0_i32_2322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2321 : BitVec 32 := 1#32
  let v1554 : BitVec 32 := Scalar.muli v7 c1_i32_2321
  let v1555 : BitVec 32 := Scalar.addi c0_i32_2322 v1554
  v1555.toNat
def k0_dev65 (d0 : Dev nD) : Nat :=
  let c0_i32_2367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2366 : BitVec 32 := 1#32
  let v1581 : BitVec 32 := Scalar.muli v7 c1_i32_2366
  let v1582 : BitVec 32 := Scalar.addi c0_i32_2367 v1581
  v1582.toNat
def k0_dev66 (d0 : Dev nD) : Nat :=
  let c0_i32_2406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2405 : BitVec 32 := 1#32
  let v1609 : BitVec 32 := Scalar.muli v7 c1_i32_2405
  let v1610 : BitVec 32 := Scalar.addi c0_i32_2406 v1609
  v1610.toNat
def k0_dev67 (d0 : Dev nD) : Nat :=
  let c0_i32_2445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2444 : BitVec 32 := 1#32
  let v1637 : BitVec 32 := Scalar.muli v5 c1_i32_2444
  let v1638 : BitVec 32 := Scalar.addi c0_i32_2445 v1637
  v1638.toNat
def k0_dev68 (d0 : Dev nD) : Nat :=
  let c0_i32_2484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2483 : BitVec 32 := 1#32
  let v1665 : BitVec 32 := Scalar.muli v5 c1_i32_2483
  let v1666 : BitVec 32 := Scalar.addi c0_i32_2484 v1665
  v1666.toNat
def k0_dev69 (d0 : Dev nD) : Nat :=
  let c0_i32_2543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2542 : BitVec 32 := 1#32
  let v1699 : BitVec 32 := Scalar.muli v5 c1_i32_2542
  let v1700 : BitVec 32 := Scalar.addi c0_i32_2543 v1699
  v1700.toNat
def k0_dev70 (d0 : Dev nD) : Nat :=
  let c0_i32_2546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2545 : BitVec 32 := 1#32
  let v1701 : BitVec 32 := Scalar.muli v7 c1_i32_2545
  let v1702 : BitVec 32 := Scalar.addi c0_i32_2546 v1701
  v1702.toNat
def k0_dev71 (d0 : Dev nD) : Nat :=
  let c0_i32_2591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2590 : BitVec 32 := 1#32
  let v1728 : BitVec 32 := Scalar.muli v7 c1_i32_2590
  let v1729 : BitVec 32 := Scalar.addi c0_i32_2591 v1728
  v1729.toNat
def k0_dev72 (d0 : Dev nD) : Nat :=
  let c0_i32_2630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2629 : BitVec 32 := 1#32
  let v1756 : BitVec 32 := Scalar.muli v7 c1_i32_2629
  let v1757 : BitVec 32 := Scalar.addi c0_i32_2630 v1756
  v1757.toNat
def k0_dev73 (d0 : Dev nD) : Nat :=
  let c0_i32_2669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2668 : BitVec 32 := 1#32
  let v1784 : BitVec 32 := Scalar.muli v5 c1_i32_2668
  let v1785 : BitVec 32 := Scalar.addi c0_i32_2669 v1784
  v1785.toNat
def k0_dev74 (d0 : Dev nD) : Nat :=
  let c0_i32_2708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2707 : BitVec 32 := 1#32
  let v1812 : BitVec 32 := Scalar.muli v5 c1_i32_2707
  let v1813 : BitVec 32 := Scalar.addi c0_i32_2708 v1812
  v1813.toNat
def k0_dev75 (d0 : Dev nD) : Nat :=
  let c0_i32_2767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2766 : BitVec 32 := 1#32
  let v1846 : BitVec 32 := Scalar.muli v5 c1_i32_2766
  let v1847 : BitVec 32 := Scalar.addi c0_i32_2767 v1846
  v1847.toNat
def k0_dev76 (d0 : Dev nD) : Nat :=
  let c0_i32_2770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2769 : BitVec 32 := 1#32
  let v1848 : BitVec 32 := Scalar.muli v7 c1_i32_2769
  let v1849 : BitVec 32 := Scalar.addi c0_i32_2770 v1848
  v1849.toNat
def k0_dev77 (d0 : Dev nD) : Nat :=
  let c0_i32_2815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2814 : BitVec 32 := 1#32
  let v1875 : BitVec 32 := Scalar.muli v7 c1_i32_2814
  let v1876 : BitVec 32 := Scalar.addi c0_i32_2815 v1875
  v1876.toNat
def k0_dev78 (d0 : Dev nD) : Nat :=
  let c0_i32_2854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2853 : BitVec 32 := 1#32
  let v1903 : BitVec 32 := Scalar.muli v7 c1_i32_2853
  let v1904 : BitVec 32 := Scalar.addi c0_i32_2854 v1903
  v1904.toNat
def k0_dev79 (d0 : Dev nD) : Nat :=
  let c0_i32_2893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2892 : BitVec 32 := 1#32
  let v1931 : BitVec 32 := Scalar.muli v5 c1_i32_2892
  let v1932 : BitVec 32 := Scalar.addi c0_i32_2893 v1931
  v1932.toNat
def k0_dev80 (d0 : Dev nD) : Nat :=
  let c0_i32_2932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2931 : BitVec 32 := 1#32
  let v1959 : BitVec 32 := Scalar.muli v5 c1_i32_2931
  let v1960 : BitVec 32 := Scalar.addi c0_i32_2932 v1959
  v1960.toNat
def k0_dev81 (d0 : Dev nD) : Nat :=
  let c0_i32_2991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2990 : BitVec 32 := 1#32
  let v1993 : BitVec 32 := Scalar.muli v5 c1_i32_2990
  let v1994 : BitVec 32 := Scalar.addi c0_i32_2991 v1993
  v1994.toNat
def k0_dev82 (d0 : Dev nD) : Nat :=
  let c0_i32_2994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2993 : BitVec 32 := 1#32
  let v1995 : BitVec 32 := Scalar.muli v7 c1_i32_2993
  let v1996 : BitVec 32 := Scalar.addi c0_i32_2994 v1995
  v1996.toNat
def k0_dev83 (d0 : Dev nD) : Nat :=
  let c0_i32_3039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3038 : BitVec 32 := 1#32
  let v2022 : BitVec 32 := Scalar.muli v7 c1_i32_3038
  let v2023 : BitVec 32 := Scalar.addi c0_i32_3039 v2022
  v2023.toNat
def k0_dev84 (d0 : Dev nD) : Nat :=
  let c0_i32_3078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3077 : BitVec 32 := 1#32
  let v2050 : BitVec 32 := Scalar.muli v7 c1_i32_3077
  let v2051 : BitVec 32 := Scalar.addi c0_i32_3078 v2050
  v2051.toNat
def k0_dev85 (d0 : Dev nD) : Nat :=
  let c0_i32_3117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3116 : BitVec 32 := 1#32
  let v2078 : BitVec 32 := Scalar.muli v5 c1_i32_3116
  let v2079 : BitVec 32 := Scalar.addi c0_i32_3117 v2078
  v2079.toNat
def k0_dev86 (d0 : Dev nD) : Nat :=
  let c0_i32_3156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3155 : BitVec 32 := 1#32
  let v2106 : BitVec 32 := Scalar.muli v5 c1_i32_3155
  let v2107 : BitVec 32 := Scalar.addi c0_i32_3156 v2106
  v2107.toNat
def k0_dev87 (d0 : Dev nD) : Nat :=
  let c0_i32_3215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3214 : BitVec 32 := 1#32
  let v2140 : BitVec 32 := Scalar.muli v5 c1_i32_3214
  let v2141 : BitVec 32 := Scalar.addi c0_i32_3215 v2140
  v2141.toNat
def k0_dev88 (d0 : Dev nD) : Nat :=
  let c0_i32_3218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3217 : BitVec 32 := 1#32
  let v2142 : BitVec 32 := Scalar.muli v7 c1_i32_3217
  let v2143 : BitVec 32 := Scalar.addi c0_i32_3218 v2142
  v2143.toNat
def k0_dev89 (d0 : Dev nD) : Nat :=
  let c0_i32_3263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3262 : BitVec 32 := 1#32
  let v2169 : BitVec 32 := Scalar.muli v7 c1_i32_3262
  let v2170 : BitVec 32 := Scalar.addi c0_i32_3263 v2169
  v2170.toNat
def k0_dev90 (d0 : Dev nD) : Nat :=
  let c0_i32_3302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3301 : BitVec 32 := 1#32
  let v2197 : BitVec 32 := Scalar.muli v7 c1_i32_3301
  let v2198 : BitVec 32 := Scalar.addi c0_i32_3302 v2197
  v2198.toNat
def k0_dev91 (d0 : Dev nD) : Nat :=
  let c0_i32_3341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3340 : BitVec 32 := 1#32
  let v2225 : BitVec 32 := Scalar.muli v5 c1_i32_3340
  let v2226 : BitVec 32 := Scalar.addi c0_i32_3341 v2225
  v2226.toNat
def k0_dev92 (d0 : Dev nD) : Nat :=
  let c0_i32_3380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3379 : BitVec 32 := 1#32
  let v2253 : BitVec 32 := Scalar.muli v5 c1_i32_3379
  let v2254 : BitVec 32 := Scalar.addi c0_i32_3380 v2253
  v2254.toNat
def k0_dev93 (d0 : Dev nD) : Nat :=
  let c0_i32_3439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3438 : BitVec 32 := 1#32
  let v2287 : BitVec 32 := Scalar.muli v5 c1_i32_3438
  let v2288 : BitVec 32 := Scalar.addi c0_i32_3439 v2287
  v2288.toNat
def k0_dev94 (d0 : Dev nD) : Nat :=
  let c0_i32_3442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3441 : BitVec 32 := 1#32
  let v2289 : BitVec 32 := Scalar.muli v7 c1_i32_3441
  let v2290 : BitVec 32 := Scalar.addi c0_i32_3442 v2289
  v2290.toNat
def k0_dev95 (d0 : Dev nD) : Nat :=
  let c0_i32_3487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3486 : BitVec 32 := 1#32
  let v2316 : BitVec 32 := Scalar.muli v7 c1_i32_3486
  let v2317 : BitVec 32 := Scalar.addi c0_i32_3487 v2316
  v2317.toNat
def k0_dev96 (d0 : Dev nD) : Nat :=
  let c0_i32_3526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3525 : BitVec 32 := 1#32
  let v2344 : BitVec 32 := Scalar.muli v7 c1_i32_3525
  let v2345 : BitVec 32 := Scalar.addi c0_i32_3526 v2344
  v2345.toNat
def k0_dev97 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3564 : BitVec 32 := 1#32
  let v2372 : BitVec 32 := Scalar.muli v5 c1_i32_3564
  let v2373 : BitVec 32 := Scalar.addi c0_i32_3565 v2372
  v2373.toNat
def k0_dev98 (d0 : Dev nD) : Nat :=
  let c0_i32_3604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3603 : BitVec 32 := 1#32
  let v2400 : BitVec 32 := Scalar.muli v5 c1_i32_3603
  let v2401 : BitVec 32 := Scalar.addi c0_i32_3604 v2400
  v2401.toNat
def k0_dev99 (d0 : Dev nD) : Nat :=
  let c0_i32_3663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3662 : BitVec 32 := 1#32
  let v2434 : BitVec 32 := Scalar.muli v5 c1_i32_3662
  let v2435 : BitVec 32 := Scalar.addi c0_i32_3663 v2434
  v2435.toNat
def k0_dev100 (d0 : Dev nD) : Nat :=
  let c0_i32_3666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3665 : BitVec 32 := 1#32
  let v2436 : BitVec 32 := Scalar.muli v7 c1_i32_3665
  let v2437 : BitVec 32 := Scalar.addi c0_i32_3666 v2436
  v2437.toNat
def k0_dev101 (d0 : Dev nD) : Nat :=
  let c0_i32_3711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3710 : BitVec 32 := 1#32
  let v2463 : BitVec 32 := Scalar.muli v7 c1_i32_3710
  let v2464 : BitVec 32 := Scalar.addi c0_i32_3711 v2463
  v2464.toNat
def k0_dev102 (d0 : Dev nD) : Nat :=
  let c0_i32_3750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3749 : BitVec 32 := 1#32
  let v2491 : BitVec 32 := Scalar.muli v7 c1_i32_3749
  let v2492 : BitVec 32 := Scalar.addi c0_i32_3750 v2491
  v2492.toNat
def k0_dev103 (d0 : Dev nD) : Nat :=
  let c0_i32_3789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3788 : BitVec 32 := 1#32
  let v2519 : BitVec 32 := Scalar.muli v5 c1_i32_3788
  let v2520 : BitVec 32 := Scalar.addi c0_i32_3789 v2519
  v2520.toNat
def k0_dev104 (d0 : Dev nD) : Nat :=
  let c0_i32_3828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3827 : BitVec 32 := 1#32
  let v2547 : BitVec 32 := Scalar.muli v5 c1_i32_3827
  let v2548 : BitVec 32 := Scalar.addi c0_i32_3828 v2547
  v2548.toNat
def k0_dev105 (d0 : Dev nD) : Nat :=
  let c0_i32_3887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3886 : BitVec 32 := 1#32
  let v2581 : BitVec 32 := Scalar.muli v5 c1_i32_3886
  let v2582 : BitVec 32 := Scalar.addi c0_i32_3887 v2581
  v2582.toNat
def k0_dev106 (d0 : Dev nD) : Nat :=
  let c0_i32_3890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3889 : BitVec 32 := 1#32
  let v2583 : BitVec 32 := Scalar.muli v7 c1_i32_3889
  let v2584 : BitVec 32 := Scalar.addi c0_i32_3890 v2583
  v2584.toNat
def k0_dev107 (d0 : Dev nD) : Nat :=
  let c0_i32_3935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3934 : BitVec 32 := 1#32
  let v2610 : BitVec 32 := Scalar.muli v7 c1_i32_3934
  let v2611 : BitVec 32 := Scalar.addi c0_i32_3935 v2610
  v2611.toNat
def k0_dev108 (d0 : Dev nD) : Nat :=
  let c0_i32_3974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3973 : BitVec 32 := 1#32
  let v2638 : BitVec 32 := Scalar.muli v7 c1_i32_3973
  let v2639 : BitVec 32 := Scalar.addi c0_i32_3974 v2638
  v2639.toNat
def k0_dev109 (d0 : Dev nD) : Nat :=
  let c0_i32_4013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4012 : BitVec 32 := 1#32
  let v2666 : BitVec 32 := Scalar.muli v5 c1_i32_4012
  let v2667 : BitVec 32 := Scalar.addi c0_i32_4013 v2666
  v2667.toNat
def k0_dev110 (d0 : Dev nD) : Nat :=
  let c0_i32_4052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4051 : BitVec 32 := 1#32
  let v2694 : BitVec 32 := Scalar.muli v5 c1_i32_4051
  let v2695 : BitVec 32 := Scalar.addi c0_i32_4052 v2694
  v2695.toNat
def k0_dev111 (d0 : Dev nD) : Nat :=
  let c0_i32_4111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4110 : BitVec 32 := 1#32
  let v2728 : BitVec 32 := Scalar.muli v5 c1_i32_4110
  let v2729 : BitVec 32 := Scalar.addi c0_i32_4111 v2728
  v2729.toNat
def k0_dev112 (d0 : Dev nD) : Nat :=
  let c0_i32_4114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4113 : BitVec 32 := 1#32
  let v2730 : BitVec 32 := Scalar.muli v7 c1_i32_4113
  let v2731 : BitVec 32 := Scalar.addi c0_i32_4114 v2730
  v2731.toNat
def k0_dev113 (d0 : Dev nD) : Nat :=
  let c0_i32_4159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4158 : BitVec 32 := 1#32
  let v2757 : BitVec 32 := Scalar.muli v7 c1_i32_4158
  let v2758 : BitVec 32 := Scalar.addi c0_i32_4159 v2757
  v2758.toNat
def k0_dev114 (d0 : Dev nD) : Nat :=
  let c0_i32_4198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4197 : BitVec 32 := 1#32
  let v2785 : BitVec 32 := Scalar.muli v7 c1_i32_4197
  let v2786 : BitVec 32 := Scalar.addi c0_i32_4198 v2785
  v2786.toNat
def k0_dev115 (d0 : Dev nD) : Nat :=
  let c0_i32_4237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4236 : BitVec 32 := 1#32
  let v2813 : BitVec 32 := Scalar.muli v5 c1_i32_4236
  let v2814 : BitVec 32 := Scalar.addi c0_i32_4237 v2813
  v2814.toNat
def k0_dev116 (d0 : Dev nD) : Nat :=
  let c0_i32_4276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4275 : BitVec 32 := 1#32
  let v2841 : BitVec 32 := Scalar.muli v5 c1_i32_4275
  let v2842 : BitVec 32 := Scalar.addi c0_i32_4276 v2841
  v2842.toNat
def k0_dev117 (d0 : Dev nD) : Nat :=
  let c0_i32_4335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4334 : BitVec 32 := 1#32
  let v2875 : BitVec 32 := Scalar.muli v5 c1_i32_4334
  let v2876 : BitVec 32 := Scalar.addi c0_i32_4335 v2875
  v2876.toNat
def k0_dev118 (d0 : Dev nD) : Nat :=
  let c0_i32_4338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4337 : BitVec 32 := 1#32
  let v2877 : BitVec 32 := Scalar.muli v7 c1_i32_4337
  let v2878 : BitVec 32 := Scalar.addi c0_i32_4338 v2877
  v2878.toNat
def k0_dev119 (d0 : Dev nD) : Nat :=
  let c0_i32_4383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4382 : BitVec 32 := 1#32
  let v2904 : BitVec 32 := Scalar.muli v7 c1_i32_4382
  let v2905 : BitVec 32 := Scalar.addi c0_i32_4383 v2904
  v2905.toNat
def k0_dev120 (d0 : Dev nD) : Nat :=
  let c0_i32_4422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4421 : BitVec 32 := 1#32
  let v2932 : BitVec 32 := Scalar.muli v7 c1_i32_4421
  let v2933 : BitVec 32 := Scalar.addi c0_i32_4422 v2932
  v2933.toNat
def k0_dev121 (d0 : Dev nD) : Nat :=
  let c0_i32_4461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4460 : BitVec 32 := 1#32
  let v2960 : BitVec 32 := Scalar.muli v5 c1_i32_4460
  let v2961 : BitVec 32 := Scalar.addi c0_i32_4461 v2960
  v2961.toNat
def k0_dev122 (d0 : Dev nD) : Nat :=
  let c0_i32_4500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4499 : BitVec 32 := 1#32
  let v2988 : BitVec 32 := Scalar.muli v5 c1_i32_4499
  let v2989 : BitVec 32 := Scalar.addi c0_i32_4500 v2988
  v2989.toNat
def k0_dev123 (d0 : Dev nD) : Nat :=
  let c0_i32_4559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4558 : BitVec 32 := 1#32
  let v3022 : BitVec 32 := Scalar.muli v5 c1_i32_4558
  let v3023 : BitVec 32 := Scalar.addi c0_i32_4559 v3022
  v3023.toNat
def k0_dev124 (d0 : Dev nD) : Nat :=
  let c0_i32_4562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4561 : BitVec 32 := 1#32
  let v3024 : BitVec 32 := Scalar.muli v7 c1_i32_4561
  let v3025 : BitVec 32 := Scalar.addi c0_i32_4562 v3024
  v3025.toNat
def k0_dev125 (d0 : Dev nD) : Nat :=
  let c0_i32_4607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4606 : BitVec 32 := 1#32
  let v3051 : BitVec 32 := Scalar.muli v7 c1_i32_4606
  let v3052 : BitVec 32 := Scalar.addi c0_i32_4607 v3051
  v3052.toNat
def k0_dev126 (d0 : Dev nD) : Nat :=
  let c0_i32_4646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4645 : BitVec 32 := 1#32
  let v3079 : BitVec 32 := Scalar.muli v7 c1_i32_4645
  let v3080 : BitVec 32 := Scalar.addi c0_i32_4646 v3079
  v3080.toNat
def k0_dev127 (d0 : Dev nD) : Nat :=
  let c0_i32_4685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4684 : BitVec 32 := 1#32
  let v3107 : BitVec 32 := Scalar.muli v5 c1_i32_4684
  let v3108 : BitVec 32 := Scalar.addi c0_i32_4685 v3107
  v3108.toNat
def k0_dev128 (d0 : Dev nD) : Nat :=
  let c0_i32_4724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4723 : BitVec 32 := 1#32
  let v3135 : BitVec 32 := Scalar.muli v5 c1_i32_4723
  let v3136 : BitVec 32 := Scalar.addi c0_i32_4724 v3135
  v3136.toNat
def k0_dev129 (d0 : Dev nD) : Nat :=
  let c0_i32_4783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4782 : BitVec 32 := 1#32
  let v3169 : BitVec 32 := Scalar.muli v5 c1_i32_4782
  let v3170 : BitVec 32 := Scalar.addi c0_i32_4783 v3169
  v3170.toNat
def k0_dev130 (d0 : Dev nD) : Nat :=
  let c0_i32_4786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4785 : BitVec 32 := 1#32
  let v3171 : BitVec 32 := Scalar.muli v7 c1_i32_4785
  let v3172 : BitVec 32 := Scalar.addi c0_i32_4786 v3171
  v3172.toNat
def k0_dev131 (d0 : Dev nD) : Nat :=
  let c0_i32_4831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4830 : BitVec 32 := 1#32
  let v3198 : BitVec 32 := Scalar.muli v7 c1_i32_4830
  let v3199 : BitVec 32 := Scalar.addi c0_i32_4831 v3198
  v3199.toNat
def k0_dev132 (d0 : Dev nD) : Nat :=
  let c0_i32_4870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4869 : BitVec 32 := 1#32
  let v3226 : BitVec 32 := Scalar.muli v7 c1_i32_4869
  let v3227 : BitVec 32 := Scalar.addi c0_i32_4870 v3226
  v3227.toNat
def k0_dev133 (d0 : Dev nD) : Nat :=
  let c0_i32_4909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4908 : BitVec 32 := 1#32
  let v3254 : BitVec 32 := Scalar.muli v5 c1_i32_4908
  let v3255 : BitVec 32 := Scalar.addi c0_i32_4909 v3254
  v3255.toNat
def k0_dev134 (d0 : Dev nD) : Nat :=
  let c0_i32_4948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4947 : BitVec 32 := 1#32
  let v3282 : BitVec 32 := Scalar.muli v5 c1_i32_4947
  let v3283 : BitVec 32 := Scalar.addi c0_i32_4948 v3282
  v3283.toNat
def k0_dev135 (d0 : Dev nD) : Nat :=
  let c0_i32_5007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5006 : BitVec 32 := 1#32
  let v3316 : BitVec 32 := Scalar.muli v5 c1_i32_5006
  let v3317 : BitVec 32 := Scalar.addi c0_i32_5007 v3316
  v3317.toNat
def k0_dev136 (d0 : Dev nD) : Nat :=
  let c0_i32_5010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5009 : BitVec 32 := 1#32
  let v3318 : BitVec 32 := Scalar.muli v7 c1_i32_5009
  let v3319 : BitVec 32 := Scalar.addi c0_i32_5010 v3318
  v3319.toNat
def k0_dev137 (d0 : Dev nD) : Nat :=
  let c0_i32_5055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5054 : BitVec 32 := 1#32
  let v3345 : BitVec 32 := Scalar.muli v7 c1_i32_5054
  let v3346 : BitVec 32 := Scalar.addi c0_i32_5055 v3345
  v3346.toNat
def k0_dev138 (d0 : Dev nD) : Nat :=
  let c0_i32_5094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5093 : BitVec 32 := 1#32
  let v3373 : BitVec 32 := Scalar.muli v7 c1_i32_5093
  let v3374 : BitVec 32 := Scalar.addi c0_i32_5094 v3373
  v3374.toNat
def k0_dev139 (d0 : Dev nD) : Nat :=
  let c0_i32_5133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5132 : BitVec 32 := 1#32
  let v3401 : BitVec 32 := Scalar.muli v5 c1_i32_5132
  let v3402 : BitVec 32 := Scalar.addi c0_i32_5133 v3401
  v3402.toNat
def k0_dev140 (d0 : Dev nD) : Nat :=
  let c0_i32_5172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5171 : BitVec 32 := 1#32
  let v3429 : BitVec 32 := Scalar.muli v5 c1_i32_5171
  let v3430 : BitVec 32 := Scalar.addi c0_i32_5172 v3429
  v3430.toNat
def k0_dev141 (d0 : Dev nD) : Nat :=
  let c0_i32_5231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5230 : BitVec 32 := 1#32
  let v3463 : BitVec 32 := Scalar.muli v5 c1_i32_5230
  let v3464 : BitVec 32 := Scalar.addi c0_i32_5231 v3463
  v3464.toNat
def k0_dev142 (d0 : Dev nD) : Nat :=
  let c0_i32_5234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5233 : BitVec 32 := 1#32
  let v3465 : BitVec 32 := Scalar.muli v7 c1_i32_5233
  let v3466 : BitVec 32 := Scalar.addi c0_i32_5234 v3465
  v3466.toNat
def k0_dev143 (d0 : Dev nD) : Nat :=
  let c0_i32_5279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5278 : BitVec 32 := 1#32
  let v3492 : BitVec 32 := Scalar.muli v7 c1_i32_5278
  let v3493 : BitVec 32 := Scalar.addi c0_i32_5279 v3492
  v3493.toNat
def k0_dev144 (d0 : Dev nD) : Nat :=
  let c0_i32_5318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5317 : BitVec 32 := 1#32
  let v3520 : BitVec 32 := Scalar.muli v7 c1_i32_5317
  let v3521 : BitVec 32 := Scalar.addi c0_i32_5318 v3520
  v3521.toNat
def k0_dev145 (d0 : Dev nD) : Nat :=
  let c0_i32_5357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5356 : BitVec 32 := 1#32
  let v3548 : BitVec 32 := Scalar.muli v5 c1_i32_5356
  let v3549 : BitVec 32 := Scalar.addi c0_i32_5357 v3548
  v3549.toNat
def k0_dev146 (d0 : Dev nD) : Nat :=
  let c0_i32_5396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5395 : BitVec 32 := 1#32
  let v3576 : BitVec 32 := Scalar.muli v5 c1_i32_5395
  let v3577 : BitVec 32 := Scalar.addi c0_i32_5396 v3576
  v3577.toNat
def k0_dev147 (d0 : Dev nD) : Nat :=
  let c0_i32_5455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5454 : BitVec 32 := 1#32
  let v3610 : BitVec 32 := Scalar.muli v5 c1_i32_5454
  let v3611 : BitVec 32 := Scalar.addi c0_i32_5455 v3610
  v3611.toNat
def k0_dev148 (d0 : Dev nD) : Nat :=
  let c0_i32_5458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5457 : BitVec 32 := 1#32
  let v3612 : BitVec 32 := Scalar.muli v7 c1_i32_5457
  let v3613 : BitVec 32 := Scalar.addi c0_i32_5458 v3612
  v3613.toNat
def k0_dev149 (d0 : Dev nD) : Nat :=
  let c0_i32_5503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5502 : BitVec 32 := 1#32
  let v3639 : BitVec 32 := Scalar.muli v7 c1_i32_5502
  let v3640 : BitVec 32 := Scalar.addi c0_i32_5503 v3639
  v3640.toNat
def k0_dev150 (d0 : Dev nD) : Nat :=
  let c0_i32_5542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5541 : BitVec 32 := 1#32
  let v3667 : BitVec 32 := Scalar.muli v7 c1_i32_5541
  let v3668 : BitVec 32 := Scalar.addi c0_i32_5542 v3667
  v3668.toNat
def k0_dev151 (d0 : Dev nD) : Nat :=
  let c0_i32_5581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5580 : BitVec 32 := 1#32
  let v3695 : BitVec 32 := Scalar.muli v5 c1_i32_5580
  let v3696 : BitVec 32 := Scalar.addi c0_i32_5581 v3695
  v3696.toNat
def k0_dev152 (d0 : Dev nD) : Nat :=
  let c0_i32_5620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5619 : BitVec 32 := 1#32
  let v3723 : BitVec 32 := Scalar.muli v5 c1_i32_5619
  let v3724 : BitVec 32 := Scalar.addi c0_i32_5620 v3723
  v3724.toNat
def k0_dev153 (d0 : Dev nD) : Nat :=
  let c0_i32_5679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5678 : BitVec 32 := 1#32
  let v3757 : BitVec 32 := Scalar.muli v5 c1_i32_5678
  let v3758 : BitVec 32 := Scalar.addi c0_i32_5679 v3757
  v3758.toNat
def k0_dev154 (d0 : Dev nD) : Nat :=
  let c0_i32_5682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5681 : BitVec 32 := 1#32
  let v3759 : BitVec 32 := Scalar.muli v7 c1_i32_5681
  let v3760 : BitVec 32 := Scalar.addi c0_i32_5682 v3759
  v3760.toNat
def k0_dev155 (d0 : Dev nD) : Nat :=
  let c0_i32_5727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5726 : BitVec 32 := 1#32
  let v3786 : BitVec 32 := Scalar.muli v7 c1_i32_5726
  let v3787 : BitVec 32 := Scalar.addi c0_i32_5727 v3786
  v3787.toNat
def k0_dev156 (d0 : Dev nD) : Nat :=
  let c0_i32_5766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5765 : BitVec 32 := 1#32
  let v3814 : BitVec 32 := Scalar.muli v7 c1_i32_5765
  let v3815 : BitVec 32 := Scalar.addi c0_i32_5766 v3814
  v3815.toNat
def k0_dev157 (d0 : Dev nD) : Nat :=
  let c0_i32_5805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5804 : BitVec 32 := 1#32
  let v3842 : BitVec 32 := Scalar.muli v5 c1_i32_5804
  let v3843 : BitVec 32 := Scalar.addi c0_i32_5805 v3842
  v3843.toNat
def k0_dev158 (d0 : Dev nD) : Nat :=
  let c0_i32_5844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5843 : BitVec 32 := 1#32
  let v3870 : BitVec 32 := Scalar.muli v5 c1_i32_5843
  let v3871 : BitVec 32 := Scalar.addi c0_i32_5844 v3870
  v3871.toNat
def k0_dev159 (d0 : Dev nD) : Nat :=
  let c0_i32_5903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5902 : BitVec 32 := 1#32
  let v3904 : BitVec 32 := Scalar.muli v5 c1_i32_5902
  let v3905 : BitVec 32 := Scalar.addi c0_i32_5903 v3904
  v3905.toNat
def k0_dev160 (d0 : Dev nD) : Nat :=
  let c0_i32_5906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5905 : BitVec 32 := 1#32
  let v3906 : BitVec 32 := Scalar.muli v7 c1_i32_5905
  let v3907 : BitVec 32 := Scalar.addi c0_i32_5906 v3906
  v3907.toNat
def k0_dev161 (d0 : Dev nD) : Nat :=
  let c0_i32_5951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5950 : BitVec 32 := 1#32
  let v3933 : BitVec 32 := Scalar.muli v7 c1_i32_5950
  let v3934 : BitVec 32 := Scalar.addi c0_i32_5951 v3933
  v3934.toNat
def k0_dev162 (d0 : Dev nD) : Nat :=
  let c0_i32_5990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5989 : BitVec 32 := 1#32
  let v3961 : BitVec 32 := Scalar.muli v7 c1_i32_5989
  let v3962 : BitVec 32 := Scalar.addi c0_i32_5990 v3961
  v3962.toNat
def k0_dev163 (d0 : Dev nD) : Nat :=
  let c0_i32_6029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6028 : BitVec 32 := 1#32
  let v3989 : BitVec 32 := Scalar.muli v5 c1_i32_6028
  let v3990 : BitVec 32 := Scalar.addi c0_i32_6029 v3989
  v3990.toNat
def k0_dev164 (d0 : Dev nD) : Nat :=
  let c0_i32_6068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6067 : BitVec 32 := 1#32
  let v4017 : BitVec 32 := Scalar.muli v5 c1_i32_6067
  let v4018 : BitVec 32 := Scalar.addi c0_i32_6068 v4017
  v4018.toNat
def k0_dev165 (d0 : Dev nD) : Nat :=
  let c0_i32_6127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6126 : BitVec 32 := 1#32
  let v4051 : BitVec 32 := Scalar.muli v5 c1_i32_6126
  let v4052 : BitVec 32 := Scalar.addi c0_i32_6127 v4051
  v4052.toNat
def k0_dev166 (d0 : Dev nD) : Nat :=
  let c0_i32_6130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6129 : BitVec 32 := 1#32
  let v4053 : BitVec 32 := Scalar.muli v7 c1_i32_6129
  let v4054 : BitVec 32 := Scalar.addi c0_i32_6130 v4053
  v4054.toNat
def k0_dev167 (d0 : Dev nD) : Nat :=
  let c0_i32_6175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6174 : BitVec 32 := 1#32
  let v4080 : BitVec 32 := Scalar.muli v7 c1_i32_6174
  let v4081 : BitVec 32 := Scalar.addi c0_i32_6175 v4080
  v4081.toNat
def k0_dev168 (d0 : Dev nD) : Nat :=
  let c0_i32_6214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6213 : BitVec 32 := 1#32
  let v4108 : BitVec 32 := Scalar.muli v7 c1_i32_6213
  let v4109 : BitVec 32 := Scalar.addi c0_i32_6214 v4108
  v4109.toNat
def k0_dev169 (d0 : Dev nD) : Nat :=
  let c0_i32_6253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6252 : BitVec 32 := 1#32
  let v4136 : BitVec 32 := Scalar.muli v5 c1_i32_6252
  let v4137 : BitVec 32 := Scalar.addi c0_i32_6253 v4136
  v4137.toNat
def k0_dev170 (d0 : Dev nD) : Nat :=
  let c0_i32_6292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6291 : BitVec 32 := 1#32
  let v4164 : BitVec 32 := Scalar.muli v5 c1_i32_6291
  let v4165 : BitVec 32 := Scalar.addi c0_i32_6292 v4164
  v4165.toNat
def k0_dev171 (d0 : Dev nD) : Nat :=
  let c0_i32_6351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6350 : BitVec 32 := 1#32
  let v4198 : BitVec 32 := Scalar.muli v5 c1_i32_6350
  let v4199 : BitVec 32 := Scalar.addi c0_i32_6351 v4198
  v4199.toNat
def k0_dev172 (d0 : Dev nD) : Nat :=
  let c0_i32_6354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6353 : BitVec 32 := 1#32
  let v4200 : BitVec 32 := Scalar.muli v7 c1_i32_6353
  let v4201 : BitVec 32 := Scalar.addi c0_i32_6354 v4200
  v4201.toNat
def k0_dev173 (d0 : Dev nD) : Nat :=
  let c0_i32_6399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6398 : BitVec 32 := 1#32
  let v4227 : BitVec 32 := Scalar.muli v7 c1_i32_6398
  let v4228 : BitVec 32 := Scalar.addi c0_i32_6399 v4227
  v4228.toNat
def k0_dev174 (d0 : Dev nD) : Nat :=
  let c0_i32_6438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6437 : BitVec 32 := 1#32
  let v4255 : BitVec 32 := Scalar.muli v7 c1_i32_6437
  let v4256 : BitVec 32 := Scalar.addi c0_i32_6438 v4255
  v4256.toNat
def k0_dev175 (d0 : Dev nD) : Nat :=
  let c0_i32_6477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6476 : BitVec 32 := 1#32
  let v4283 : BitVec 32 := Scalar.muli v5 c1_i32_6476
  let v4284 : BitVec 32 := Scalar.addi c0_i32_6477 v4283
  v4284.toNat
def k0_dev176 (d0 : Dev nD) : Nat :=
  let c0_i32_6516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6515 : BitVec 32 := 1#32
  let v4311 : BitVec 32 := Scalar.muli v5 c1_i32_6515
  let v4312 : BitVec 32 := Scalar.addi c0_i32_6516 v4311
  v4312.toNat
def k0_dev177 (d0 : Dev nD) : Nat :=
  let c0_i32_6575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6574 : BitVec 32 := 1#32
  let v4345 : BitVec 32 := Scalar.muli v5 c1_i32_6574
  let v4346 : BitVec 32 := Scalar.addi c0_i32_6575 v4345
  v4346.toNat
def k0_dev178 (d0 : Dev nD) : Nat :=
  let c0_i32_6578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6577 : BitVec 32 := 1#32
  let v4347 : BitVec 32 := Scalar.muli v7 c1_i32_6577
  let v4348 : BitVec 32 := Scalar.addi c0_i32_6578 v4347
  v4348.toNat
def k0_dev179 (d0 : Dev nD) : Nat :=
  let c0_i32_6623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6622 : BitVec 32 := 1#32
  let v4374 : BitVec 32 := Scalar.muli v7 c1_i32_6622
  let v4375 : BitVec 32 := Scalar.addi c0_i32_6623 v4374
  v4375.toNat
def k0_dev180 (d0 : Dev nD) : Nat :=
  let c0_i32_6662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6661 : BitVec 32 := 1#32
  let v4402 : BitVec 32 := Scalar.muli v7 c1_i32_6661
  let v4403 : BitVec 32 := Scalar.addi c0_i32_6662 v4402
  v4403.toNat
def k0_dev181 (d0 : Dev nD) : Nat :=
  let c0_i32_6701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6700 : BitVec 32 := 1#32
  let v4430 : BitVec 32 := Scalar.muli v5 c1_i32_6700
  let v4431 : BitVec 32 := Scalar.addi c0_i32_6701 v4430
  v4431.toNat
def k0_dev182 (d0 : Dev nD) : Nat :=
  let c0_i32_6740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6739 : BitVec 32 := 1#32
  let v4458 : BitVec 32 := Scalar.muli v5 c1_i32_6739
  let v4459 : BitVec 32 := Scalar.addi c0_i32_6740 v4458
  v4459.toNat
def k0_dev183 (d0 : Dev nD) : Nat :=
  let c0_i32_6799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6798 : BitVec 32 := 1#32
  let v4492 : BitVec 32 := Scalar.muli v5 c1_i32_6798
  let v4493 : BitVec 32 := Scalar.addi c0_i32_6799 v4492
  v4493.toNat
def k0_dev184 (d0 : Dev nD) : Nat :=
  let c0_i32_6802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6801 : BitVec 32 := 1#32
  let v4494 : BitVec 32 := Scalar.muli v7 c1_i32_6801
  let v4495 : BitVec 32 := Scalar.addi c0_i32_6802 v4494
  v4495.toNat
def k0_dev185 (d0 : Dev nD) : Nat :=
  let c0_i32_6847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6846 : BitVec 32 := 1#32
  let v4521 : BitVec 32 := Scalar.muli v7 c1_i32_6846
  let v4522 : BitVec 32 := Scalar.addi c0_i32_6847 v4521
  v4522.toNat
def k0_dev186 (d0 : Dev nD) : Nat :=
  let c0_i32_6886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6885 : BitVec 32 := 1#32
  let v4549 : BitVec 32 := Scalar.muli v7 c1_i32_6885
  let v4550 : BitVec 32 := Scalar.addi c0_i32_6886 v4549
  v4550.toNat
def k0_dev187 (d0 : Dev nD) : Nat :=
  let c0_i32_6925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6924 : BitVec 32 := 1#32
  let v4577 : BitVec 32 := Scalar.muli v5 c1_i32_6924
  let v4578 : BitVec 32 := Scalar.addi c0_i32_6925 v4577
  v4578.toNat
def k0_dev188 (d0 : Dev nD) : Nat :=
  let c0_i32_6964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6963 : BitVec 32 := 1#32
  let v4605 : BitVec 32 := Scalar.muli v5 c1_i32_6963
  let v4606 : BitVec 32 := Scalar.addi c0_i32_6964 v4605
  v4606.toNat
def k0_dev189 (d0 : Dev nD) : Nat :=
  let c0_i32_7051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7050 : BitVec 32 := 1#32
  let v4667 : BitVec 32 := Scalar.muli v5 c1_i32_7050
  let v4668 : BitVec 32 := Scalar.addi c0_i32_7051 v4667
  v4668.toNat
def k0_dev190 (d0 : Dev nD) : Nat :=
  let c0_i32_7054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7053 : BitVec 32 := 1#32
  let v4669 : BitVec 32 := Scalar.muli v7 c1_i32_7053
  let v4670 : BitVec 32 := Scalar.addi c0_i32_7054 v4669
  v4670.toNat
def k0_dev191 (d0 : Dev nD) : Nat :=
  let c0_i32_7090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7089 : BitVec 32 := 1#32
  let v4688 : BitVec 32 := Scalar.muli v7 c1_i32_7089
  let v4689 : BitVec 32 := Scalar.addi c0_i32_7090 v4688
  v4689.toNat
def k0_dev192 (d0 : Dev nD) : Nat :=
  let c0_i32_7118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7117 : BitVec 32 := 1#32
  let v4706 : BitVec 32 := Scalar.muli v7 c1_i32_7117
  let v4707 : BitVec 32 := Scalar.addi c0_i32_7118 v4706
  v4707.toNat
def k0_dev193 (d0 : Dev nD) : Nat :=
  let c0_i32_7146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7145 : BitVec 32 := 1#32
  let v4724 : BitVec 32 := Scalar.muli v5 c1_i32_7145
  let v4725 : BitVec 32 := Scalar.addi c0_i32_7146 v4724
  v4725.toNat
def k0_dev194 (d0 : Dev nD) : Nat :=
  let c0_i32_7174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7173 : BitVec 32 := 1#32
  let v4742 : BitVec 32 := Scalar.muli v5 c1_i32_7173
  let v4743 : BitVec 32 := Scalar.addi c0_i32_7174 v4742
  v4743.toNat
def k0_off5 (d0 : Dev nD) (c31_i32 : BitVec 32) (c0_i32_7184 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4671 : BitVec 32 := Scalar.subi v2 c31_i32
  let c32_i32_7055 : BitVec 32 := 32#32
  let v4672 : BitVec 32 := Scalar.addi v4671 c32_i32_7055
  let c1_i32_7056 : BitVec 32 := 1#32
  let v4673 : BitVec 32 := Scalar.subi v4672 c1_i32_7056
  let c64_i32_7057 : BitVec 32 := 64#32
  let v4674 : BitVec 32 := Scalar.addi v4673 c64_i32_7057
  let c32_i32_7058 : BitVec 32 := 32#32
  let v4675 : BitVec 32 := Scalar.remsi v4674 c32_i32_7058
  let c128_i32_7183 : BitVec 32 := 128#32
  let v4755 : BitVec 32 := Scalar.muli v4675 c128_i32_7183
  let v4756 : BitVec 32 := Scalar.addi v4755 c0_i32_7184
  let v4757 : Index := Scalar.indexCast v4756
  let c0_7185 : Index := 0#32
  ![v4757.toNat, 0]
def k0_off6 (d0 : Dev nD) (c31_i32_7059 : BitVec 32) (c0_i32_7198 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4676 : BitVec 32 := Scalar.addi v2 c31_i32_7059
  let c32_i32_7060 : BitVec 32 := 32#32
  let v4677 : BitVec 32 := Scalar.subi v4676 c32_i32_7060
  let c1_i32_7061 : BitVec 32 := 1#32
  let v4678 : BitVec 32 := Scalar.addi v4677 c1_i32_7061
  let c32_i32_7062 : BitVec 32 := 32#32
  let v4679 : BitVec 32 := Scalar.remsi v4678 c32_i32_7062
  let c128_i32_7197 : BitVec 32 := 128#32
  let v4769 : BitVec 32 := Scalar.muli v4679 c128_i32_7197
  let v4770 : BitVec 32 := Scalar.addi v4769 c0_i32_7198
  let v4771 : Index := Scalar.indexCast v4770
  let c1024_7199 : Index := 1024#32
  ![v4771.toNat, 1024]
def k0_dev195 (d0 : Dev nD) : Nat :=
  let c0_i32_7261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7260 : BitVec 32 := 1#32
  let v4804 : BitVec 32 := Scalar.muli v5 c1_i32_7260
  let v4805 : BitVec 32 := Scalar.addi c0_i32_7261 v4804
  v4805.toNat
def k0_dev196 (d0 : Dev nD) : Nat :=
  let c0_i32_7264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7263 : BitVec 32 := 1#32
  let v4806 : BitVec 32 := Scalar.muli v7 c1_i32_7263
  let v4807 : BitVec 32 := Scalar.addi c0_i32_7264 v4806
  v4807.toNat
def k0_dev197 (d0 : Dev nD) : Nat :=
  let c0_i32_7301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7300 : BitVec 32 := 1#32
  let v4825 : BitVec 32 := Scalar.muli v7 c1_i32_7300
  let v4826 : BitVec 32 := Scalar.addi c0_i32_7301 v4825
  v4826.toNat
def k0_dev198 (d0 : Dev nD) : Nat :=
  let c0_i32_7329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7328 : BitVec 32 := 1#32
  let v4843 : BitVec 32 := Scalar.muli v7 c1_i32_7328
  let v4844 : BitVec 32 := Scalar.addi c0_i32_7329 v4843
  v4844.toNat
def k0_dev199 (d0 : Dev nD) : Nat :=
  let c0_i32_7357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7356 : BitVec 32 := 1#32
  let v4861 : BitVec 32 := Scalar.muli v5 c1_i32_7356
  let v4862 : BitVec 32 := Scalar.addi c0_i32_7357 v4861
  v4862.toNat
def k0_dev200 (d0 : Dev nD) : Nat :=
  let c0_i32_7385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7384 : BitVec 32 := 1#32
  let v4879 : BitVec 32 := Scalar.muli v5 c1_i32_7384
  let v4880 : BitVec 32 := Scalar.addi c0_i32_7385 v4879
  v4880.toNat
def k0_dev201 (d0 : Dev nD) : Nat :=
  let c0_i32_7472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7471 : BitVec 32 := 1#32
  let v4941 : BitVec 32 := Scalar.muli v5 c1_i32_7471
  let v4942 : BitVec 32 := Scalar.addi c0_i32_7472 v4941
  v4942.toNat
def k0_dev202 (d0 : Dev nD) : Nat :=
  let c0_i32_7475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7474 : BitVec 32 := 1#32
  let v4943 : BitVec 32 := Scalar.muli v7 c1_i32_7474
  let v4944 : BitVec 32 := Scalar.addi c0_i32_7475 v4943
  v4944.toNat
def k0_dev203 (d0 : Dev nD) : Nat :=
  let c0_i32_7511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7510 : BitVec 32 := 1#32
  let v4962 : BitVec 32 := Scalar.muli v7 c1_i32_7510
  let v4963 : BitVec 32 := Scalar.addi c0_i32_7511 v4962
  v4963.toNat
def k0_dev204 (d0 : Dev nD) : Nat :=
  let c0_i32_7539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7538 : BitVec 32 := 1#32
  let v4980 : BitVec 32 := Scalar.muli v7 c1_i32_7538
  let v4981 : BitVec 32 := Scalar.addi c0_i32_7539 v4980
  v4981.toNat
def k0_dev205 (d0 : Dev nD) : Nat :=
  let c0_i32_7567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7566 : BitVec 32 := 1#32
  let v4998 : BitVec 32 := Scalar.muli v5 c1_i32_7566
  let v4999 : BitVec 32 := Scalar.addi c0_i32_7567 v4998
  v4999.toNat
def k0_dev206 (d0 : Dev nD) : Nat :=
  let c0_i32_7595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7594 : BitVec 32 := 1#32
  let v5016 : BitVec 32 := Scalar.muli v5 c1_i32_7594
  let v5017 : BitVec 32 := Scalar.addi c0_i32_7595 v5016
  v5017.toNat
def k0_dev207 (d0 : Dev nD) : Nat :=
  let c0_i32_7682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7681 : BitVec 32 := 1#32
  let v5078 : BitVec 32 := Scalar.muli v5 c1_i32_7681
  let v5079 : BitVec 32 := Scalar.addi c0_i32_7682 v5078
  v5079.toNat
def k0_dev208 (d0 : Dev nD) : Nat :=
  let c0_i32_7685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7684 : BitVec 32 := 1#32
  let v5080 : BitVec 32 := Scalar.muli v7 c1_i32_7684
  let v5081 : BitVec 32 := Scalar.addi c0_i32_7685 v5080
  v5081.toNat
def k0_dev209 (d0 : Dev nD) : Nat :=
  let c0_i32_7721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7720 : BitVec 32 := 1#32
  let v5099 : BitVec 32 := Scalar.muli v7 c1_i32_7720
  let v5100 : BitVec 32 := Scalar.addi c0_i32_7721 v5099
  v5100.toNat
def k0_dev210 (d0 : Dev nD) : Nat :=
  let c0_i32_7749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7748 : BitVec 32 := 1#32
  let v5117 : BitVec 32 := Scalar.muli v7 c1_i32_7748
  let v5118 : BitVec 32 := Scalar.addi c0_i32_7749 v5117
  v5118.toNat
def k0_dev211 (d0 : Dev nD) : Nat :=
  let c0_i32_7777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7776 : BitVec 32 := 1#32
  let v5135 : BitVec 32 := Scalar.muli v5 c1_i32_7776
  let v5136 : BitVec 32 := Scalar.addi c0_i32_7777 v5135
  v5136.toNat
def k0_dev212 (d0 : Dev nD) : Nat :=
  let c0_i32_7805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7804 : BitVec 32 := 1#32
  let v5153 : BitVec 32 := Scalar.muli v5 c1_i32_7804
  let v5154 : BitVec 32 := Scalar.addi c0_i32_7805 v5153
  v5154.toNat
def k0_dev213 (d0 : Dev nD) : Nat :=
  let c0_i32_7892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7891 : BitVec 32 := 1#32
  let v5215 : BitVec 32 := Scalar.muli v5 c1_i32_7891
  let v5216 : BitVec 32 := Scalar.addi c0_i32_7892 v5215
  v5216.toNat
def k0_dev214 (d0 : Dev nD) : Nat :=
  let c0_i32_7895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7894 : BitVec 32 := 1#32
  let v5217 : BitVec 32 := Scalar.muli v7 c1_i32_7894
  let v5218 : BitVec 32 := Scalar.addi c0_i32_7895 v5217
  v5218.toNat
def k0_dev215 (d0 : Dev nD) : Nat :=
  let c0_i32_7931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7930 : BitVec 32 := 1#32
  let v5236 : BitVec 32 := Scalar.muli v7 c1_i32_7930
  let v5237 : BitVec 32 := Scalar.addi c0_i32_7931 v5236
  v5237.toNat
def k0_dev216 (d0 : Dev nD) : Nat :=
  let c0_i32_7959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7958 : BitVec 32 := 1#32
  let v5254 : BitVec 32 := Scalar.muli v7 c1_i32_7958
  let v5255 : BitVec 32 := Scalar.addi c0_i32_7959 v5254
  v5255.toNat
def k0_dev217 (d0 : Dev nD) : Nat :=
  let c0_i32_7987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7986 : BitVec 32 := 1#32
  let v5272 : BitVec 32 := Scalar.muli v5 c1_i32_7986
  let v5273 : BitVec 32 := Scalar.addi c0_i32_7987 v5272
  v5273.toNat
def k0_dev218 (d0 : Dev nD) : Nat :=
  let c0_i32_8015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8014 : BitVec 32 := 1#32
  let v5290 : BitVec 32 := Scalar.muli v5 c1_i32_8014
  let v5291 : BitVec 32 := Scalar.addi c0_i32_8015 v5290
  v5291.toNat
def k0_dev219 (d0 : Dev nD) : Nat :=
  let c0_i32_8102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8101 : BitVec 32 := 1#32
  let v5352 : BitVec 32 := Scalar.muli v5 c1_i32_8101
  let v5353 : BitVec 32 := Scalar.addi c0_i32_8102 v5352
  v5353.toNat
def k0_dev220 (d0 : Dev nD) : Nat :=
  let c0_i32_8105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8104 : BitVec 32 := 1#32
  let v5354 : BitVec 32 := Scalar.muli v7 c1_i32_8104
  let v5355 : BitVec 32 := Scalar.addi c0_i32_8105 v5354
  v5355.toNat
def k0_dev221 (d0 : Dev nD) : Nat :=
  let c0_i32_8141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8140 : BitVec 32 := 1#32
  let v5373 : BitVec 32 := Scalar.muli v7 c1_i32_8140
  let v5374 : BitVec 32 := Scalar.addi c0_i32_8141 v5373
  v5374.toNat
def k0_dev222 (d0 : Dev nD) : Nat :=
  let c0_i32_8169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8168 : BitVec 32 := 1#32
  let v5391 : BitVec 32 := Scalar.muli v7 c1_i32_8168
  let v5392 : BitVec 32 := Scalar.addi c0_i32_8169 v5391
  v5392.toNat
def k0_dev223 (d0 : Dev nD) : Nat :=
  let c0_i32_8197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8196 : BitVec 32 := 1#32
  let v5409 : BitVec 32 := Scalar.muli v5 c1_i32_8196
  let v5410 : BitVec 32 := Scalar.addi c0_i32_8197 v5409
  v5410.toNat
def k0_dev224 (d0 : Dev nD) : Nat :=
  let c0_i32_8225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8224 : BitVec 32 := 1#32
  let v5427 : BitVec 32 := Scalar.muli v5 c1_i32_8224
  let v5428 : BitVec 32 := Scalar.addi c0_i32_8225 v5427
  v5428.toNat
def k0_dev225 (d0 : Dev nD) : Nat :=
  let c0_i32_8312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8311 : BitVec 32 := 1#32
  let v5489 : BitVec 32 := Scalar.muli v5 c1_i32_8311
  let v5490 : BitVec 32 := Scalar.addi c0_i32_8312 v5489
  v5490.toNat
def k0_dev226 (d0 : Dev nD) : Nat :=
  let c0_i32_8315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8314 : BitVec 32 := 1#32
  let v5491 : BitVec 32 := Scalar.muli v7 c1_i32_8314
  let v5492 : BitVec 32 := Scalar.addi c0_i32_8315 v5491
  v5492.toNat
def k0_dev227 (d0 : Dev nD) : Nat :=
  let c0_i32_8351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8350 : BitVec 32 := 1#32
  let v5510 : BitVec 32 := Scalar.muli v7 c1_i32_8350
  let v5511 : BitVec 32 := Scalar.addi c0_i32_8351 v5510
  v5511.toNat
def k0_dev228 (d0 : Dev nD) : Nat :=
  let c0_i32_8379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8378 : BitVec 32 := 1#32
  let v5528 : BitVec 32 := Scalar.muli v7 c1_i32_8378
  let v5529 : BitVec 32 := Scalar.addi c0_i32_8379 v5528
  v5529.toNat
def k0_dev229 (d0 : Dev nD) : Nat :=
  let c0_i32_8407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8406 : BitVec 32 := 1#32
  let v5546 : BitVec 32 := Scalar.muli v5 c1_i32_8406
  let v5547 : BitVec 32 := Scalar.addi c0_i32_8407 v5546
  v5547.toNat
def k0_dev230 (d0 : Dev nD) : Nat :=
  let c0_i32_8435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8434 : BitVec 32 := 1#32
  let v5564 : BitVec 32 := Scalar.muli v5 c1_i32_8434
  let v5565 : BitVec 32 := Scalar.addi c0_i32_8435 v5564
  v5565.toNat
def k0_dev231 (d0 : Dev nD) : Nat :=
  let c0_i32_8522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8521 : BitVec 32 := 1#32
  let v5626 : BitVec 32 := Scalar.muli v5 c1_i32_8521
  let v5627 : BitVec 32 := Scalar.addi c0_i32_8522 v5626
  v5627.toNat
def k0_dev232 (d0 : Dev nD) : Nat :=
  let c0_i32_8525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8524 : BitVec 32 := 1#32
  let v5628 : BitVec 32 := Scalar.muli v7 c1_i32_8524
  let v5629 : BitVec 32 := Scalar.addi c0_i32_8525 v5628
  v5629.toNat
def k0_dev233 (d0 : Dev nD) : Nat :=
  let c0_i32_8561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8560 : BitVec 32 := 1#32
  let v5647 : BitVec 32 := Scalar.muli v7 c1_i32_8560
  let v5648 : BitVec 32 := Scalar.addi c0_i32_8561 v5647
  v5648.toNat
def k0_dev234 (d0 : Dev nD) : Nat :=
  let c0_i32_8589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8588 : BitVec 32 := 1#32
  let v5665 : BitVec 32 := Scalar.muli v7 c1_i32_8588
  let v5666 : BitVec 32 := Scalar.addi c0_i32_8589 v5665
  v5666.toNat
def k0_dev235 (d0 : Dev nD) : Nat :=
  let c0_i32_8617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8616 : BitVec 32 := 1#32
  let v5683 : BitVec 32 := Scalar.muli v5 c1_i32_8616
  let v5684 : BitVec 32 := Scalar.addi c0_i32_8617 v5683
  v5684.toNat
def k0_dev236 (d0 : Dev nD) : Nat :=
  let c0_i32_8645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8644 : BitVec 32 := 1#32
  let v5701 : BitVec 32 := Scalar.muli v5 c1_i32_8644
  let v5702 : BitVec 32 := Scalar.addi c0_i32_8645 v5701
  v5702.toNat
def k0_dev237 (d0 : Dev nD) : Nat :=
  let c0_i32_8732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8731 : BitVec 32 := 1#32
  let v5763 : BitVec 32 := Scalar.muli v5 c1_i32_8731
  let v5764 : BitVec 32 := Scalar.addi c0_i32_8732 v5763
  v5764.toNat
def k0_dev238 (d0 : Dev nD) : Nat :=
  let c0_i32_8735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8734 : BitVec 32 := 1#32
  let v5765 : BitVec 32 := Scalar.muli v7 c1_i32_8734
  let v5766 : BitVec 32 := Scalar.addi c0_i32_8735 v5765
  v5766.toNat
def k0_dev239 (d0 : Dev nD) : Nat :=
  let c0_i32_8771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8770 : BitVec 32 := 1#32
  let v5784 : BitVec 32 := Scalar.muli v7 c1_i32_8770
  let v5785 : BitVec 32 := Scalar.addi c0_i32_8771 v5784
  v5785.toNat
def k0_dev240 (d0 : Dev nD) : Nat :=
  let c0_i32_8799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8798 : BitVec 32 := 1#32
  let v5802 : BitVec 32 := Scalar.muli v7 c1_i32_8798
  let v5803 : BitVec 32 := Scalar.addi c0_i32_8799 v5802
  v5803.toNat
def k0_dev241 (d0 : Dev nD) : Nat :=
  let c0_i32_8827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8826 : BitVec 32 := 1#32
  let v5820 : BitVec 32 := Scalar.muli v5 c1_i32_8826
  let v5821 : BitVec 32 := Scalar.addi c0_i32_8827 v5820
  v5821.toNat
def k0_dev242 (d0 : Dev nD) : Nat :=
  let c0_i32_8855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8854 : BitVec 32 := 1#32
  let v5838 : BitVec 32 := Scalar.muli v5 c1_i32_8854
  let v5839 : BitVec 32 := Scalar.addi c0_i32_8855 v5838
  v5839.toNat
def k0_dev243 (d0 : Dev nD) : Nat :=
  let c0_i32_8942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8941 : BitVec 32 := 1#32
  let v5900 : BitVec 32 := Scalar.muli v5 c1_i32_8941
  let v5901 : BitVec 32 := Scalar.addi c0_i32_8942 v5900
  v5901.toNat
def k0_dev244 (d0 : Dev nD) : Nat :=
  let c0_i32_8945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8944 : BitVec 32 := 1#32
  let v5902 : BitVec 32 := Scalar.muli v7 c1_i32_8944
  let v5903 : BitVec 32 := Scalar.addi c0_i32_8945 v5902
  v5903.toNat
def k0_dev245 (d0 : Dev nD) : Nat :=
  let c0_i32_8981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8980 : BitVec 32 := 1#32
  let v5921 : BitVec 32 := Scalar.muli v7 c1_i32_8980
  let v5922 : BitVec 32 := Scalar.addi c0_i32_8981 v5921
  v5922.toNat
def k0_dev246 (d0 : Dev nD) : Nat :=
  let c0_i32_9009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9008 : BitVec 32 := 1#32
  let v5939 : BitVec 32 := Scalar.muli v7 c1_i32_9008
  let v5940 : BitVec 32 := Scalar.addi c0_i32_9009 v5939
  v5940.toNat
def k0_dev247 (d0 : Dev nD) : Nat :=
  let c0_i32_9037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9036 : BitVec 32 := 1#32
  let v5957 : BitVec 32 := Scalar.muli v5 c1_i32_9036
  let v5958 : BitVec 32 := Scalar.addi c0_i32_9037 v5957
  v5958.toNat
def k0_dev248 (d0 : Dev nD) : Nat :=
  let c0_i32_9065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9064 : BitVec 32 := 1#32
  let v5975 : BitVec 32 := Scalar.muli v5 c1_i32_9064
  let v5976 : BitVec 32 := Scalar.addi c0_i32_9065 v5975
  v5976.toNat
def k0_dev249 (d0 : Dev nD) : Nat :=
  let c0_i32_9152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9151 : BitVec 32 := 1#32
  let v6037 : BitVec 32 := Scalar.muli v5 c1_i32_9151
  let v6038 : BitVec 32 := Scalar.addi c0_i32_9152 v6037
  v6038.toNat
def k0_dev250 (d0 : Dev nD) : Nat :=
  let c0_i32_9155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9154 : BitVec 32 := 1#32
  let v6039 : BitVec 32 := Scalar.muli v7 c1_i32_9154
  let v6040 : BitVec 32 := Scalar.addi c0_i32_9155 v6039
  v6040.toNat
def k0_dev251 (d0 : Dev nD) : Nat :=
  let c0_i32_9191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9190 : BitVec 32 := 1#32
  let v6058 : BitVec 32 := Scalar.muli v7 c1_i32_9190
  let v6059 : BitVec 32 := Scalar.addi c0_i32_9191 v6058
  v6059.toNat
def k0_dev252 (d0 : Dev nD) : Nat :=
  let c0_i32_9219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9218 : BitVec 32 := 1#32
  let v6076 : BitVec 32 := Scalar.muli v7 c1_i32_9218
  let v6077 : BitVec 32 := Scalar.addi c0_i32_9219 v6076
  v6077.toNat
def k0_dev253 (d0 : Dev nD) : Nat :=
  let c0_i32_9247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9246 : BitVec 32 := 1#32
  let v6094 : BitVec 32 := Scalar.muli v5 c1_i32_9246
  let v6095 : BitVec 32 := Scalar.addi c0_i32_9247 v6094
  v6095.toNat
def k0_dev254 (d0 : Dev nD) : Nat :=
  let c0_i32_9275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9274 : BitVec 32 := 1#32
  let v6112 : BitVec 32 := Scalar.muli v5 c1_i32_9274
  let v6113 : BitVec 32 := Scalar.addi c0_i32_9275 v6112
  v6113.toNat
def k0_dev255 (d0 : Dev nD) : Nat :=
  let c0_i32_9362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9361 : BitVec 32 := 1#32
  let v6174 : BitVec 32 := Scalar.muli v5 c1_i32_9361
  let v6175 : BitVec 32 := Scalar.addi c0_i32_9362 v6174
  v6175.toNat
def k0_dev256 (d0 : Dev nD) : Nat :=
  let c0_i32_9365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9364 : BitVec 32 := 1#32
  let v6176 : BitVec 32 := Scalar.muli v7 c1_i32_9364
  let v6177 : BitVec 32 := Scalar.addi c0_i32_9365 v6176
  v6177.toNat
def k0_dev257 (d0 : Dev nD) : Nat :=
  let c0_i32_9401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9400 : BitVec 32 := 1#32
  let v6195 : BitVec 32 := Scalar.muli v7 c1_i32_9400
  let v6196 : BitVec 32 := Scalar.addi c0_i32_9401 v6195
  v6196.toNat
def k0_dev258 (d0 : Dev nD) : Nat :=
  let c0_i32_9429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9428 : BitVec 32 := 1#32
  let v6213 : BitVec 32 := Scalar.muli v7 c1_i32_9428
  let v6214 : BitVec 32 := Scalar.addi c0_i32_9429 v6213
  v6214.toNat
def k0_dev259 (d0 : Dev nD) : Nat :=
  let c0_i32_9457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9456 : BitVec 32 := 1#32
  let v6231 : BitVec 32 := Scalar.muli v5 c1_i32_9456
  let v6232 : BitVec 32 := Scalar.addi c0_i32_9457 v6231
  v6232.toNat
def k0_dev260 (d0 : Dev nD) : Nat :=
  let c0_i32_9485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9484 : BitVec 32 := 1#32
  let v6249 : BitVec 32 := Scalar.muli v5 c1_i32_9484
  let v6250 : BitVec 32 := Scalar.addi c0_i32_9485 v6249
  v6250.toNat
def k0_dev261 (d0 : Dev nD) : Nat :=
  let c0_i32_9572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9571 : BitVec 32 := 1#32
  let v6311 : BitVec 32 := Scalar.muli v5 c1_i32_9571
  let v6312 : BitVec 32 := Scalar.addi c0_i32_9572 v6311
  v6312.toNat
def k0_dev262 (d0 : Dev nD) : Nat :=
  let c0_i32_9575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9574 : BitVec 32 := 1#32
  let v6313 : BitVec 32 := Scalar.muli v7 c1_i32_9574
  let v6314 : BitVec 32 := Scalar.addi c0_i32_9575 v6313
  v6314.toNat
def k0_dev263 (d0 : Dev nD) : Nat :=
  let c0_i32_9611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9610 : BitVec 32 := 1#32
  let v6332 : BitVec 32 := Scalar.muli v7 c1_i32_9610
  let v6333 : BitVec 32 := Scalar.addi c0_i32_9611 v6332
  v6333.toNat
def k0_dev264 (d0 : Dev nD) : Nat :=
  let c0_i32_9639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9638 : BitVec 32 := 1#32
  let v6350 : BitVec 32 := Scalar.muli v7 c1_i32_9638
  let v6351 : BitVec 32 := Scalar.addi c0_i32_9639 v6350
  v6351.toNat
def k0_dev265 (d0 : Dev nD) : Nat :=
  let c0_i32_9667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9666 : BitVec 32 := 1#32
  let v6368 : BitVec 32 := Scalar.muli v5 c1_i32_9666
  let v6369 : BitVec 32 := Scalar.addi c0_i32_9667 v6368
  v6369.toNat
def k0_dev266 (d0 : Dev nD) : Nat :=
  let c0_i32_9695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9694 : BitVec 32 := 1#32
  let v6386 : BitVec 32 := Scalar.muli v5 c1_i32_9694
  let v6387 : BitVec 32 := Scalar.addi c0_i32_9695 v6386
  v6387.toNat
def k0_dev267 (d0 : Dev nD) : Nat :=
  let c0_i32_9782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9781 : BitVec 32 := 1#32
  let v6448 : BitVec 32 := Scalar.muli v5 c1_i32_9781
  let v6449 : BitVec 32 := Scalar.addi c0_i32_9782 v6448
  v6449.toNat
def k0_dev268 (d0 : Dev nD) : Nat :=
  let c0_i32_9785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9784 : BitVec 32 := 1#32
  let v6450 : BitVec 32 := Scalar.muli v7 c1_i32_9784
  let v6451 : BitVec 32 := Scalar.addi c0_i32_9785 v6450
  v6451.toNat
def k0_dev269 (d0 : Dev nD) : Nat :=
  let c0_i32_9821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9820 : BitVec 32 := 1#32
  let v6469 : BitVec 32 := Scalar.muli v7 c1_i32_9820
  let v6470 : BitVec 32 := Scalar.addi c0_i32_9821 v6469
  v6470.toNat
def k0_dev270 (d0 : Dev nD) : Nat :=
  let c0_i32_9849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9848 : BitVec 32 := 1#32
  let v6487 : BitVec 32 := Scalar.muli v7 c1_i32_9848
  let v6488 : BitVec 32 := Scalar.addi c0_i32_9849 v6487
  v6488.toNat
def k0_dev271 (d0 : Dev nD) : Nat :=
  let c0_i32_9877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9876 : BitVec 32 := 1#32
  let v6505 : BitVec 32 := Scalar.muli v5 c1_i32_9876
  let v6506 : BitVec 32 := Scalar.addi c0_i32_9877 v6505
  v6506.toNat
def k0_dev272 (d0 : Dev nD) : Nat :=
  let c0_i32_9905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9904 : BitVec 32 := 1#32
  let v6523 : BitVec 32 := Scalar.muli v5 c1_i32_9904
  let v6524 : BitVec 32 := Scalar.addi c0_i32_9905 v6523
  v6524.toNat
def k0_dev273 (d0 : Dev nD) : Nat :=
  let c0_i32_9992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9991 : BitVec 32 := 1#32
  let v6585 : BitVec 32 := Scalar.muli v5 c1_i32_9991
  let v6586 : BitVec 32 := Scalar.addi c0_i32_9992 v6585
  v6586.toNat
def k0_dev274 (d0 : Dev nD) : Nat :=
  let c0_i32_9995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9994 : BitVec 32 := 1#32
  let v6587 : BitVec 32 := Scalar.muli v7 c1_i32_9994
  let v6588 : BitVec 32 := Scalar.addi c0_i32_9995 v6587
  v6588.toNat
def k0_dev275 (d0 : Dev nD) : Nat :=
  let c0_i32_10031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10030 : BitVec 32 := 1#32
  let v6606 : BitVec 32 := Scalar.muli v7 c1_i32_10030
  let v6607 : BitVec 32 := Scalar.addi c0_i32_10031 v6606
  v6607.toNat
def k0_dev276 (d0 : Dev nD) : Nat :=
  let c0_i32_10059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10058 : BitVec 32 := 1#32
  let v6624 : BitVec 32 := Scalar.muli v7 c1_i32_10058
  let v6625 : BitVec 32 := Scalar.addi c0_i32_10059 v6624
  v6625.toNat
def k0_dev277 (d0 : Dev nD) : Nat :=
  let c0_i32_10087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10086 : BitVec 32 := 1#32
  let v6642 : BitVec 32 := Scalar.muli v5 c1_i32_10086
  let v6643 : BitVec 32 := Scalar.addi c0_i32_10087 v6642
  v6643.toNat
def k0_dev278 (d0 : Dev nD) : Nat :=
  let c0_i32_10115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10114 : BitVec 32 := 1#32
  let v6660 : BitVec 32 := Scalar.muli v5 c1_i32_10114
  let v6661 : BitVec 32 := Scalar.addi c0_i32_10115 v6660
  v6661.toNat
def k0_dev279 (d0 : Dev nD) : Nat :=
  let c0_i32_10202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10201 : BitVec 32 := 1#32
  let v6722 : BitVec 32 := Scalar.muli v5 c1_i32_10201
  let v6723 : BitVec 32 := Scalar.addi c0_i32_10202 v6722
  v6723.toNat
def k0_dev280 (d0 : Dev nD) : Nat :=
  let c0_i32_10205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10204 : BitVec 32 := 1#32
  let v6724 : BitVec 32 := Scalar.muli v7 c1_i32_10204
  let v6725 : BitVec 32 := Scalar.addi c0_i32_10205 v6724
  v6725.toNat
def k0_dev281 (d0 : Dev nD) : Nat :=
  let c0_i32_10241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10240 : BitVec 32 := 1#32
  let v6743 : BitVec 32 := Scalar.muli v7 c1_i32_10240
  let v6744 : BitVec 32 := Scalar.addi c0_i32_10241 v6743
  v6744.toNat
def k0_dev282 (d0 : Dev nD) : Nat :=
  let c0_i32_10269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10268 : BitVec 32 := 1#32
  let v6761 : BitVec 32 := Scalar.muli v7 c1_i32_10268
  let v6762 : BitVec 32 := Scalar.addi c0_i32_10269 v6761
  v6762.toNat
def k0_dev283 (d0 : Dev nD) : Nat :=
  let c0_i32_10297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10296 : BitVec 32 := 1#32
  let v6779 : BitVec 32 := Scalar.muli v5 c1_i32_10296
  let v6780 : BitVec 32 := Scalar.addi c0_i32_10297 v6779
  v6780.toNat
def k0_dev284 (d0 : Dev nD) : Nat :=
  let c0_i32_10325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10324 : BitVec 32 := 1#32
  let v6797 : BitVec 32 := Scalar.muli v5 c1_i32_10324
  let v6798 : BitVec 32 := Scalar.addi c0_i32_10325 v6797
  v6798.toNat
def k0_dev285 (d0 : Dev nD) : Nat :=
  let c0_i32_10412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10411 : BitVec 32 := 1#32
  let v6859 : BitVec 32 := Scalar.muli v5 c1_i32_10411
  let v6860 : BitVec 32 := Scalar.addi c0_i32_10412 v6859
  v6860.toNat
def k0_dev286 (d0 : Dev nD) : Nat :=
  let c0_i32_10415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10414 : BitVec 32 := 1#32
  let v6861 : BitVec 32 := Scalar.muli v7 c1_i32_10414
  let v6862 : BitVec 32 := Scalar.addi c0_i32_10415 v6861
  v6862.toNat
def k0_dev287 (d0 : Dev nD) : Nat :=
  let c0_i32_10451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10450 : BitVec 32 := 1#32
  let v6880 : BitVec 32 := Scalar.muli v7 c1_i32_10450
  let v6881 : BitVec 32 := Scalar.addi c0_i32_10451 v6880
  v6881.toNat
def k0_dev288 (d0 : Dev nD) : Nat :=
  let c0_i32_10479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10478 : BitVec 32 := 1#32
  let v6898 : BitVec 32 := Scalar.muli v7 c1_i32_10478
  let v6899 : BitVec 32 := Scalar.addi c0_i32_10479 v6898
  v6899.toNat
def k0_dev289 (d0 : Dev nD) : Nat :=
  let c0_i32_10507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10506 : BitVec 32 := 1#32
  let v6916 : BitVec 32 := Scalar.muli v5 c1_i32_10506
  let v6917 : BitVec 32 := Scalar.addi c0_i32_10507 v6916
  v6917.toNat
def k0_dev290 (d0 : Dev nD) : Nat :=
  let c0_i32_10535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10534 : BitVec 32 := 1#32
  let v6934 : BitVec 32 := Scalar.muli v5 c1_i32_10534
  let v6935 : BitVec 32 := Scalar.addi c0_i32_10535 v6934
  v6935.toNat
def k0_dev291 (d0 : Dev nD) : Nat :=
  let c0_i32_10622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10621 : BitVec 32 := 1#32
  let v6996 : BitVec 32 := Scalar.muli v5 c1_i32_10621
  let v6997 : BitVec 32 := Scalar.addi c0_i32_10622 v6996
  v6997.toNat
def k0_dev292 (d0 : Dev nD) : Nat :=
  let c0_i32_10625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10624 : BitVec 32 := 1#32
  let v6998 : BitVec 32 := Scalar.muli v7 c1_i32_10624
  let v6999 : BitVec 32 := Scalar.addi c0_i32_10625 v6998
  v6999.toNat
def k0_dev293 (d0 : Dev nD) : Nat :=
  let c0_i32_10661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10660 : BitVec 32 := 1#32
  let v7017 : BitVec 32 := Scalar.muli v7 c1_i32_10660
  let v7018 : BitVec 32 := Scalar.addi c0_i32_10661 v7017
  v7018.toNat
def k0_dev294 (d0 : Dev nD) : Nat :=
  let c0_i32_10689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10688 : BitVec 32 := 1#32
  let v7035 : BitVec 32 := Scalar.muli v7 c1_i32_10688
  let v7036 : BitVec 32 := Scalar.addi c0_i32_10689 v7035
  v7036.toNat
def k0_dev295 (d0 : Dev nD) : Nat :=
  let c0_i32_10717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10716 : BitVec 32 := 1#32
  let v7053 : BitVec 32 := Scalar.muli v5 c1_i32_10716
  let v7054 : BitVec 32 := Scalar.addi c0_i32_10717 v7053
  v7054.toNat
def k0_dev296 (d0 : Dev nD) : Nat :=
  let c0_i32_10745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10744 : BitVec 32 := 1#32
  let v7071 : BitVec 32 := Scalar.muli v5 c1_i32_10744
  let v7072 : BitVec 32 := Scalar.addi c0_i32_10745 v7071
  v7072.toNat
def k0_dev297 (d0 : Dev nD) : Nat :=
  let c0_i32_10832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10831 : BitVec 32 := 1#32
  let v7133 : BitVec 32 := Scalar.muli v5 c1_i32_10831
  let v7134 : BitVec 32 := Scalar.addi c0_i32_10832 v7133
  v7134.toNat
def k0_dev298 (d0 : Dev nD) : Nat :=
  let c0_i32_10835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10834 : BitVec 32 := 1#32
  let v7135 : BitVec 32 := Scalar.muli v7 c1_i32_10834
  let v7136 : BitVec 32 := Scalar.addi c0_i32_10835 v7135
  v7136.toNat
def k0_dev299 (d0 : Dev nD) : Nat :=
  let c0_i32_10871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10870 : BitVec 32 := 1#32
  let v7154 : BitVec 32 := Scalar.muli v7 c1_i32_10870
  let v7155 : BitVec 32 := Scalar.addi c0_i32_10871 v7154
  v7155.toNat
def k0_dev300 (d0 : Dev nD) : Nat :=
  let c0_i32_10899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10898 : BitVec 32 := 1#32
  let v7172 : BitVec 32 := Scalar.muli v7 c1_i32_10898
  let v7173 : BitVec 32 := Scalar.addi c0_i32_10899 v7172
  v7173.toNat
def k0_dev301 (d0 : Dev nD) : Nat :=
  let c0_i32_10927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10926 : BitVec 32 := 1#32
  let v7190 : BitVec 32 := Scalar.muli v5 c1_i32_10926
  let v7191 : BitVec 32 := Scalar.addi c0_i32_10927 v7190
  v7191.toNat
def k0_dev302 (d0 : Dev nD) : Nat :=
  let c0_i32_10955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10954 : BitVec 32 := 1#32
  let v7208 : BitVec 32 := Scalar.muli v5 c1_i32_10954
  let v7209 : BitVec 32 := Scalar.addi c0_i32_10955 v7208
  v7209.toNat
def k0_dev303 (d0 : Dev nD) : Nat :=
  let c0_i32_11042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11041 : BitVec 32 := 1#32
  let v7270 : BitVec 32 := Scalar.muli v5 c1_i32_11041
  let v7271 : BitVec 32 := Scalar.addi c0_i32_11042 v7270
  v7271.toNat
def k0_dev304 (d0 : Dev nD) : Nat :=
  let c0_i32_11045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11044 : BitVec 32 := 1#32
  let v7272 : BitVec 32 := Scalar.muli v7 c1_i32_11044
  let v7273 : BitVec 32 := Scalar.addi c0_i32_11045 v7272
  v7273.toNat
def k0_dev305 (d0 : Dev nD) : Nat :=
  let c0_i32_11081 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11080 : BitVec 32 := 1#32
  let v7291 : BitVec 32 := Scalar.muli v7 c1_i32_11080
  let v7292 : BitVec 32 := Scalar.addi c0_i32_11081 v7291
  v7292.toNat
def k0_dev306 (d0 : Dev nD) : Nat :=
  let c0_i32_11109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11108 : BitVec 32 := 1#32
  let v7309 : BitVec 32 := Scalar.muli v7 c1_i32_11108
  let v7310 : BitVec 32 := Scalar.addi c0_i32_11109 v7309
  v7310.toNat
def k0_dev307 (d0 : Dev nD) : Nat :=
  let c0_i32_11137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11136 : BitVec 32 := 1#32
  let v7327 : BitVec 32 := Scalar.muli v5 c1_i32_11136
  let v7328 : BitVec 32 := Scalar.addi c0_i32_11137 v7327
  v7328.toNat
def k0_dev308 (d0 : Dev nD) : Nat :=
  let c0_i32_11165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11164 : BitVec 32 := 1#32
  let v7345 : BitVec 32 := Scalar.muli v5 c1_i32_11164
  let v7346 : BitVec 32 := Scalar.addi c0_i32_11165 v7345
  v7346.toNat
def k0_dev309 (d0 : Dev nD) : Nat :=
  let c0_i32_11252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11251 : BitVec 32 := 1#32
  let v7407 : BitVec 32 := Scalar.muli v5 c1_i32_11251
  let v7408 : BitVec 32 := Scalar.addi c0_i32_11252 v7407
  v7408.toNat
def k0_dev310 (d0 : Dev nD) : Nat :=
  let c0_i32_11255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11254 : BitVec 32 := 1#32
  let v7409 : BitVec 32 := Scalar.muli v7 c1_i32_11254
  let v7410 : BitVec 32 := Scalar.addi c0_i32_11255 v7409
  v7410.toNat
def k0_dev311 (d0 : Dev nD) : Nat :=
  let c0_i32_11291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11290 : BitVec 32 := 1#32
  let v7428 : BitVec 32 := Scalar.muli v7 c1_i32_11290
  let v7429 : BitVec 32 := Scalar.addi c0_i32_11291 v7428
  v7429.toNat
def k0_dev312 (d0 : Dev nD) : Nat :=
  let c0_i32_11319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11318 : BitVec 32 := 1#32
  let v7446 : BitVec 32 := Scalar.muli v7 c1_i32_11318
  let v7447 : BitVec 32 := Scalar.addi c0_i32_11319 v7446
  v7447.toNat
def k0_dev313 (d0 : Dev nD) : Nat :=
  let c0_i32_11347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11346 : BitVec 32 := 1#32
  let v7464 : BitVec 32 := Scalar.muli v5 c1_i32_11346
  let v7465 : BitVec 32 := Scalar.addi c0_i32_11347 v7464
  v7465.toNat
def k0_dev314 (d0 : Dev nD) : Nat :=
  let c0_i32_11375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11374 : BitVec 32 := 1#32
  let v7482 : BitVec 32 := Scalar.muli v5 c1_i32_11374
  let v7483 : BitVec 32 := Scalar.addi c0_i32_11375 v7482
  v7483.toNat
def k0_dev315 (d0 : Dev nD) : Nat :=
  let c0_i32_11462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11461 : BitVec 32 := 1#32
  let v7544 : BitVec 32 := Scalar.muli v5 c1_i32_11461
  let v7545 : BitVec 32 := Scalar.addi c0_i32_11462 v7544
  v7545.toNat
def k0_dev316 (d0 : Dev nD) : Nat :=
  let c0_i32_11465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11464 : BitVec 32 := 1#32
  let v7546 : BitVec 32 := Scalar.muli v7 c1_i32_11464
  let v7547 : BitVec 32 := Scalar.addi c0_i32_11465 v7546
  v7547.toNat
def k0_dev317 (d0 : Dev nD) : Nat :=
  let c0_i32_11501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11500 : BitVec 32 := 1#32
  let v7565 : BitVec 32 := Scalar.muli v7 c1_i32_11500
  let v7566 : BitVec 32 := Scalar.addi c0_i32_11501 v7565
  v7566.toNat
def k0_dev318 (d0 : Dev nD) : Nat :=
  let c0_i32_11529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11528 : BitVec 32 := 1#32
  let v7583 : BitVec 32 := Scalar.muli v7 c1_i32_11528
  let v7584 : BitVec 32 := Scalar.addi c0_i32_11529 v7583
  v7584.toNat
def k0_dev319 (d0 : Dev nD) : Nat :=
  let c0_i32_11557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11556 : BitVec 32 := 1#32
  let v7601 : BitVec 32 := Scalar.muli v5 c1_i32_11556
  let v7602 : BitVec 32 := Scalar.addi c0_i32_11557 v7601
  v7602.toNat
def k0_dev320 (d0 : Dev nD) : Nat :=
  let c0_i32_11585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11584 : BitVec 32 := 1#32
  let v7619 : BitVec 32 := Scalar.muli v5 c1_i32_11584
  let v7620 : BitVec 32 := Scalar.addi c0_i32_11585 v7619
  v7620.toNat
def k0_dev321 (d0 : Dev nD) : Nat :=
  let c0_i32_11672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11671 : BitVec 32 := 1#32
  let v7681 : BitVec 32 := Scalar.muli v5 c1_i32_11671
  let v7682 : BitVec 32 := Scalar.addi c0_i32_11672 v7681
  v7682.toNat
def k0_dev322 (d0 : Dev nD) : Nat :=
  let c0_i32_11675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11674 : BitVec 32 := 1#32
  let v7683 : BitVec 32 := Scalar.muli v7 c1_i32_11674
  let v7684 : BitVec 32 := Scalar.addi c0_i32_11675 v7683
  v7684.toNat
def k0_dev323 (d0 : Dev nD) : Nat :=
  let c0_i32_11711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11710 : BitVec 32 := 1#32
  let v7702 : BitVec 32 := Scalar.muli v7 c1_i32_11710
  let v7703 : BitVec 32 := Scalar.addi c0_i32_11711 v7702
  v7703.toNat
def k0_dev324 (d0 : Dev nD) : Nat :=
  let c0_i32_11739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11738 : BitVec 32 := 1#32
  let v7720 : BitVec 32 := Scalar.muli v7 c1_i32_11738
  let v7721 : BitVec 32 := Scalar.addi c0_i32_11739 v7720
  v7721.toNat
def k0_dev325 (d0 : Dev nD) : Nat :=
  let c0_i32_11767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11766 : BitVec 32 := 1#32
  let v7738 : BitVec 32 := Scalar.muli v5 c1_i32_11766
  let v7739 : BitVec 32 := Scalar.addi c0_i32_11767 v7738
  v7739.toNat
def k0_dev326 (d0 : Dev nD) : Nat :=
  let c0_i32_11795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11794 : BitVec 32 := 1#32
  let v7756 : BitVec 32 := Scalar.muli v5 c1_i32_11794
  let v7757 : BitVec 32 := Scalar.addi c0_i32_11795 v7756
  v7757.toNat
def k0_dev327 (d0 : Dev nD) : Nat :=
  let c0_i32_11882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11881 : BitVec 32 := 1#32
  let v7818 : BitVec 32 := Scalar.muli v5 c1_i32_11881
  let v7819 : BitVec 32 := Scalar.addi c0_i32_11882 v7818
  v7819.toNat
def k0_dev328 (d0 : Dev nD) : Nat :=
  let c0_i32_11885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11884 : BitVec 32 := 1#32
  let v7820 : BitVec 32 := Scalar.muli v7 c1_i32_11884
  let v7821 : BitVec 32 := Scalar.addi c0_i32_11885 v7820
  v7821.toNat
def k0_dev329 (d0 : Dev nD) : Nat :=
  let c0_i32_11921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11920 : BitVec 32 := 1#32
  let v7839 : BitVec 32 := Scalar.muli v7 c1_i32_11920
  let v7840 : BitVec 32 := Scalar.addi c0_i32_11921 v7839
  v7840.toNat
def k0_dev330 (d0 : Dev nD) : Nat :=
  let c0_i32_11949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11948 : BitVec 32 := 1#32
  let v7857 : BitVec 32 := Scalar.muli v7 c1_i32_11948
  let v7858 : BitVec 32 := Scalar.addi c0_i32_11949 v7857
  v7858.toNat
def k0_dev331 (d0 : Dev nD) : Nat :=
  let c0_i32_11977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11976 : BitVec 32 := 1#32
  let v7875 : BitVec 32 := Scalar.muli v5 c1_i32_11976
  let v7876 : BitVec 32 := Scalar.addi c0_i32_11977 v7875
  v7876.toNat
def k0_dev332 (d0 : Dev nD) : Nat :=
  let c0_i32_12005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12004 : BitVec 32 := 1#32
  let v7893 : BitVec 32 := Scalar.muli v5 c1_i32_12004
  let v7894 : BitVec 32 := Scalar.addi c0_i32_12005 v7893
  v7894.toNat
def k0_dev333 (d0 : Dev nD) : Nat :=
  let c0_i32_12092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12091 : BitVec 32 := 1#32
  let v7955 : BitVec 32 := Scalar.muli v5 c1_i32_12091
  let v7956 : BitVec 32 := Scalar.addi c0_i32_12092 v7955
  v7956.toNat
def k0_dev334 (d0 : Dev nD) : Nat :=
  let c0_i32_12095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12094 : BitVec 32 := 1#32
  let v7957 : BitVec 32 := Scalar.muli v7 c1_i32_12094
  let v7958 : BitVec 32 := Scalar.addi c0_i32_12095 v7957
  v7958.toNat
def k0_dev335 (d0 : Dev nD) : Nat :=
  let c0_i32_12131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12130 : BitVec 32 := 1#32
  let v7976 : BitVec 32 := Scalar.muli v7 c1_i32_12130
  let v7977 : BitVec 32 := Scalar.addi c0_i32_12131 v7976
  v7977.toNat
def k0_dev336 (d0 : Dev nD) : Nat :=
  let c0_i32_12159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12158 : BitVec 32 := 1#32
  let v7994 : BitVec 32 := Scalar.muli v7 c1_i32_12158
  let v7995 : BitVec 32 := Scalar.addi c0_i32_12159 v7994
  v7995.toNat
def k0_dev337 (d0 : Dev nD) : Nat :=
  let c0_i32_12187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12186 : BitVec 32 := 1#32
  let v8012 : BitVec 32 := Scalar.muli v5 c1_i32_12186
  let v8013 : BitVec 32 := Scalar.addi c0_i32_12187 v8012
  v8013.toNat
def k0_dev338 (d0 : Dev nD) : Nat :=
  let c0_i32_12215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12214 : BitVec 32 := 1#32
  let v8030 : BitVec 32 := Scalar.muli v5 c1_i32_12214
  let v8031 : BitVec 32 := Scalar.addi c0_i32_12215 v8030
  v8031.toNat
def k0_dev339 (d0 : Dev nD) : Nat :=
  let c0_i32_12302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12301 : BitVec 32 := 1#32
  let v8092 : BitVec 32 := Scalar.muli v5 c1_i32_12301
  let v8093 : BitVec 32 := Scalar.addi c0_i32_12302 v8092
  v8093.toNat
def k0_dev340 (d0 : Dev nD) : Nat :=
  let c0_i32_12305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12304 : BitVec 32 := 1#32
  let v8094 : BitVec 32 := Scalar.muli v7 c1_i32_12304
  let v8095 : BitVec 32 := Scalar.addi c0_i32_12305 v8094
  v8095.toNat
def k0_dev341 (d0 : Dev nD) : Nat :=
  let c0_i32_12341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12340 : BitVec 32 := 1#32
  let v8113 : BitVec 32 := Scalar.muli v7 c1_i32_12340
  let v8114 : BitVec 32 := Scalar.addi c0_i32_12341 v8113
  v8114.toNat
def k0_dev342 (d0 : Dev nD) : Nat :=
  let c0_i32_12369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12368 : BitVec 32 := 1#32
  let v8131 : BitVec 32 := Scalar.muli v7 c1_i32_12368
  let v8132 : BitVec 32 := Scalar.addi c0_i32_12369 v8131
  v8132.toNat
def k0_dev343 (d0 : Dev nD) : Nat :=
  let c0_i32_12397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12396 : BitVec 32 := 1#32
  let v8149 : BitVec 32 := Scalar.muli v5 c1_i32_12396
  let v8150 : BitVec 32 := Scalar.addi c0_i32_12397 v8149
  v8150.toNat
def k0_dev344 (d0 : Dev nD) : Nat :=
  let c0_i32_12425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12424 : BitVec 32 := 1#32
  let v8167 : BitVec 32 := Scalar.muli v5 c1_i32_12424
  let v8168 : BitVec 32 := Scalar.addi c0_i32_12425 v8167
  v8168.toNat
def k0_dev345 (d0 : Dev nD) : Nat :=
  let c0_i32_12512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12511 : BitVec 32 := 1#32
  let v8229 : BitVec 32 := Scalar.muli v5 c1_i32_12511
  let v8230 : BitVec 32 := Scalar.addi c0_i32_12512 v8229
  v8230.toNat
def k0_dev346 (d0 : Dev nD) : Nat :=
  let c0_i32_12515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12514 : BitVec 32 := 1#32
  let v8231 : BitVec 32 := Scalar.muli v7 c1_i32_12514
  let v8232 : BitVec 32 := Scalar.addi c0_i32_12515 v8231
  v8232.toNat
def k0_dev347 (d0 : Dev nD) : Nat :=
  let c0_i32_12551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12550 : BitVec 32 := 1#32
  let v8250 : BitVec 32 := Scalar.muli v7 c1_i32_12550
  let v8251 : BitVec 32 := Scalar.addi c0_i32_12551 v8250
  v8251.toNat
def k0_dev348 (d0 : Dev nD) : Nat :=
  let c0_i32_12579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12578 : BitVec 32 := 1#32
  let v8268 : BitVec 32 := Scalar.muli v7 c1_i32_12578
  let v8269 : BitVec 32 := Scalar.addi c0_i32_12579 v8268
  v8269.toNat
def k0_dev349 (d0 : Dev nD) : Nat :=
  let c0_i32_12607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12606 : BitVec 32 := 1#32
  let v8286 : BitVec 32 := Scalar.muli v5 c1_i32_12606
  let v8287 : BitVec 32 := Scalar.addi c0_i32_12607 v8286
  v8287.toNat
def k0_dev350 (d0 : Dev nD) : Nat :=
  let c0_i32_12635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12634 : BitVec 32 := 1#32
  let v8304 : BitVec 32 := Scalar.muli v5 c1_i32_12634
  let v8305 : BitVec 32 := Scalar.addi c0_i32_12635 v8304
  v8305.toNat
def k0_dev351 (d0 : Dev nD) : Nat :=
  let c0_i32_12722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12721 : BitVec 32 := 1#32
  let v8366 : BitVec 32 := Scalar.muli v5 c1_i32_12721
  let v8367 : BitVec 32 := Scalar.addi c0_i32_12722 v8366
  v8367.toNat
def k0_dev352 (d0 : Dev nD) : Nat :=
  let c0_i32_12725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12724 : BitVec 32 := 1#32
  let v8368 : BitVec 32 := Scalar.muli v7 c1_i32_12724
  let v8369 : BitVec 32 := Scalar.addi c0_i32_12725 v8368
  v8369.toNat
def k0_dev353 (d0 : Dev nD) : Nat :=
  let c0_i32_12761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12760 : BitVec 32 := 1#32
  let v8387 : BitVec 32 := Scalar.muli v7 c1_i32_12760
  let v8388 : BitVec 32 := Scalar.addi c0_i32_12761 v8387
  v8388.toNat
def k0_dev354 (d0 : Dev nD) : Nat :=
  let c0_i32_12789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12788 : BitVec 32 := 1#32
  let v8405 : BitVec 32 := Scalar.muli v7 c1_i32_12788
  let v8406 : BitVec 32 := Scalar.addi c0_i32_12789 v8405
  v8406.toNat
def k0_dev355 (d0 : Dev nD) : Nat :=
  let c0_i32_12817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12816 : BitVec 32 := 1#32
  let v8423 : BitVec 32 := Scalar.muli v5 c1_i32_12816
  let v8424 : BitVec 32 := Scalar.addi c0_i32_12817 v8423
  v8424.toNat
def k0_dev356 (d0 : Dev nD) : Nat :=
  let c0_i32_12845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12844 : BitVec 32 := 1#32
  let v8441 : BitVec 32 := Scalar.muli v5 c1_i32_12844
  let v8442 : BitVec 32 := Scalar.addi c0_i32_12845 v8441
  v8442.toNat
def k0_dev357 (d0 : Dev nD) : Nat :=
  let c0_i32_12932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12931 : BitVec 32 := 1#32
  let v8503 : BitVec 32 := Scalar.muli v5 c1_i32_12931
  let v8504 : BitVec 32 := Scalar.addi c0_i32_12932 v8503
  v8504.toNat
def k0_dev358 (d0 : Dev nD) : Nat :=
  let c0_i32_12935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12934 : BitVec 32 := 1#32
  let v8505 : BitVec 32 := Scalar.muli v7 c1_i32_12934
  let v8506 : BitVec 32 := Scalar.addi c0_i32_12935 v8505
  v8506.toNat
def k0_dev359 (d0 : Dev nD) : Nat :=
  let c0_i32_12971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12970 : BitVec 32 := 1#32
  let v8524 : BitVec 32 := Scalar.muli v7 c1_i32_12970
  let v8525 : BitVec 32 := Scalar.addi c0_i32_12971 v8524
  v8525.toNat
def k0_dev360 (d0 : Dev nD) : Nat :=
  let c0_i32_12999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12998 : BitVec 32 := 1#32
  let v8542 : BitVec 32 := Scalar.muli v7 c1_i32_12998
  let v8543 : BitVec 32 := Scalar.addi c0_i32_12999 v8542
  v8543.toNat
def k0_dev361 (d0 : Dev nD) : Nat :=
  let c0_i32_13027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13026 : BitVec 32 := 1#32
  let v8560 : BitVec 32 := Scalar.muli v5 c1_i32_13026
  let v8561 : BitVec 32 := Scalar.addi c0_i32_13027 v8560
  v8561.toNat
def k0_dev362 (d0 : Dev nD) : Nat :=
  let c0_i32_13055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13054 : BitVec 32 := 1#32
  let v8578 : BitVec 32 := Scalar.muli v5 c1_i32_13054
  let v8579 : BitVec 32 := Scalar.addi c0_i32_13055 v8578
  v8579.toNat
def k0_dev363 (d0 : Dev nD) : Nat :=
  let c0_i32_13142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13141 : BitVec 32 := 1#32
  let v8640 : BitVec 32 := Scalar.muli v5 c1_i32_13141
  let v8641 : BitVec 32 := Scalar.addi c0_i32_13142 v8640
  v8641.toNat
def k0_dev364 (d0 : Dev nD) : Nat :=
  let c0_i32_13145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13144 : BitVec 32 := 1#32
  let v8642 : BitVec 32 := Scalar.muli v7 c1_i32_13144
  let v8643 : BitVec 32 := Scalar.addi c0_i32_13145 v8642
  v8643.toNat
def k0_dev365 (d0 : Dev nD) : Nat :=
  let c0_i32_13181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13180 : BitVec 32 := 1#32
  let v8661 : BitVec 32 := Scalar.muli v7 c1_i32_13180
  let v8662 : BitVec 32 := Scalar.addi c0_i32_13181 v8661
  v8662.toNat
def k0_dev366 (d0 : Dev nD) : Nat :=
  let c0_i32_13209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13208 : BitVec 32 := 1#32
  let v8679 : BitVec 32 := Scalar.muli v7 c1_i32_13208
  let v8680 : BitVec 32 := Scalar.addi c0_i32_13209 v8679
  v8680.toNat
def k0_dev367 (d0 : Dev nD) : Nat :=
  let c0_i32_13237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13236 : BitVec 32 := 1#32
  let v8697 : BitVec 32 := Scalar.muli v5 c1_i32_13236
  let v8698 : BitVec 32 := Scalar.addi c0_i32_13237 v8697
  v8698.toNat
def k0_dev368 (d0 : Dev nD) : Nat :=
  let c0_i32_13265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13264 : BitVec 32 := 1#32
  let v8715 : BitVec 32 := Scalar.muli v5 c1_i32_13264
  let v8716 : BitVec 32 := Scalar.addi c0_i32_13265 v8715
  v8716.toNat
def k0_dev369 (d0 : Dev nD) : Nat :=
  let c0_i32_13352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13351 : BitVec 32 := 1#32
  let v8777 : BitVec 32 := Scalar.muli v5 c1_i32_13351
  let v8778 : BitVec 32 := Scalar.addi c0_i32_13352 v8777
  v8778.toNat
def k0_dev370 (d0 : Dev nD) : Nat :=
  let c0_i32_13355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13354 : BitVec 32 := 1#32
  let v8779 : BitVec 32 := Scalar.muli v7 c1_i32_13354
  let v8780 : BitVec 32 := Scalar.addi c0_i32_13355 v8779
  v8780.toNat
def k0_dev371 (d0 : Dev nD) : Nat :=
  let c0_i32_13506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13505 : BitVec 32 := 1#32
  let v8874 : BitVec 32 := Scalar.muli v5 c1_i32_13505
  let v8875 : BitVec 32 := Scalar.addi c0_i32_13506 v8874
  v8875.toNat
def k0_dev372 (d0 : Dev nD) : Nat :=
  let c0_i32_13509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13508 : BitVec 32 := 1#32
  let v8876 : BitVec 32 := Scalar.muli v7 c1_i32_13508
  let v8877 : BitVec 32 := Scalar.addi c0_i32_13509 v8876
  v8877.toNat
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Program.lean ====
/-
# The kernel's body as a loop over its hops

The printed body is one straight sequence of about two thousand memory operations: the handshake, the local
product, the four first sends, and sixty-two hops that differ only in their slots, devices and offsets. Here the
same sequence is written as a program over the hop number, the ring (`0` to the right, `1` to the left) and the
half of a chunk (`q`), and the printed body is that program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

set_option maxRecDepth 16384

noncomputable section

namespace Cert.AllReduce

open Idealize.ShloMosaic Idealize.ShloMosaic.TcCoe Idealize.SL.Sem
open Cert.KernelIdeal Cert.KernelIdeal.Gen

variable {F : FTy → Type} [FloatOps F]

/-- A kernel program that returns nothing. -/
abbrev Body (F : FTy → Type) [FloatOps F] := Prog (TpuEff nD τ sig (Elt F) Λ₀ .tc) PUnit

/-! ## The references -/

abbrev xM : Memref sig .tc .vmem S4096x128 .bf16 := Memref.whole cc0_stg0_0
abbrev wM : Memref sig .tc .vmem S128x2048 .bf16 := Memref.whole cc0_stg1_0
abbrev outM : Memref sig .tc .vmem S4096x2048 .f32 := Memref.whole cc0_stg2_0
abbrev workM : Memref sig .tc .vmem S4096x2048 .bf16 := Memref.whole cc0_scratch0

/-- Ring `d`'s landing buffer. -/
def commM : Fin 2 → Memref sig .tc .vmem S3x2x64x1024 .bf16
  | 0 => Memref.whole cc0_scratch1
  | 1 => Memref.whole cc0_scratch3
/-- Ring `d`'s staging buffer. -/
def stageM : Fin 2 → Memref sig .tc .vmem S3x2x64x1024 .bf16
  | 0 => Memref.whole cc0_scratch2
  | 1 => Memref.whole cc0_scratch4

theorem commM_whole : ∀ d, (commM d).IsWhole
  | 0 => Memref.isWhole_whole _
  | 1 => Memref.isWhole_whole _
theorem stageM_whole : ∀ d, (stageM d).IsWhole
  | 0 => Memref.isWhole_whole _
  | 1 => Memref.isWhole_whole _

def sendSems : Fin 2 → DmaSems sig S3x2
  | 0 => cc0_scratch5
  | 1 => cc0_scratch7
def recvSems : Fin 2 → DmaSems sig S3x2
  | 0 => cc0_scratch6
  | 1 => cc0_scratch8
def creditSem : Fin 2 → Sem sig
  | 0 => (cc0_scratch9 : Sems sig S_).sem
  | 1 => (cc0_scratch10 : Sems sig S_).sem
abbrev barSem : Sem sig := (SemArray.scalar (sig.barrier 0 rfl) : Sems sig S_).sem

/-! ## Slots -/

theorem slot_inb (s : Fin 3) (q : Fin 2) : ∀ a, (![s.val, q.val, 0, 0] : Fin 4 → Nat) a + S1x1x64x1024.size a ≤ S3x2x64x1024.size a := by
  revert s q; decide
theorem sem_inb (s : Fin 3) (q : Fin 2) : ∀ a, (![s.val, q.val] : Fin 2 → Nat) a + S1x1.size a ≤ S3x2.size a := by
  revert s q; decide

/-- The rectangle of slot `s`, half `q`, in a landing or staging buffer. -/
abbrev slotRect (s : Fin 3) (q : Fin 2) : Rect S3x2x64x1024 := Rect.unit (s := S3x2x64x1024) ![s.val, q.val, 0, 0] S1x1x64x1024.size (slot_inb s q)

theorem slot_packed (s : Fin 3) (q : Fin 2) : (slotRect s q).PackedRows (EltTy.packing .bf16) := by revert s q; decide
theorem slot_words (s : Fin 3) (q : Fin 2) : (slotRect s q).WholeWords (EltTy.packing .bf16) := by revert s q; decide

/-- Slot `s`, half `q`, of a landing or staging buffer, as a transfer's end. -/
abbrev slot (m : Memref sig .tc .vmem S3x2x64x1024 .bf16) (s : Fin 3) (q : Fin 2) : Memref sig .tc .vmem S64x1024 .bf16 :=
  (m.slice (slotRect s q) (fun _ => rfl)).squeeze S64x1024 squeezes_S1x1x64x1024_S64x1024

theorem slot_wordExact {m : Memref sig .tc .vmem S3x2x64x1024 .bf16} (hm : m.IsWhole) (s : Fin 3) (q : Fin 2) : (slot m s q).view.WordExact :=
  (hm.wordExact_slice rfl _ (slot_words s q)).reshape _ _

def semAt (a : DmaSems sig S3x2) (s : Fin 3) (q : Fin 2) : DmaSem sig :=
  ((a.slice (Rect.unit (s := S3x2) ![s.val, q.val] S1x1.size (sem_inb s q))).squeeze S_ squeezes_S1x1_S_).sem

/-- The slot transfer `j` uses. -/
def at3 (j : ℕ) : Fin 3 := ⟨j % 3, Nat.mod_lt _ (by decide)⟩

theorem comm_notScratch : ∀ (d : Fin 2) (s : Fin 3) (q : Fin 2), (slot (commM d) s q).view.ref.isScScratch = false
  | 0, _, _ => rfl
  | 1, _, _ => rfl

/-! ## Devices and chunks -/

/-- The device ring `d` sends to. -/
def dst : Fin 2 → Dev nD → Dev nD
  | 0, c => ⟨k0_dev2 c, k0_dev2_lt c⟩
  | 1, c => ⟨k0_dev1 c, k0_dev1_lt c⟩
/-- The device ring `d` receives from, and returns credits to. -/
def src : Fin 2 → Dev nD → Dev nD
  | 0, c => ⟨k0_dev1 c, k0_dev1_lt c⟩
  | 1, c => ⟨k0_dev2 c, k0_dev2_lt c⟩

/-- The half of a chunk as the kernel's arithmetic has it. -/
abbrev qw (q : Fin 2) : BitVec 32 := BitVec.ofNat 32 (64 * q.val)

/-- Device `c`'s own chunk in ring `d`'s columns. -/
def ownOff : Fin 2 → Dev nD → Fin 2 → Fin 2 → ℕ
  | 0, c, q => k0_off1 c (qw q)
  | 1, c, q => k0_off2 c (qw q)
theorem ownOff_inb : ∀ (d : Fin 2) (c : Dev nD) (q : Fin 2), ∀ a, ownOff d c q a + S64x1024.size a ≤ S4096x2048.size a
  | 0, c, q => k0_off1_inb c q
  | 1, c, q => k0_off2_inb c q
abbrev ownRect (d : Fin 2) (c : Dev nD) (q : Fin 2) : Rect S4096x2048 := Rect.unit (s := S4096x2048) (ownOff d c q) S64x1024.size (ownOff_inb d c q)

theorem mod31 (h : ℕ) : h % 31 < 31 := Nat.mod_lt _ (by decide)

/-- The chunk hop `h` receives, in ring `d`'s columns: while sums are accumulated (`h ≤ 30`), -/
def rsOff : Fin 2 → Dev nD → ℕ → Fin 2 → Fin 2 → ℕ
  | 0, c, h, q => k0_off3 c (BitVec.ofNat 32 (h % 31)) (qw q)
  | 1, c, h, q => k0_off4 c (BitVec.ofNat 32 (h % 31)) (qw q)
theorem rsOff_inb : ∀ (d : Fin 2) (c : Dev nD) (h : ℕ) (q : Fin 2), ∀ a, rsOff d c h q a + S64x1024.size a ≤ S4096x2048.size a
  | 0, c, h, q => k0_off3_inb c ⟨h % 31, mod31 h⟩ q
  | 1, c, h, q => k0_off4_inb c ⟨h % 31, mod31 h⟩ q
abbrev rsRect (d : Fin 2) (c : Dev nD) (h : ℕ) (q : Fin 2) : Rect S4096x2048 := Rect.unit (s := S4096x2048) (rsOff d c h q) S64x1024.size (rsOff_inb d c h q)
/-- and while full sums are passed on (`31 ≤ h`). -/
def agOff : Fin 2 → Dev nD → ℕ → Fin 2 → Fin 2 → ℕ
  | 0, c, h, q => k0_off5 c (BitVec.ofNat 32 (31 + h % 31)) (qw q)
  | 1, c, h, q => k0_off6 c (BitVec.ofNat 32 (31 + h % 31)) (qw q)
theorem agOff_inb : ∀ (d : Fin 2) (c : Dev nD) (h : ℕ) (q : Fin 2), ∀ a, agOff d c h q a + S64x1024.size a ≤ S4096x2048.size a
  | 0, c, h, q => k0_off5_inb c ⟨h % 31, mod31 h⟩ q
  | 1, c, h, q => k0_off6_inb c ⟨h % 31, mod31 h⟩ q
abbrev agRect (d : Fin 2) (c : Dev nD) (h : ℕ) (q : Fin 2) : Rect S4096x2048 := Rect.unit (s := S4096x2048) (agOff d c h q) S64x1024.size (agOff_inb d c h q)

/-! ## The operations -/

abbrev loadBlk (r : Rect S4096x2048) (hr : 0 < r.shape.numel) : Prog (TpuEff nD τ sig (Elt F) Λ₀ .tc) (Vec F r.shape .bf16) :=
  Prog.lift (.load workM r.toLoadRect (View.loadsAt_vmem hr))

abbrev loadSlot (m : Memref sig .tc .vmem S3x2x64x1024 .bf16) (s : Fin 3) (q : Fin 2) : Prog (TpuEff nD τ sig (Elt F) Λ₀ .tc) (Vec F S1x1x64x1024 .bf16) :=
  Prog.lift (.load m (slotRect s q).toLoadRect (View.loadsAt_vmem h_S1x1x64x1024))

abbrev storeSlot (m : Memref sig .tc .vmem S3x2x64x1024 .bf16) (hm : m.IsWhole) (s : Fin 3) (q : Fin 2) (v : Vec F S1x1x64x1024 .bf16) : Body F :=
  Prog.lift (.store m (slotRect s q) v Finset.univ (View.stores_vmem h_S1x1x64x1024 (hm.storeExact_slice rfl _ (slot_packed s q)) (fun _ => rfl)) (.inl rfl))

abbrev storeOut (r : Rect S4096x2048) (hr : 0 < r.shape.numel) (v : Vec F r.shape .f32) : Body F :=
  Prog.lift (.store outM r v Finset.univ (View.stores_vmem_bits_univ hr rfl) (.inl rfl))

/-- Start transfer `j` of ring `d`, half `q`, out of `m`. -/
abbrev send (c : Dev nD) (d : Fin 2) (j : ℕ) (q : Fin 2) (m : Memref sig .tc .vmem S64x1024 .bf16) (hm : m.view.WordExact) (hty : True) : Body F :=
  Prog.lift (.enqueueDma m (.remote (Dev.tc (dst d c)) (slot (commM d) (at3 j) q) (.dma (semAt (sendSems d) (at3 j) q)) (comm_notScratch d _ q))
    (.dma (semAt (recvSems d) (at3 j) q)) hm (slot_wordExact (commM_whole d) _ q) ⟨⟨rfl, Or.inl rfl⟩, trivial⟩)

/-- Where transfer `j` of ring `d` is sent out of: the staging buffer while sums are accumulated, then the landing buffer. -/
def sendSrc (d : Fin 2) (j : ℕ) (q : Fin 2) : Memref sig .tc .vmem S64x1024 .bf16 :=
  if j ≤ 31 then slot (stageM d) (at3 j) q else slot (commM d) (at3 (j - 1)) q
theorem sendSrc_wordExact (d : Fin 2) (j : ℕ) (q : Fin 2) : (sendSrc d j q).view.WordExact := by
  unfold sendSrc; split
  · exact slot_wordExact (stageM_whole d) _ q
  · exact slot_wordExact (commM_whole d) _ q

abbrev waitRecv (d : Fin 2) (j : ℕ) (q : Fin 2) : Body F :=
  Prog.lift (.waitDma2 (semAt (recvSems d) (at3 j) q) (slot (stageM d) 0 0) (slot (commM d) (at3 j) q)
    (slot_wordExact (stageM_whole d) _ _) (slot_wordExact (commM_whole d) _ q))
abbrev waitSend (d : Fin 2) (j : ℕ) (q : Fin 2) : Body F :=
  Prog.lift (.waitDma2 (semAt (sendSems d) (at3 j) q) (slot (commM d) (at3 j) q) (sendSrc d j q)
    (slot_wordExact (commM_whole d) _ q) (sendSrc_wordExact d j q))

/-- The first transfer of ring `d`, half `q`: device `c`'s own chunk, staged and sent. -/
def first (c : Dev nD) (d q : Fin 2) : Body F := do
  let v ← loadBlk (ownRect d c q) h_S64x1024
  let _ ← loadSlot (stageM d) 0 q
  storeSlot (stageM d) (stageM_whole d) 0 q (k0_pay2 v)
  send c d 0 q (sendSrc d 0 q) (sendSrc_wordExact d 0 q) trivial

/-- Receive at hop `h`, and (but at the last hop) send on: the sum with the device's own product, or the full sum as it came. -/
def relay (c : Dev nD) (h : ℕ) (d q : Fin 2) : Body F := do
  waitRecv d h q
  if h < 61 then do
    (if h ≤ 30 then do
      let v ← loadBlk (rsRect d c h q) h_S64x1024
      let w ← loadSlot (commM d) (at3 h) q
      let _ ← loadSlot (stageM d) (at3 (h + 1)) q
      storeSlot (stageM d) (stageM_whole d) (at3 (h + 1)) q (k0_pay6 v w)
    else pure ⟨⟩)
    send c d (h + 1) q (sendSrc d (h + 1) q) (sendSrc_wordExact d (h + 1) q) trivial
  else pure ⟨⟩

/-- Write out the chunk hop `h` completes, if it completes one. -/
def output (c : Dev nD) (h : ℕ) (d q : Fin 2) : Body F :=
  if h < 30 then pure ⟨⟩
  else if h = 30 then do
    let w ← loadSlot (stageM d) (at3 (h + 1)) q
    let _ ← (Prog.lift (.load outM (rsRect d c h q).toLoadRect (View.loadsAt_vmem h_S64x1024)) : Prog (TpuEff nD τ sig (Elt F) Λ₀ .tc) (Vec F S64x1024 .f32))
    storeOut (rsRect d c h q) h_S64x1024 (k0_pay146 w)
  else do
    let w ← loadSlot (commM d) (at3 h) q
    let _ ← (Prog.lift (.load outM (agRect d c h q).toLoadRect (View.loadsAt_vmem h_S64x1024)) : Prog (TpuEff nD τ sig (Elt F) Λ₀ .tc) (Vec F S64x1024 .f32))
    storeOut (agRect d c h q) h_S64x1024 (k0_pay146 w)

/-- Once per ring and half, in the kernel's order. -/
def lanes (f : Fin 2 → Fin 2 → Body F) : Body F := do
  f 0 0; f 0 1; f 1 0; f 1 1

/-- Hop `h`. -/
def hop (c : Dev nD) (h : ℕ) : Body F := do
  (if 2 ≤ h then do
    semWaitWord (creditSem 0) 1#32
    semWaitWord (creditSem 1) 1#32
  else pure ⟨⟩)
  lanes (relay c h)
  lanes (output c h)
  lanes (fun d q => waitSend d h q)
  (if 1 ≤ h then do
    semSignalWord (src 0 c) (creditSem 0) 1#32
    semSignalWord (src 1 c) (creditSem 1) 1#32
  else pure ⟨⟩)

/-- `n` hops from hop `h` on. -/
def hops (c : Dev nD) : ℕ → ℕ → Body F
  | 0, _ => pure ⟨⟩
  | n + 1, h => do hop c h; hops c n (h + 1)

/-- What the kernel does once it knows its device. -/
def ring (c : Dev nD) : Body F := do
  semSignalWord (src 0 c) barSem 1#32
  semSignalWord (src 1 c) barSem 1#32
  semWaitWord barSem 2#32
  let x : Vec F S4096x128 .bf16 ← Prog.lift (.load xM (Rect.unit (s := S4096x128) ![0, 0] S4096x128.size inb_S4096x128_S4096x128_0_0).toLoadRect (View.loadsAt_vmem h_S4096x128))
  let w : Vec F S128x2048 .bf16 ← Prog.lift (.load wM (Rect.unit (s := S128x2048) ![0, 0] S128x2048.size inb_S128x2048_S128x2048_0_0).toLoadRect (View.loadsAt_vmem h_S128x2048))
  let _ : Vec F S4096x2048 .bf16 ← Prog.lift (.load workM (Rect.unit (s := S4096x2048) ![0, 0] S4096x2048.size inb_S4096x2048_S4096x2048_0_0).toLoadRect (View.loadsAt_vmem h_S4096x2048))
  Prog.lift (.store workM (Rect.unit (s := S4096x2048) ![0, 0] S4096x2048.size inb_S4096x2048_S4096x2048_0_0) (k0_pay1 x w) Finset.univ (View.stores_vmem h_S4096x2048 ((Memref.isWhole_whole _).storeExact_slice rfl _ packedbf16_S4096x2048_S4096x2048_0_0) (fun _ => rfl)) (.inl rfl))
  lanes (first c)
  hops c 62 0
  semWaitWord (creditSem 0) 1#32
  semWaitWord (creditSem 1) 1#32

set_option maxHeartbeats 0 in
theorem body_eq : (bodyAt0 t0_0 : Body F) = (Prog.lift .deviceId >>= fun c => ring c) := by
  chain_rfl

end Cert.AllReduce

end
-- ==== Proof.Protocol.lean ====
/-
# The protocol of the two rings

Between two neighbours the kernel runs the same exchange four times over: for each ring (`d`: `0` to the right, `1`
to the left) and each half of a chunk (`q`), sixty-two transfers into the three slots of the receiver's landing
buffer, the transfer `j` into slot `j % 3` on the slot's own semaphore. The receiver tells the sender that slots are
free again: on entering (the barrier), and by one credit per hop and ring. This file says what each of those signals
and transfers hands over, what each device owes at launch, and in which order the semaphores are waited for.
-/
module

public import proofs.«01_k».proof.Proof.Program
public import Idealize.ShloMosaic.Lib.Rounds
public import Idealize.ShloMosaic.Lib.Rounds.Family
public import Idealize.ShloMosaic.Lib.Release
public import Idealize.ShloMosaic.Lib.Tactic

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- A slot of a landing buffer: its device, ring, slot and half. -/
abbrev Key : Type := Dev nD × Fin 2 × Fin 3 × Fin 2
abbrev UB : Type := URounds (GSem nD τ sig) ℕ
abbrev US : Type := Release.USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

/-! ## The semaphores -/

/-- A device's semaphores: the barrier, the two rings' credits, the sends' and the arrivals'. -/
abbrev Kind : Type := Unit ⊕ Fin 2 ⊕ (Fin 2 × Fin 3 × Fin 2) ⊕ (Fin 2 × Fin 3 × Fin 2)

def csem : Kind → SemLoc sig
  | .inl _ => .reg barSem
  | .inr (.inl d) => .reg (creditSem d)
  | .inr (.inr (.inl (d, s, q))) => .dma (semAt (sendSems d) s q)
  | .inr (.inr (.inr (d, s, q))) => .dma (semAt (recvSems d) s q)

theorem csem_injective : Function.Injective csem := by decide +kernel

/-- Which of them a semaphore is. -/
def kindOf (sm : SemLoc sig) : Option Kind := Function.partialInv csem sm

theorem kindOf_csem (k : Kind) : kindOf (csem k) = some k := Function.partialInv_left csem_injective k

abbrev barCell (c : Dev nD) : GSem nD τ sig := ((c : Thread nD τ), .reg barSem)
abbrev creditCell (c : Dev nD) (d : Fin 2) : GSem nD τ sig := ((c : Thread nD τ), .reg (creditSem d))
abbrev sendCell (c : Dev nD) (d : Fin 2) (j : ℕ) (q : Fin 2) : GSem nD τ sig := ((c : Thread nD τ), .dma (semAt (sendSems d) (at3 j) q))
abbrev recvCell (c : Dev nD) (d : Fin 2) (j : ℕ) (q : Fin 2) : GSem nD τ sig := ((c : Thread nD τ), .dma (semAt (recvSems d) (at3 j) q))
abbrev kcell (ck : Dev nD × Kind) : GSem nD τ sig := ((ck.1 : Thread nD τ), csem ck.2)

theorem kind_bar : kindOf (SemLoc.reg barSem) = some (.inl ()) := kindOf_csem (.inl ())
theorem kind_credit (d : Fin 2) : kindOf (SemLoc.reg (creditSem d)) = some (.inr (.inl d)) := kindOf_csem (.inr (.inl d))
theorem kind_send (d : Fin 2) (s : Fin 3) (q : Fin 2) : kindOf (SemLoc.dma (semAt (sendSems d) s q)) = some (.inr (.inr (.inl (d, s, q)))) :=
  kindOf_csem (.inr (.inr (.inl (d, s, q))))
theorem kind_recv (d : Fin 2) (s : Fin 3) (q : Fin 2) : kindOf (SemLoc.dma (semAt (recvSems d) s q)) = some (.inr (.inr (.inr (d, s, q)))) :=
  kindOf_csem (.inr (.inr (.inr (d, s, q))))

/-! ## The devices around a ring -/

theorem src_dst (d : Fin 2) (c : Dev nD) : src d (dst d c) = c := by revert d c; decide +kernel
theorem dst_src (d : Fin 2) (c : Dev nD) : dst d (src d c) = c := by revert d c; decide +kernel

/-- Ring `d` as a permutation of the devices. -/
def around (d : Fin 2) : Dev nD ≃ Dev nD := ⟨dst d, src d, src_dst d, dst_src d⟩

/-! ## Contents -/

/-- The device's product, what `r` of it reads. -/
abbrev blk (r : Rect S4096x2048) (f : (cc0_scratch0 : Ref sig .tc).ty.Contents (Elt F)) : Vec F r.shape .bf16 :=
  workM.view.readAt (Elt F) r.toLoadRect f

/-- The products, one per device. -/
abbrev Works (F : FTy → Type) := Dev nD → (cc0_scratch0 : Ref sig .tc).ty.Contents (Elt F)

/-- What device `c` sends in transfer `j` of ring `d`, half `q`. -/
def snt (Wk : Works F) (d q : Fin 2) : ℕ → Dev nD → Vec F S1x1x64x1024 .bf16
  | 0, c => k0_pay2 (blk (ownRect d c q) (Wk c))
  | j + 1, c => if j ≤ 30 then k0_pay6 (blk (rsRect d c j q) (Wk c)) (snt Wk d q j (src d c)) else snt Wk d q j (src d c)

theorem snt_rs (Wk : Works F) (d q : Fin 2) (j : ℕ) (h : j ≤ 30) (c : Dev nD) :
    snt Wk d q (j + 1) c = k0_pay6 (blk (rsRect d c j q) (Wk c)) (snt Wk d q j (src d c)) := by rw [snt, if_pos h]
theorem snt_ag (Wk : Works F) (d q : Fin 2) (j : ℕ) (h : ¬ j ≤ 30) (c : Dev nD) :
    snt Wk d q (j + 1) c = snt Wk d q j (src d c) := by rw [snt, if_neg h]

/-- Slot `s`, half `q`, of a landing or staging buffer, as loads and stores see it. -/
abbrev slotV (m : Memref sig .tc .vmem S3x2x64x1024 .bf16) (s : Fin 3) (q : Fin 2) : View sig .tc .vmem S1x1x64x1024 .bf16 :=
  m.access (slotRect s q)

/-- A share `sh` of the slot of device `c`, holding `v`. -/
def held (m : Memref sig .tc .vmem S3x2x64x1024 .bf16) (s : Fin 3) (q : Fin 2) (c : Dev nD) (sh : PosShare TreeShare)
    (v : Vec F S1x1x64x1024 .bf16) : sProp 𝕄 :=
  (slotV m s q).loc (c : Thread nD τ) ↦[(slotV m s q).set]{sh} (slotV m s q).rep v

/-- The whole slot of device `c`, holding anything. -/
def free (m : Memref sig .tc .vmem S3x2x64x1024 .bf16) (s : Fin 3) (q : Fin 2) (c : Dev nD) : sProp 𝕄 :=
  Release.slot ((slotV m s q).loc (c : Thread nD τ)) (slotV m s q).set

instance held_storable (m : Memref sig .tc .vmem S3x2x64x1024 .bf16) (s : Fin 3) (q : Fin 2) (c : Dev nD) (sh : PosShare TreeShare)
    (v : Vec F S1x1x64x1024 .bf16) : BI.Storable (upEmb : UEmb _ 𝕄) (held (F := F) m s q c sh v) := by unfold held; infer_instance
instance free_storable (m : Memref sig .tc .vmem S3x2x64x1024 .bf16) (s : Fin 3) (q : Fin 2) (c : Dev nD) :
    BI.Storable (upEmb : UEmb _ 𝕄) (free (F := F) m s q c) := by unfold free; infer_instance

/-- The buffer transfer `j` leaves from and the slot in it. -/
def srcM (d : Fin 2) (j : ℕ) : Memref sig .tc .vmem S3x2x64x1024 .bf16 := if j ≤ 31 then stageM d else commM d
def srcS (j : ℕ) : Fin 3 := if j ≤ 31 then at3 j else at3 (j - 1)

theorem sendSrc_eq (d : Fin 2) (j : ℕ) (q : Fin 2) : sendSrc d j q = slot (srcM d j) (srcS j) q := by
  unfold sendSrc srcM srcS; split <;> rfl

/-! ## What is handed over -/

/-- A receiver's readiness for transfer `j`: the slot has been given back for it, and the semaphore is at its round. -/
def ready (c : Dev nD) (d q : Fin 2) (j : ℕ) : sProp 𝕄 :=
  iprop(Release.released ES (c, d, at3 j, q) (j / 3 + 1) ∗ reached ER (recvCell c d j q) (j / 3))

instance ready_persistent (c : Dev nD) (d q : Fin 2) (j : ℕ) : BI.Persistent (ready (F := F) c d q j) := by unfold ready; infer_instance
instance ready_storable (c : Dev nD) (d q : Fin 2) (j : ℕ) : BI.Storable (upEmb : UEmb _ 𝕄) (ready (F := F) c d q j) := by unfold ready; infer_instance

/-- Readiness for the first `n` transfers, in half `q`, and in both halves. -/
def readyQ (c : Dev nD) (d q : Fin 2) (n : ℕ) : sProp 𝕄 := bigSep (Finset.range n) fun j => ready c d q j
def readyTo (c : Dev nD) (d : Fin 2) (n : ℕ) : sProp 𝕄 := iprop(readyQ c d 0 n ∗ readyQ c d 1 n)

instance readyQ_persistent (c : Dev nD) (d q : Fin 2) (n : ℕ) : BI.Persistent (readyQ (F := F) c d q n) := by unfold readyQ; infer_instance
instance readyQ_storable (c : Dev nD) (d q : Fin 2) (n : ℕ) : BI.Storable (upEmb : UEmb _ 𝕄) (readyQ (F := F) c d q n) := by unfold readyQ; infer_instance
instance readyTo_persistent (c : Dev nD) (d : Fin 2) (n : ℕ) : BI.Persistent (readyTo (F := F) c d n) := by unfold readyTo; infer_instance
instance readyTo_storable (c : Dev nD) (d : Fin 2) (n : ℕ) : BI.Storable (upEmb : UEmb _ 𝕄) (readyTo (F := F) c d n) := by unfold readyTo; infer_instance

/-- The right half of a share is lent to a transfer; the left half stays with the device. -/
abbrev lent : PosShare TreeShare := (fullShare : PosShare TreeShare).right
abbrev kept : PosShare TreeShare := (fullShare : PosShare TreeShare).left

/-- The ring a barrier duty is about. -/
def ringOf (i : ℕ) : Fin 2 := ⟨i % 2, Nat.mod_lt _ (by decide)⟩

/-- The units of one transfer. -/
def N : ℕ := (slot (commM 0) 0 0).view.dmaCredit
theorem N_pos : 0 < N := View.dmaCredit_pos _ (by decide)
theorem credit_eq (m : Memref sig .tc .vmem S3x2x64x1024 .bf16) (s : Fin 3) (q : Fin 2) : (slot m s q).view.dmaCredit = N := rfl

/-! ## The schedule -/

def roundDuties (r : ℕ) : Option Kind → Finset ℕ
  | none => ∅
  | some (.inl _) => if r = 0 then Finset.range 2 else ∅
  | some (.inr (.inl _)) => if r = 0 then Finset.Ico 1 62 else ∅
  | some (.inr (.inr (.inl (_, s, _)))) => if 3 * r + s.val < 62 then {0} else ∅
  | some (.inr (.inr (.inr (_, s, _)))) => if 3 * r + s.val < 62 then {0} else ∅

def dutyAmount : Option Kind → ℕ
  | some (.inr (.inr _)) => N
  | _ => 1

/-- The barrier's duty `i` and a credit tell a sender how far the receiver is ready; a send's duty returns the half
    share it was lent; an arrival brings the slot with what was sent. -/
def pay (Wk : Works F) (c : Dev nD) (r i : ℕ) : Option Kind → sProp 𝕄
  | none => iprop(emp)
  | some (.inl _) => readyTo (dst (ringOf i) c) (ringOf i) 3
  | some (.inr (.inl d)) => readyTo (dst d c) d (min (i + 3) 62)
  | some (.inr (.inr (.inl (d, s, q)))) => held (srcM d (3 * r + s.val)) (srcS (3 * r + s.val)) q c lent (snt Wk d q (3 * r + s.val) c)
  | some (.inr (.inr (.inr (d, s, q)))) => held (commM d) s q c fullShare (snt Wk d q (3 * r + s.val) (src d c))

instance pay_storable (Wk : Works F) (c : Dev nD) (r i : ℕ) (k : Option Kind) : BI.Storable (upEmb : UEmb _ 𝕄) (pay (F := F) Wk c r i k) := by
  unfold pay; split <;> infer_instance

def Rd (Wk : Works F) : Rounds.Schedule (GSem nD τ sig) ℕ 𝕄 where
  duties g r := roundDuties r (kindOf g.2)
  unitless _ := False
  amount g _ _ := dutyAmount (kindOf g.2)
  payload g r i := pay Wk g.1.1 r i (kindOf g.2)
  amount_pos g _ _ _ := by
    unfold dutyAmount; split
    · exact N_pos
    · exact Nat.one_pos

instance Rd_storable (Wk : Works F) (g : GSem nD τ sig) (r i : ℕ) : BI.Storable (upEmb : UEmb _ 𝕄) ((Rd (F := F) Wk).payload g r i) := by
  show BI.Storable upEmb (pay Wk g.1.1 r i (kindOf g.2)); infer_instance

section Schedule
variable (Wk : Works F) (c : Dev nD) (d q : Fin 2) (j : ℕ)

theorem div3 : 3 * (j / 3) + (at3 j).val = j := by unfold at3; simp only; omega

theorem duties_bar : (Rd Wk).duties (barCell c) 0 = Finset.range 2 := by
  show roundDuties 0 (kindOf (SemLoc.reg barSem)) = _; rw [kind_bar]; rfl
theorem duties_credit : (Rd Wk).duties (creditCell c d) 0 = Finset.Ico 1 62 := by
  show roundDuties 0 (kindOf (SemLoc.reg (creditSem d))) = _; rw [kind_credit]; rfl
theorem duties_send (h : j < 62) : (Rd Wk).duties (sendCell c d j q) (j / 3) = {0} := by
  show roundDuties (j / 3) (kindOf (SemLoc.dma (semAt (sendSems d) (at3 j) q))) = _; rw [kind_send]
  show (if 3 * (j / 3) + (at3 j).val < 62 then ({0} : Finset ℕ) else ∅) = _; rw [div3, if_pos h]
theorem duties_recv (h : j < 62) : (Rd Wk).duties (recvCell c d j q) (j / 3) = {0} := by
  show roundDuties (j / 3) (kindOf (SemLoc.dma (semAt (recvSems d) (at3 j) q))) = _; rw [kind_recv]
  show (if 3 * (j / 3) + (at3 j).val < 62 then ({0} : Finset ℕ) else ∅) = _; rw [div3, if_pos h]

theorem amount_bar (r i : ℕ) : (Rd Wk).amount (barCell c) r i = 1 := by
  show dutyAmount (kindOf (SemLoc.reg barSem)) = _; rw [kind_bar]; rfl
theorem amount_credit (r i : ℕ) : (Rd Wk).amount (creditCell c d) r i = 1 := by
  show dutyAmount (kindOf (SemLoc.reg (creditSem d))) = _; rw [kind_credit]; rfl
theorem amount_send (r i : ℕ) : (Rd Wk).amount (sendCell c d j q) r i = N := by
  show dutyAmount (kindOf (SemLoc.dma (semAt (sendSems d) (at3 j) q))) = _; rw [kind_send]; rfl
theorem amount_recv (r i : ℕ) : (Rd Wk).amount (recvCell c d j q) r i = N := by
  show dutyAmount (kindOf (SemLoc.dma (semAt (recvSems d) (at3 j) q))) = _; rw [kind_recv]; rfl

theorem expect_bar : (Rd Wk).expect (barCell c) 0 = 2 := by
  unfold Schedule.expect Schedule.amountOf
  rw [duties_bar, Finset.sum_congr rfl fun i _ => amount_bar Wk c 0 i, Finset.sum_const, Finset.card_range, smul_eq_mul]
theorem expect_credit : (Rd Wk).expect (creditCell c d) 0 = 61 := by
  unfold Schedule.expect Schedule.amountOf
  rw [duties_credit, Finset.sum_congr rfl fun i _ => amount_credit Wk c d 0 i, Finset.sum_const, Nat.card_Ico, smul_eq_mul]
theorem expect_send (h : j < 62) : (Rd Wk).expect (sendCell c d j q) (j / 3) = N := by
  unfold Schedule.expect Schedule.amountOf; rw [duties_send _ _ _ _ _ h, Finset.sum_singleton, amount_send]
theorem expect_recv (h : j < 62) : (Rd Wk).expect (recvCell c d j q) (j / 3) = N := by
  unfold Schedule.expect Schedule.amountOf; rw [duties_recv _ _ _ _ _ h, Finset.sum_singleton, amount_recv]

theorem payload_bar (i : ℕ) : (Rd Wk).payload (barCell c) 0 i = readyTo (dst (ringOf i) c) (ringOf i) 3 := by
  show pay Wk c 0 i (kindOf (SemLoc.reg barSem)) = _; rw [kind_bar]; rfl
theorem payload_credit (i : ℕ) : (Rd Wk).payload (creditCell c d) 0 i = readyTo (dst d c) d (min (i + 3) 62) := by
  show pay Wk c 0 i (kindOf (SemLoc.reg (creditSem d))) = _; rw [kind_credit]; rfl
theorem payload_send (i : ℕ) : (Rd Wk).payload (sendCell c d j q) (j / 3) i = held (srcM d j) (srcS j) q c lent (snt Wk d q j c) := by
  show pay Wk c (j / 3) i (kindOf (SemLoc.dma (semAt (sendSems d) (at3 j) q))) = _; rw [kind_send]
  show held (srcM d (3 * (j / 3) + (at3 j).val)) (srcS (3 * (j / 3) + (at3 j).val)) q c lent (snt Wk d q (3 * (j / 3) + (at3 j).val) c) = _
  rw [div3]
theorem payload_recv (i : ℕ) : (Rd Wk).payload (recvCell c d j q) (j / 3) i = held (commM d) (at3 j) q c fullShare (snt Wk d q j (src d c)) := by
  show pay Wk c (j / 3) i (kindOf (SemLoc.dma (semAt (recvSems d) (at3 j) q))) = _; rw [kind_recv]
  show held (commM d) (at3 j) q c fullShare (snt Wk d q (3 * (j / 3) + (at3 j).val) (src d c)) = _
  rw [div3]

/-- No duty is left from the round a cell ends at. -/
theorem duties_bar_later (r : ℕ) (h : 1 ≤ r) : (Rd Wk).duties (barCell c) r = ∅ := by
  show roundDuties r (kindOf (SemLoc.reg barSem)) = _; rw [kind_bar]; exact if_neg (by omega)
theorem duties_credit_later (r : ℕ) (h : 1 ≤ r) : (Rd Wk).duties (creditCell c d) r = ∅ := by
  show roundDuties r (kindOf (SemLoc.reg (creditSem d))) = _; rw [kind_credit]; exact if_neg (by omega)
theorem duties_send_later (hj : 62 ≤ j) (r : ℕ) (h : j / 3 ≤ r) : (Rd Wk).duties (sendCell c d j q) r = ∅ := by
  show roundDuties r (kindOf (SemLoc.dma (semAt (sendSems d) (at3 j) q))) = _; rw [kind_send]
  exact if_neg (by have := div3 j; omega)
theorem duties_recv_later (hj : 62 ≤ j) (r : ℕ) (h : j / 3 ≤ r) : (Rd Wk).duties (recvCell c d j q) r = ∅ := by
  show roundDuties r (kindOf (SemLoc.dma (semAt (recvSems d) (at3 j) q))) = _; rw [kind_recv]
  exact if_neg (by have := div3 j; omega)

end Schedule

/-! ## What is owed, and in which order it is waited for -/

/-- The index of every wait and every unit owed: the transfer or the credit it belongs to. -/
def L (g : GSem nD τ sig) : Finset ℕ := if g.1.2 = .tc then Finset.range 64 else ∅

def level (i : ℕ) : Option Kind → ℕ
  | some (.inl _) => 1
  | some (.inr (.inl _)) => 3 * i + 5
  | some (.inr (.inr (.inr _))) => 3 * i + 3
  | _ => 0

/-- The barrier first; then arrival `0`; from then on arrival `j`, at `3 j + 3`, before credit `j`, at `3 j + 5`. -/
def lv (g : GSem nD τ sig) (i : ℕ) : ℕ := level i (kindOf g.2)

theorem L_of_ne (g : GSem nD τ sig) (h : g.1.2 ≠ .tc) : L g = ∅ := if_neg h
theorem L_tc (c : Dev nD) (sm : SemLoc sig) : L ((c : Thread nD τ), sm) = Finset.range 64 := if_pos rfl

/-- Everything owed in `O` is waited for above level `n`. -/
def Above (n : ℕ) (O : CellTallies nD τ sig ℕ) : Prop := ∀ g u, 0 < O g u → u ∈ L g ∧ n < lv g u

theorem Above.zero (n : ℕ) : Above n 0 := fun g u h => absurd h (Nat.lt_irrefl 0)
theorem Above.add {n : ℕ} {O O' : CellTallies nD τ sig ℕ} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.sum {n : ℕ} {α : Type} (s : Finset α) (O : α → CellTallies nD τ sig ℕ) (h : ∀ a ∈ s, Above n (O a)) : Above n (∑ a ∈ s, O a) := by
  classical
  induction s using Finset.induction_on with
  | empty => rw [Finset.sum_empty]; exact Above.zero n
  | insert a s ha ih =>
    rw [Finset.sum_insert ha]
    exact (h a (Finset.mem_insert_self a s)).add (ih fun b hb => h b (Finset.mem_insert_of_mem hb))
theorem Above.tally {n : ℕ} (c : Dev nD) (sm : SemLoc sig) (i k : ℕ) (hi : i < 64) (h : n < lv ((c : Thread nD τ), sm) i) :
    Above n (tallyAt ((c : Thread nD τ), sm) i k) := fun g u hp => by
  rw [tallyAt_apply] at hp
  by_cases hg : g = ((c : Thread nD τ), sm) ∧ u = i
  · rw [hg.1, hg.2, L_tc]; exact ⟨Finset.mem_range.mpr hi, h⟩
  · rw [if_neg hg] at hp; exact absurd hp (Nat.lt_irrefl 0)
theorem Above.mono {n m : ℕ} (h : m ≤ n) {O : CellTallies nD τ sig ℕ} (hO : Above n O) : Above m O :=
  fun g u hp => ⟨(hO g u hp).1, lt_of_le_of_lt h (hO g u hp).2⟩

theorem lv_bar (c : Dev nD) (i : ℕ) : lv (barCell c) i = 1 := by unfold lv; rw [kind_bar]; rfl
theorem lv_credit (c : Dev nD) (d : Fin 2) (i : ℕ) : lv (creditCell c d) i = 3 * i + 5 := by unfold lv; rw [kind_credit]; rfl
theorem lv_send (c : Dev nD) (d q : Fin 2) (j i : ℕ) : lv (sendCell c d j q) i = 0 := by unfold lv; rw [kind_send]; rfl
theorem lv_recv (c : Dev nD) (d q : Fin 2) (j i : ℕ) : lv (recvCell c d j q) i = 3 * i + 3 := by unfold lv; rw [kind_recv]; rfl

/-- A wait at level `n`, everything owed being above it, may be made. -/
theorem may_wait (c : Dev nD) (sm : SemLoc sig) (i n : ℕ) (hi : i < 64) (h : lv ((c : Thread nD τ), sm) i = n) (O : CellTallies nD τ sig ℕ)
    (hO : Above n O) : (levAts L lv : sProp 𝕄) ⊢ MayWait (c : Thread nD τ) sm i O :=
  MayOwe.of_cut (L := L) (lev := lv) n
    (fun p hp => by rw [Finset.mem_singleton.mp hp, L_tc]; exact Finset.mem_range.mpr hi)
    (fun g u hg => (hO g u hg).1)
    (fun p hp => by rw [Finset.mem_singleton.mp hp, h])
    (fun g u hg => (hO g u hg).2)

/-- What device `c` owes on account of the transfers from `j` on, in ring `d`, half `q`, -/
def oweT (c : Dev nD) (d q : Fin 2) (j : ℕ) : CellTallies nD τ sig ℕ := ∑ i ∈ Finset.Ico j 62, tallyAt (recvCell (dst d c) d i q) i N
/-- and on account of ring `d`'s credits from `k` on. -/
def oweC (c : Dev nD) (d : Fin 2) (k : ℕ) : CellTallies nD τ sig ℕ := ∑ i ∈ Finset.Ico k 62, tallyAt (creditCell (src d c) d) i 1

theorem Ico_bot {a b : ℕ} (h : a < b) : Finset.Ico a b = insert a (Finset.Ico (a + 1) b) := by
  ext x; simp only [Finset.mem_Ico, Finset.mem_insert]; omega

theorem oweT_succ (c : Dev nD) (d q : Fin 2) (j : ℕ) (h : j < 62) : oweT c d q j = oweT c d q (j + 1) + tallyAt (recvCell (dst d c) d j q) j N := by
  unfold oweT; rw [Ico_bot h, Finset.sum_insert (by rw [Finset.mem_Ico]; omega), add_comm]
theorem oweC_succ (c : Dev nD) (d : Fin 2) (k : ℕ) (h : k < 62) : oweC c d k = oweC c d (k + 1) + tallyAt (creditCell (src d c) d) k 1 := by
  unfold oweC; rw [Ico_bot h, Finset.sum_insert (by rw [Finset.mem_Ico]; omega), add_comm]
theorem oweT_end (c : Dev nD) (d q : Fin 2) (j : ℕ) (h : 62 ≤ j) : oweT c d q j = 0 := by unfold oweT; rw [Finset.Ico_eq_empty (by omega), Finset.sum_empty]
theorem oweC_end (c : Dev nD) (d : Fin 2) (k : ℕ) (h : 62 ≤ k) : oweC c d k = 0 := by unfold oweC; rw [Finset.Ico_eq_empty (by omega), Finset.sum_empty]

theorem oweT_above (c : Dev nD) (d q : Fin 2) (j n : ℕ) (h : n < 3 * j + 3) : Above n (oweT c d q j) :=
  Above.sum _ _ fun i hi => Above.tally _ _ _ _ (by have := Finset.mem_Ico.mp hi; omega) (by rw [lv_recv]; have := Finset.mem_Ico.mp hi; omega)
theorem oweC_above (c : Dev nD) (d : Fin 2) (k n : ℕ) (h : n < 3 * k + 5) : Above n (oweC c d k) :=
  Above.sum _ _ fun i hi => Above.tally _ _ _ _ (by have := Finset.mem_Ico.mp hi; omega) (by rw [lv_credit]; have := Finset.mem_Ico.mp hi; omega)

end Cert.AllReduce

end
-- ==== Proof.Slots.lean ====
/-
# The memory operations of one lane

What each operation of the kernel does to a slot, to the device's product and to the semaphores, in the terms of the
protocol: a slot is held at a value, or free.
-/
module

public import proofs.«01_k».proof.Proof.Protocol

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

/-- Device `c` runs `p` and ends with `K`. -/
abbrev runs (c : Dev nD) {α : Type} (p : Prog (TpuEff nD τ sig (Elt F) Λ₀ .tc) α) (K : α → sProp 𝕄) : sProp 𝕄 :=
  wp frame (wpE (defs₀ (F := F)) 𝒱₀ (c : Thread nD τ) none) Set.univ p K

/-! ## Slots -/

section Slots
variable (m : Memref sig .tc .vmem S3x2x64x1024 .bf16) (s : Fin 3) (q : Fin 2) (c : Dev nD)

/-- A slot holding contents that read `v` holds `v`. -/
theorem held_of_read (sh : PosShare TreeShare) (v : Vec F S1x1x64x1024 .bf16) (g : Buf (Elt F) ((slotV m s q).loc (c : Thread nD τ)))
    (h : (slotV m s q).read (Elt F) g = v) :
    ((slotV m s q).loc (c : Thread nD τ) ↦[(slotV m s q).set]{sh} g : sProp 𝕄) ⊢ held m s q c sh v := by
  subst h
  unfold held
  refine Entails.of_eq (pointsTo_congr fun i hi => ?_)
  obtain ⟨x, -, rfl⟩ := Finset.mem_map.mp hi
  rw [View.rep_emb, View.read_apply, cast_cast, cast_eq]

theorem free_of_held (v : Vec F S1x1x64x1024 .bf16) : (held m s q c fullShare v : sProp 𝕄) ⊢ free m s q c := by
  unfold held free Release.slot
  iintro H; iexists _; iexact H

theorem held_split (v : Vec F S1x1x64x1024 .bf16) :
    (held m s q c fullShare v : sProp 𝕄) ⊢ iprop(held m s q c kept v ∗ held m s q c lent v) := by
  unfold held; exact (pointsTo_share (PosShare.mem_left_op_right fullShare)).1
theorem held_join (v : Vec F S1x1x64x1024 .bf16) :
    iprop(held m s q c kept v ∗ held m s q c lent v) ⊢ (held m s q c fullShare v : sProp 𝕄) := by
  unfold held; exact (pointsTo_share (PosShare.mem_left_op_right fullShare)).2

theorem load_held (sh : PosShare TreeShare) (v : Vec F S1x1x64x1024 .bf16) (K : Vec F S1x1x64x1024 .bf16 → sProp 𝕄) :
    (held m s q c sh v : sProp 𝕄) ⊢ iprop((held m s q c sh v -∗ K v) -∗ runs c (loadSlot m s q) K) := by
  unfold held runs loadSlot
  iintro H Hk
  iapply (wp_load_rect 𝒱₀ (c : Thread nD τ) none Set.univ (m := m) (r := slotRect s q) (Finset.Subset.refl _)) $$ H
  iintro H
  rw [wp_ret]; imodintro
  rw [View.read_rep]
  iapply Hk; iexact H

theorem load_free (K : Vec F S1x1x64x1024 .bf16 → sProp 𝕄) :
    (free m s q c : sProp 𝕄) ⊢ iprop((∀ v, free m s q c -∗ K v) -∗ runs c (loadSlot m s q) K) := by
  unfold free Release.slot runs loadSlot
  iintro ⟨%f, H⟩ Hk
  iapply (wp_load_rect 𝒱₀ (c : Thread nD τ) none Set.univ (m := m) (r := slotRect s q) (Finset.Subset.refl _)) $$ H
  iintro H
  rw [wp_ret]; imodintro
  iapply Hk; iexists f; iexact H

theorem store_free (hm : m.IsWhole) (v : Vec F S1x1x64x1024 .bf16) (K : PUnit → sProp 𝕄) :
    (free m s q c : sProp 𝕄) ⊢ iprop((held m s q c fullShare v -∗ K ⟨⟩) -∗ runs c (storeSlot m hm s q v) K) := by
  unfold free Release.slot runs storeSlot
  iintro ⟨%f, H⟩ Hk
  iapply (wp_store 𝒱₀ (c : Thread nD τ) none Set.univ (m := m) (r := slotRect s q) (Mk := Finset.univ) (S := (slotV m s q).set) (Finset.Subset.refl _)) $$ H
  iintro H
  rw [wp_ret]; imodintro
  iapply Hk
  iapply (held_of_read m s q c fullShare v _ (View.read_write_univ _ _)); iexact H

theorem free_free_false : iprop(free m s q c ∗ free m s q c) ⊢ (False : sProp 𝕄) :=
  Release.slot_slot_false ⟨_, View.emb_mem_set (slotV m s q) (fun a => ⟨0, by revert a; decide⟩)⟩

/-- The slot as a transfer's end is the same elements. -/
theorem held_eq_slot (sh : PosShare TreeShare) (v : Vec F S1x1x64x1024 .bf16) :
    (held m s q c sh v : sProp 𝕄)
      = ((slot m s q).view.loc (c : Thread nD τ) ↦[(slot m s q).view.set]{sh} (slotV m s q).rep v) := by
  unfold held
  rw [show (slot m s q).view.set = (slotV m s q).set from View.set_reshape _ _]
theorem free_eq_slot : (free m s q c : sProp 𝕄)
      = iprop(∃ f, (slot m s q).view.loc (c : Thread nD τ) ↦[(slot m s q).view.set]{fullShare} f) := by
  unfold free Release.slot
  rw [show (slot m s q).view.set = (slotV m s q).set from View.set_reshape _ _]

/-- A transfer of a slot that holds `v` leaves `v`. -/
theorem landed (m' : Memref sig .tc .vmem S3x2x64x1024 .bf16) (s' : Fin 3) (c' : Dev nD) (v : Vec F S1x1x64x1024 .bf16)
    (f : Buf (Elt F) ((slotV m' s' q).loc (c' : Thread nD τ))) :
    ((slot m' s' q).view.loc (c' : Thread nD τ) ↦[(slot m' s' q).view.set]{fullShare}
        ((slot m' s' q).view.write (Elt F) f ((slot m s q).view.read (Elt F) ((slotV m s q).rep v)) Finset.univ) : sProp 𝕄)
      ⊢ held m' s' q c' fullShare v := by
  rw [show (slot m' s' q).view.set = (slotV m' s' q).set from View.set_reshape _ _]
  refine held_of_read m' s' q c' fullShare v _ (funext fun x => ?_)
  obtain ⟨y, rfl⟩ := (Shape.reshapeEquiv (s := S1x1x64x1024) (s' := S64x1024) squeezes_S1x1x64x1024_S64x1024.numel_eq).surjective x
  have h1 : (slot m' s' q).view.read (Elt F)
      ((slot m' s' q).view.write (Elt F) f ((slot m s q).view.read (Elt F) ((slotV m s q).rep v)) Finset.univ) y
      = (slot m s q).view.read (Elt F) ((slotV m s q).rep v) y := congrFun (View.read_write_univ _ _) y
  have h2 : (slot m s q).view.read (Elt F) ((slotV m s q).rep v) y
      = (slotV m s q).read (Elt F) ((slotV m s q).rep v) (Shape.reshapeEquiv squeezes_S1x1x64x1024_S64x1024.numel_eq y) := rfl
  rw [View.read_rep] at h2
  exact h1.trans h2

end Slots

/-! ## The product -/

/-- Device `c`'s product buffer. -/
def workPts (c : Dev nD) (f : (cc0_scratch0 : Ref sig .tc).ty.Contents (Elt F)) : sProp 𝕄 :=
  workM.view.loc (c : Thread nD τ) ↦[Finset.univ]{fullShare} f

theorem load_work (c : Dev nD) (r : Rect S4096x2048) (hr : 0 < r.shape.numel) (f : (cc0_scratch0 : Ref sig .tc).ty.Contents (Elt F))
    (K : Vec F r.shape .bf16 → sProp 𝕄) :
    (workPts c f : sProp 𝕄) ⊢ iprop((workPts c f -∗ K (blk r f)) -∗ runs c (loadBlk r hr) K) := by
  unfold workPts runs loadBlk
  iintro H Hk
  iapply (wp_load 𝒱₀ (c : Thread nD τ) none Set.univ (m := workM) (Finset.subset_univ _)) $$ H
  iintro H
  rw [wp_ret]; imodintro
  iapply Hk; iexact H

/-! ## Transfers -/

section Transfers
variable (Wk : Works F) (c : Dev nD) (d q : Fin 2) (j : ℕ)

theorem send_congr (m m' : Memref sig .tc .vmem S64x1024 .bf16) (h : m = m') (hm : m.view.WordExact) (hm' : m'.view.WordExact) :
    (send c d j q m hm trivial : Body F) = send c d j q m' hm' trivial := by subst h; rfl

theorem srcM_whole (d : Fin 2) (j : ℕ) : (srcM d j).IsWhole := by
  unfold srcM; split
  · exact stageM_whole d
  · exact commM_whole d

/-- Sending transfer `j`: half the source is lent, the receiver's slot is filled, and the units owed for it are paid. -/
theorem send_wp (κ₁ κ₂ : ℕ) (h : j < 62) (O : CellTallies nD τ sig ℕ) (W : Waits sig ℕ) (K : PUnit → sProp 𝕄) :
    iprop(cellInv ER (Rd Wk) κ₁ (sendCell c d j q) ∗ cellInv ER (Rd Wk) κ₂ (recvCell (dst d c) d j q)
        ∗ held (srcM d j) (srcS j) q c lent (snt Wk d q j c) ∗ free (commM d) (at3 j) q (dst d c)
        ∗ owes (c : Thread nD τ) (O + tallyAt (recvCell (dst d c) d j q) j N) W
        ∗ dutyTok ER (sendCell c d j q) (j / 3) 0 ∗ reached ER (sendCell c d j q) (j / 3)
        ∗ dutyTok ER (recvCell (dst d c) d j q) (j / 3) 0 ∗ reached ER (recvCell (dst d c) d j q) (j / 3))
      ⊢ iprop(((cred (tallyAt (sendCell c d j q) j N) ∗ owes (c : Thread nD τ) O W) -∗ K ⟨⟩)
          -∗ runs c (send c d j q (sendSrc d j q) (sendSrc_wordExact d j q) trivial) K) := by
  rw [send_congr c d q j _ _ (sendSrc_eq d j q) _ (slot_wordExact (srcM_whole d j) _ _), held_eq_slot, free_eq_slot]
  unfold runs send
  iintro ⟨HI1, HI2, Hs, ⟨%f, Hd⟩, Ho, Ht1, Hr1, Ht2, Hr2⟩ Hk
  iapply (Rounds.wp_send_pointsTo 𝒱₀ ER (Rd Wk) (c : Thread nD τ) none (c' := (dst d c : Thread nD τ))
    (src := slot (srcM d j) (srcS j) q) (dst := slot (commM d) (at3 j) q) (κ₁ := κ₁) (κ₂ := κ₂)
    (sS := .dma (semAt (sendSems d) (at3 j) q)) (sem := .dma (semAt (recvSems d) (at3 j) q))
    (r₁ := j / 3) (r₂ := j / 3) (d₁ := 0) (d₂ := 0) (fs := (slotV (srcM d j) (srcS j) q).rep (snt Wk d q j c)) (fd := f) (q := lent)
    (by rw [duties_send _ _ _ _ _ h]; exact Finset.mem_singleton_self _) (by rw [duties_recv _ _ _ _ _ h]; exact Finset.mem_singleton_self _)
    j j N (credit_eq _ _ _) (amount_send Wk c d q j _ _) (amount_recv Wk (dst d c) d q j _ _) O rfl (W := W)
    (by rw [payload_send, held_eq_slot]) (by rw [payload_recv, src_dst]; exact landed _ _ q _ _ _ _ _))
    $$ [HI1 HI2 Hs Hd Ho Ht1 Hr1 Ht2 Hr2]
  · iframe
  iintro H
  rw [wp_ret]; imodintro
  iapply Hk; iexact H

theorem rest_recv (h : j < 62) : bigSep ((Rd Wk).duties (recvCell c d j q) (j / 3) \ ∅) (fun i => (Rd Wk).payload (recvCell c d j q) (j / 3) i)
    = held (commM d) (at3 j) q c fullShare (snt Wk d q j (src d c)) := by
  rw [Finset.sdiff_empty, duties_recv _ _ _ _ _ h, bigSep_singleton, payload_recv]
theorem rest_send (h : j < 62) : bigSep ((Rd Wk).duties (sendCell c d j q) (j / 3) \ ∅) (fun i => (Rd Wk).payload (sendCell c d j q) (j / 3) i)
    = held (srcM d j) (srcS j) q c lent (snt Wk d q j c) := by
  rw [Finset.sdiff_empty, duties_send _ _ _ _ _ h, bigSep_singleton, payload_send]

/-- Waiting for arrival `j`: the slot, holding what the neighbour sent. -/
theorem waitRecv_wp (κ : ℕ) (h : j < 62) (O : CellTallies nD τ sig ℕ) (hO : Above (3 * j + 3) O) (W : Waits sig ℕ) (K : PUnit → sProp 𝕄) :
    iprop(cellInv ER (Rd Wk) κ (recvCell c d j q) ∗ cred (tallyAt (recvCell c d j q) j N) ∗ owes (c : Thread nD τ) O W ∗ levAts L lv
        ∗ atPos ER (recvCell c d j q) (j / 3) ∅ 0)
      ⊢ iprop(((∃ W', owes (c : Thread nD τ) O W')
            ∗ atPos ER (recvCell c d j q) (j / 3 + 1) ∅ 0 ∗ reached ER (recvCell c d j q) (j / 3 + 1)
            ∗ held (commM d) (at3 j) q c fullShare (snt Wk d q j (src d c)) -∗ K ⟨⟩)
          -∗ runs c (waitRecv d j q) K) := by
  unfold runs waitRecv
  iintro ⟨HI, Hc, Ho, Hl, Hat⟩ Hk
  iapply (Rounds.wp_wait_rest_token 𝒱₀ ER (Rd Wk) (c : Thread nD τ) none (κ := κ)
    (wpE_waitDma2_eq 𝒱₀ (c : Thread nD τ) none Set.univ) (Set.mem_univ _) j (O := O) (W := W) (R := j / 3) (m := 0) (T := ∅)
    (by rw [expect_recv _ _ _ _ _ h, Nat.zero_add]; exact credit_eq _ _ _)) $$ [HI Hc Ho Hl Hat]
  · isplitl [HI]; · iexact HI
    isplitl [Hc]; · iexact Hc
    isplitl [Ho]; · iexact Ho
    isplitl [Hl]; · iapply (may_wait c _ j _ (by omega) (lv_recv c d q j j) O hO); iexact Hl
    iexact Hat
  iintro ⟨Ho, Hat, Hr, Hp⟩
  rw [wp_ret]; imodintro
  iapply Hk
  isplitl [Ho]; · iexists _; iexact Ho
  isplitl [Hat]; · iexact Hat
  isplitl [Hr]; · iexact Hr
  iapply (Entails.of_eq (rest_recv Wk c d q j h)); iexact Hp

/-- Waiting for transfer `j` to have left: the half share it was lent. -/
theorem waitSend_wp (κ : ℕ) (h : j < 62) (O : CellTallies nD τ sig ℕ) (hO : Above 0 O) (W : Waits sig ℕ) (K : PUnit → sProp 𝕄) :
    iprop(cellInv ER (Rd Wk) κ (sendCell c d j q) ∗ cred (tallyAt (sendCell c d j q) j N) ∗ owes (c : Thread nD τ) O W ∗ levAts L lv
        ∗ atPos ER (sendCell c d j q) (j / 3) ∅ 0)
      ⊢ iprop(((∃ W', owes (c : Thread nD τ) O W')
            ∗ atPos ER (sendCell c d j q) (j / 3 + 1) ∅ 0 ∗ reached ER (sendCell c d j q) (j / 3 + 1)
            ∗ held (srcM d j) (srcS j) q c lent (snt Wk d q j c) -∗ K ⟨⟩)
          -∗ runs c (waitSend d j q) K) := by
  unfold runs waitSend
  iintro ⟨HI, Hc, Ho, Hl, Hat⟩ Hk
  iapply (Rounds.wp_wait_rest_token 𝒱₀ ER (Rd Wk) (c : Thread nD τ) none (κ := κ)
    (wpE_waitDma2_eq 𝒱₀ (c : Thread nD τ) none Set.univ) (Set.mem_univ _) j (O := O) (W := W) (R := j / 3) (m := 0) (T := ∅)
    (by rw [expect_send _ _ _ _ _ h, Nat.zero_add, sendSrc_eq]; exact credit_eq _ _ _)) $$ [HI Hc Ho Hl Hat]
  · isplitl [HI]; · iexact HI
    isplitl [Hc]; · rw [sendSrc_eq]; iexact Hc
    isplitl [Ho]; · iexact Ho
    isplitl [Hl]; · iapply (may_wait c _ j _ (by omega) (lv_send c d q j j) O hO); iexact Hl
    iexact Hat
  iintro ⟨Ho, Hat, Hr, Hp⟩
  rw [wp_ret]; imodintro
  iapply Hk
  isplitl [Ho]; · iexists _; iexact Ho
  isplitl [Hat]; · iexact Hat
  isplitl [Hr]; · iexact Hr
  iapply (Entails.of_eq (rest_send Wk c d q j h)); iexact Hp

end Transfers

end Cert.AllReduce

end
-- ==== Proof.Lane.lean ====
/-
# One lane of one hop

A lane is one ring (`d`) and one half (`q`) on one device. Its state before hop `h`: transfer `h` is in flight to the
neighbour; the staging slots it does not use are free; what the device still has to send, to receive and to give back
is counted by its tokens. A hop takes the lane from one such state to the next in three parts, which the kernel runs
for all four lanes one after another: the receipt with the next send, the output, and the wait for the send to leave.
-/
module

public import proofs.«01_k».proof.Proof.Slots
public import Idealize.SL.BI.BigOpNat

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## What every device knows -/

/-- The names of the invariants: the semaphores' and the slots'. -/
structure Names where
  cell : Dev nD × Kind → ℕ
  slot : Key → ℕ

/-- The slot a key names, free. -/
def freeKey (k : Key) : sProp 𝕄 := free (commM k.2.1) k.2.2.1 k.2.2.2 k.1

instance freeKey_storable (k : Key) : BI.Storable (upEmb : UEmb _ 𝕄) (freeKey (F := F) k) := by unfold freeKey; infer_instance

/-- The semaphores' and the slots' invariants, that every semaphore's round `0` is reached, and the order of waits. -/
def ctx (Wk : Works F) (ν : Names) : sProp 𝕄 :=
  iprop((bigSep Finset.univ fun ck : Dev nD × Kind => cellInv ER (Rd Wk) (ν.cell ck) (kcell ck))
    ∗ (bigSep Finset.univ fun k : Key => Release.slotInv ES (ν.slot k) k (freeKey k))
    ∗ (bigSep Finset.univ fun ck : Dev nD × Kind => reached ER (kcell ck) 0)
    ∗ levAts L lv)

instance ctx_persistent (Wk : Works F) (ν : Names) : BI.Persistent (ctx Wk ν) := by unfold ctx; infer_instance

section Ctx
variable (Wk : Works F) (ν : Names)

theorem pick {I : Type} {s : Finset I} {i : I} (h : i ∈ s) (Φ : I → sProp 𝕄) : bigSep s Φ ⊢ Φ i := by
  haveI := Classical.decEq I
  exact BI.bigSep_elim h

theorem ctx_cell (ck : Dev nD × Kind) : ctx Wk ν ⊢ cellInv ER (Rd Wk) (ν.cell ck) (kcell ck) := by
  unfold ctx; iintro ⟨H, -⟩
  iapply (pick (Finset.mem_univ ck) fun ck : Dev nD × Kind => cellInv ER (Rd Wk) (ν.cell ck) (kcell ck)); iexact H
theorem ctx_slot (k : Key) : ctx Wk ν ⊢ Release.slotInv ES (ν.slot k) k (freeKey k) := by
  unfold ctx; iintro ⟨-, H, -⟩
  iapply (pick (Finset.mem_univ k) fun k : Key => Release.slotInv ES (ν.slot k) k (freeKey (F := F) k)); iexact H
theorem ctx_reached (ck : Dev nD × Kind) : ctx Wk ν ⊢ reached ER (kcell ck) 0 := by
  unfold ctx; iintro ⟨-, -, H, -⟩
  iapply (pick (Finset.mem_univ ck) fun ck : Dev nD × Kind => (reached ER (kcell ck) 0 : sProp 𝕄)); iexact H
theorem ctx_lev : ctx Wk ν ⊢ levAts L lv := by
  unfold ctx; iintro ⟨-, -, -, H⟩; iexact H

end Ctx

abbrev kBar : Kind := .inl ()
abbrev kCredit (d : Fin 2) : Kind := .inr (.inl d)
abbrev kSend (d : Fin 2) (j : ℕ) (q : Fin 2) : Kind := .inr (.inr (.inl (d, at3 j, q)))
abbrev kRecv (d : Fin 2) (j : ℕ) (q : Fin 2) : Kind := .inr (.inr (.inr (d, at3 j, q)))

/-! ## The pieces of a lane's state -/

section Pieces
variable (Wk : Works F) (c : Dev nD) (d q : Fin 2)

/-- Device `c`'s place at the arrival, and the departure, of transfer `j`; and at giving back the slot of transfer `j`. -/
def recvPos (j : ℕ) : sProp 𝕄 := iprop(atPos ER (recvCell c d j q) (j / 3) ∅ 0 ∗ reached ER (recvCell c d j q) (j / 3))
def sendPos (j : ℕ) : sProp 𝕄 := iprop(atPos ER (sendCell c d j q) (j / 3) ∅ 0 ∗ reached ER (sendCell c d j q) (j / 3))
def readPos (j : ℕ) : sProp 𝕄 := Release.readerAt ES (c, d, at3 j, q) (j / 3 + 1)

/-- The rights to send transfer `j`. -/
def supply (j : ℕ) : sProp 𝕄 :=
  iprop(dutyTok ER (sendCell c d j q) (j / 3) 0 ∗ dutyTok ER (recvCell (dst d c) d j q) (j / 3) 0
    ∗ Release.writeTok ES (dst d c, d, at3 j, q) (j / 3 + 1))
def supplies (j : ℕ) : sProp 𝕄 := bigSep (Finset.Ico j 62) fun i => supply c d q i
/-- The units of arrivals from transfer `j` on. -/
def arrivals (j : ℕ) : sProp 𝕄 := bigSep (Finset.Ico j 62) fun i => cred (tallyAt (recvCell c d i q) i N)

theorem supplies_succ (j : ℕ) (h : j < 62) : (supplies c d q j : sProp 𝕄) = iprop(supply c d q j ∗ supplies c d q (j + 1)) := by
  unfold supplies; exact bigSep_Ico_succ_bot h _
theorem arrivals_succ (j : ℕ) (h : j < 62) :
    (arrivals c d q j : sProp 𝕄) = iprop(cred (tallyAt (recvCell c d j q) j N) ∗ arrivals c d q (j + 1)) := by
  unfold arrivals; exact bigSep_Ico_succ_bot h _

/-- Transfer `j` in flight: half its source, and the units of its departure. -/
def fly (j : ℕ) : sProp 𝕄 := iprop(held (srcM d j) (srcS j) q c kept (snt Wk d q j c) ∗ cred (tallyAt (sendCell c d j q) j N))
/-- Past the last transfer, what it brought. -/
def flyAt (j : ℕ) : sProp 𝕄 := if j < 62 then fly Wk c d q j else held (srcM d j) (srcS j) q c fullShare (snt Wk d q j c)

/-- The staging slots not in use before hop `h`, -/
def stages (h : ℕ) : sProp 𝕄 :=
  if h ≤ 31 then iprop(free (stageM d) (at3 (h + 1)) q c ∗ free (stageM d) (at3 (h + 2)) q c)
  else iprop(free (stageM d) 0 q c ∗ free (stageM d) 1 q c ∗ free (stageM d) 2 q c)
/-- and once hop `h` has sent on. -/
def stagesB (h : ℕ) : sProp 𝕄 := if h ≤ 30 then free (stageM d) (at3 (h + 2)) q c else stages c d q h
/-- The landing slot hop `h - 1` has read, while sums are accumulated, -/
def old (h : ℕ) : sProp 𝕄 := if 1 ≤ h ∧ h ≤ 31 then free (commM d) (at3 (h - 1)) q c else iprop(emp)
/-- and the one hop `h` has read. -/
def got (h : ℕ) : sProp 𝕄 := if h ≤ 30 then held (commM d) (at3 h) q c fullShare (snt Wk d q h (src d c)) else iprop(emp)
/-- The places for giving back. -/
def reads (h : ℕ) : sProp 𝕄 :=
  if h ≤ 59 then iprop(readPos c d q (h - 1) ∗ readPos c d q (h - 1 + 1) ∗ readPos c d q (h - 1 + 2)) else iprop(emp)
/-- The last landing slots, which are not given back. -/
def rest (h : ℕ) : sProp 𝕄 := bigSep (Finset.Ico 59 (h - 1)) fun i => free (commM d) (at3 i) q c

/-- What hop `h` leaves alone until its end. -/
def side (h : ℕ) : sProp 𝕄 :=
  iprop(old c d q h ∗ reads c d q h ∗ rest c d q h ∗ readyQ c d q (min (max 3 (h + 2)) 62)
    ∗ sendPos c d q h ∗ sendPos c d q (h + 1) ∗ sendPos c d q (h + 2))

/-- The lane before hop `h`, -/
def lane (h : ℕ) : sProp 𝕄 :=
  iprop(flyAt Wk c d q h ∗ stages c d q h ∗ (recvPos c d q h ∗ recvPos c d q (h + 1) ∗ recvPos c d q (h + 2))
    ∗ supplies c d q (h + 1) ∗ arrivals c d q h ∗ side c d q h)
/-- and after the receipt and the next send. -/
def laneB (h : ℕ) : sProp 𝕄 :=
  iprop(flyAt Wk c d q (h + 1) ∗ fly Wk c d q h ∗ got Wk c d q h ∗ stagesB c d q h
    ∗ (recvPos c d q (h + 1) ∗ recvPos c d q (h + 2) ∗ recvPos c d q (h + 3))
    ∗ supplies c d q (h + 2) ∗ arrivals c d q (h + 1) ∗ side c d q h)

end Pieces

/-! ## The parts of a hop -/

section Parts
variable (Wk : Works F) (ν : Names) (c : Dev nD) (d q : Fin 2)

theorem at3_add (j : ℕ) : at3 (j + 3) = at3 j := Fin.ext (Nat.add_mod_right j 3)

theorem readyQ_at (n j : ℕ) (h : j < n) : (readyQ c d q n : sProp 𝕄) ⊢ ready c d q j := by
  unfold readyQ; exact pick (Finset.mem_range.mpr h) fun j => (ready c d q j : sProp 𝕄)

/-- The next transfer over the same slot. -/
theorem recvPos_next (j : ℕ) :
    iprop(atPos ER (recvCell c d j q) (j / 3 + 1) ∅ 0 ∗ reached ER (recvCell c d j q) (j / 3 + 1)) ⊢ (recvPos c d q (j + 3) : sProp 𝕄) := by
  unfold recvPos; rw [show recvCell c d (j + 3) q = recvCell c d j q by simp only [recvCell, at3_add], show (j + 3) / 3 = j / 3 + 1 by omega]
theorem sendPos_next (j : ℕ) :
    iprop(atPos ER (sendCell c d j q) (j / 3 + 1) ∅ 0 ∗ reached ER (sendCell c d j q) (j / 3 + 1)) ⊢ (sendPos c d q (j + 3) : sProp 𝕄) := by
  unfold sendPos; rw [show sendCell c d (j + 3) q = sendCell c d j q by simp only [sendCell, at3_add], show (j + 3) / 3 = j / 3 + 1 by omega]

theorem recvPos_at (j : ℕ) :
    (recvPos c d q j : sProp 𝕄) ⊢ iprop(atPos ER (recvCell c d j q) (j / 3) ∅ 0 ∗ reached ER (recvCell c d j q) (j / 3)) := by
  unfold recvPos; exact .rfl
theorem sendPos_at (j : ℕ) :
    (sendPos c d q j : sProp 𝕄) ⊢ iprop(atPos ER (sendCell c d j q) (j / 3) ∅ 0 ∗ reached ER (sendCell c d j q) (j / 3)) := by
  unfold sendPos; exact .rfl

/-- Sending transfer `j` out of a source that holds it. -/
theorem send_lane (j : ℕ) (h : j < 62) (O : CellTallies nD τ sig ℕ) (K : PUnit → sProp 𝕄) :
    iprop(ctx Wk ν ∗ ready (dst d c) d q j ∗ supply c d q j ∗ reached ER (sendCell c d j q) (j / 3)
        ∗ held (srcM d j) (srcS j) q c fullShare (snt Wk d q j c) ∗ (∃ W, owes (c : Thread nD τ) (O + oweT c d q j) W))
      ⊢ iprop((fly Wk c d q j ∗ (∃ W, owes (c : Thread nD τ) (O + oweT c d q (j + 1)) W) -∗ K ⟨⟩)
          -∗ runs c (send c d j q (sendSrc d j q) (sendSrc_wordExact d j q) trivial) K) := by
  rw [oweT_succ c d q j h, ← add_assoc]
  unfold ready supply fly
  iintro ⟨#Hctx, ⟨#Hrel, #Hr2⟩, ⟨Ht1, Ht2, Hw⟩, #Hr1, Hs, ⟨%W, Ho⟩⟩ Hk
  imod (Release.slot_take ES (S := freeKey (dst d c, d, at3 j, q)) (Set.mem_univ (ν.slot (dst d c, d, at3 j, q))) (j / 3 + 1)) $$ [Hw] with Hd
  · isplitr; · iapply (ctx_slot Wk ν); iexact Hctx
    isplitr; · iexact Hrel
    iexact Hw
  ihave Hs' := (held_split (srcM d j) (srcS j) q c (snt Wk d q j c)) $$ Hs
  icases Hs' with ⟨Hs1, Hs2⟩
  iapply (send_wp Wk c d q j (ν.cell (c, kSend d j q)) (ν.cell (dst d c, kRecv d j q)) h (O + oweT c d q (j + 1)) W K) $$ [Ht1 Ht2 Hd Hs2 Ho]
  · isplitr; · iapply (ctx_cell Wk ν (c, kSend d j q)); iexact Hctx
    isplitr; · iapply (ctx_cell Wk ν (dst d c, kRecv d j q)); iexact Hctx
    isplitl [Hs2]; · iexact Hs2
    isplitl [Hd]; · unfold freeKey; iexact Hd
    isplitl [Ho]; · iexact Ho
    isplitl [Ht1]; · iexact Ht1
    isplitr; · iexact Hr1
    isplitl [Ht2]; · iexact Ht2
    iexact Hr2
  iintro ⟨Hc, Ho⟩
  iapply Hk
  isplitl [Hs1 Hc]
  · isplitl [Hs1] <;> iassumption
  iexists W; iexact Ho

theorem srcM_stage (j : ℕ) (h : j ≤ 31) : srcM d j = stageM d := if_pos h
theorem srcS_stage (j : ℕ) (h : j ≤ 31) : srcS j = at3 j := if_pos h
theorem srcM_comm (j : ℕ) (h : ¬ j ≤ 31) : srcM d j = commM d := if_neg h
theorem srcS_comm (j : ℕ) (h : ¬ j ≤ 31) : srcS j = at3 (j - 1) := if_neg h

theorem flyAt_fly (j : ℕ) (h : j < 62) : (flyAt Wk c d q j : sProp 𝕄) = fly Wk c d q j := if_pos h
theorem flyAt_end (j : ℕ) (h : ¬ j < 62) : (flyAt Wk c d q j : sProp 𝕄) = held (srcM d j) (srcS j) q c fullShare (snt Wk d q j c) := if_neg h
theorem stages_rs (h : ℕ) (hh : h ≤ 31) : (stages c d q h : sProp 𝕄) = iprop(free (stageM d) (at3 (h + 1)) q c ∗ free (stageM d) (at3 (h + 2)) q c) := if_pos hh
theorem stagesB_rs (h : ℕ) (hh : h ≤ 30) : (stagesB c d q h : sProp 𝕄) = free (stageM d) (at3 (h + 2)) q c := if_pos hh
theorem stagesB_ag (h : ℕ) (hh : ¬ h ≤ 30) : (stagesB c d q h : sProp 𝕄) = stages c d q h := if_neg hh
theorem got_rs (h : ℕ) (hh : h ≤ 30) : (got Wk c d q h : sProp 𝕄) = held (commM d) (at3 h) q c fullShare (snt Wk d q h (src d c)) := if_pos hh
theorem got_ag (h : ℕ) (hh : ¬ h ≤ 30) : (got Wk c d q h : sProp 𝕄) = iprop(emp) := if_neg hh

/-- The receipt of hop `h`, at the head of `relay`. -/
theorem relay_head (h : ℕ) (hh : h < 62) (O : CellTallies nD τ sig ℕ) (hO : Above (3 * h + 3) O) (K : PUnit → sProp 𝕄) :
    iprop(ctx Wk ν ∗ recvPos c d q h ∗ cred (tallyAt (recvCell c d h q) h N) ∗ (∃ W, owes (c : Thread nD τ) O W))
      ⊢ iprop((recvPos c d q (h + 3) ∗ held (commM d) (at3 h) q c fullShare (snt Wk d q h (src d c))
            ∗ (∃ W, owes (c : Thread nD τ) O W) -∗ K ⟨⟩)
          -∗ runs c (waitRecv d h q) K) := by
  iintro ⟨#Hctx, Hr, Hcr, ⟨%W, Ho⟩⟩ Hk
  ihave Hr' := (recvPos_at c d q h) $$ Hr
  icases Hr' with ⟨Hat, -⟩
  iapply (waitRecv_wp Wk c d q h (ν.cell (c, kRecv d h q)) hh O hO W K) $$ [Hcr Ho Hat]
  · isplitr; · iapply (ctx_cell Wk ν (c, kRecv d h q)); iexact Hctx
    isplitl [Hcr]; · iexact Hcr
    isplitl [Ho]; · iexact Ho
    isplitr; · iapply (ctx_lev Wk ν); iexact Hctx
    iexact Hat
  iintro ⟨Ho, Hat, Hr, Hgot⟩
  iapply Hk
  isplitl [Hat Hr]
  · iapply (recvPos_next c d q h); isplitl [Hat] <;> iassumption
  isplitl [Hgot] <;> iassumption

/-- The receipt of hop `h` and the next send, while sums are accumulated, -/
theorem relay_rs (h : ℕ) (hh : h ≤ 30) (O : CellTallies nD τ sig ℕ) (hO : Above (3 * h + 3) O) (K : PUnit → sProp 𝕄) :
    iprop(ctx Wk ν ∗ ready (dst d c) d q (h + 1) ∗ workPts c (Wk c) ∗ lane Wk c d q h
        ∗ (∃ W, owes (c : Thread nD τ) (O + oweT c d q (h + 1)) W))
      ⊢ iprop((workPts c (Wk c) ∗ laneB Wk c d q h ∗ (∃ W, owes (c : Thread nD τ) (O + oweT c d q (h + 2)) W) -∗ K ⟨⟩)
          -∗ runs c (relay c h d q) K) := by
  unfold lane laneB relay runs side sendPos
  rw [if_pos (by omega), if_pos hh, arrivals_succ c d q h (by omega), supplies_succ c d q (h + 1) (by omega),
    flyAt_fly _ _ _ _ _ (show h < 62 by omega), flyAt_fly _ _ _ _ _ (show h + 1 < 62 by omega), stages_rs c d q h (by omega),
    got_rs _ _ _ _ _ hh, stagesB_rs _ _ _ _ hh]
  simp only [wp_bind]
  iintro ⟨#Hctx, Hrdy, Hwork, ⟨Hfly, ⟨Hst1, Hst2⟩, ⟨HrA, HrB, HrC⟩, ⟨Hs1, Hsup⟩, ⟨Hcr, Harr⟩, Hold, Hreads, Hrest, Hready, HsA, ⟨HsB, #HsBr⟩, HsC⟩, Ho⟩ Hk
  iapply (relay_head Wk ν c d q h (by omega) (O + oweT c d q (h + 1)) (hO.add (oweT_above c d q (h + 1) _ (by omega))) _) $$ [HrA Hcr Ho]
  · isplitr; · iexact Hctx
    iframe
  iintro ⟨Hr3, Hgot, Ho⟩
  iapply (load_work c (rsRect d c h q) h_S64x1024 (Wk c) _) $$ Hwork; iintro Hwork
  iapply (load_held (commM d) (at3 h) q c fullShare _ _) $$ Hgot; iintro Hgot
  iapply (load_free (stageM d) (at3 (h + 1)) q c _) $$ Hst1; iintro %v0 Hst1
  iapply (store_free (stageM d) (at3 (h + 1)) q c (stageM_whole d) _ _) $$ Hst1; iintro Hst1
  iapply (send_lane Wk ν c d q (h + 1) (by omega) O K) $$ [Hrdy Hs1 Hst1 Ho]
  · isplitr; · iexact Hctx
    isplitl [Hrdy]; · iexact Hrdy
    isplitl [Hs1]; · iexact Hs1
    isplitr; · iexact HsBr
    isplitl [Hst1]
    · rw [srcM_stage d _ (by omega), srcS_stage _ (by omega), snt_rs Wk d q h hh c]; iexact Hst1
    iexact Ho
  iintro ⟨Hfly', Ho⟩
  iapply Hk
  iframe
  iexact HsBr

/-- while they are gathered, -/
theorem relay_ag (h : ℕ) (h30 : ¬ h ≤ 30) (hh : h < 61) (O : CellTallies nD τ sig ℕ) (hO : Above (3 * h + 3) O) (K : PUnit → sProp 𝕄) :
    iprop(ctx Wk ν ∗ ready (dst d c) d q (h + 1) ∗ workPts c (Wk c) ∗ lane Wk c d q h
        ∗ (∃ W, owes (c : Thread nD τ) (O + oweT c d q (h + 1)) W))
      ⊢ iprop((workPts c (Wk c) ∗ laneB Wk c d q h ∗ (∃ W, owes (c : Thread nD τ) (O + oweT c d q (h + 2)) W) -∗ K ⟨⟩)
          -∗ runs c (relay c h d q) K) := by
  unfold lane laneB relay runs side sendPos
  rw [if_pos hh, if_neg h30, arrivals_succ c d q h (by omega), supplies_succ c d q (h + 1) (by omega),
    flyAt_fly _ _ _ _ _ (show h < 62 by omega), flyAt_fly _ _ _ _ _ (show h + 1 < 62 by omega),
    got_ag _ _ _ _ _ h30, stagesB_ag _ _ _ _ h30]
  simp only [wp_bind, Prog.pure_eq_ret, wp_ret]
  iintro ⟨#Hctx, Hrdy, Hwork, ⟨Hfly, Hstg, ⟨HrA, HrB, HrC⟩, ⟨Hs1, Hsup⟩, ⟨Hcr, Harr⟩, Hold, Hreads, Hrest, Hready, HsA, ⟨HsB, #HsBr⟩, HsC⟩, Ho⟩ Hk
  iapply (relay_head Wk ν c d q h (by omega) (O + oweT c d q (h + 1)) (hO.add (oweT_above c d q (h + 1) _ (by omega))) _) $$ [HrA Hcr Ho]
  · isplitr; · iexact Hctx
    iframe
  iintro ⟨Hr3, Hgot, Ho⟩
  imodintro
  iapply (send_lane Wk ν c d q (h + 1) (by omega) O K) $$ [Hrdy Hs1 Hgot Ho]
  · isplitr; · iexact Hctx
    isplitl [Hrdy]; · iexact Hrdy
    isplitl [Hs1]; · iexact Hs1
    isplitr; · iexact HsBr
    isplitl [Hgot]
    · rw [srcM_comm d _ (by omega), srcS_comm _ (by omega), snt_ag Wk d q h h30 c, Nat.add_sub_cancel]; iexact Hgot
    iexact Ho
  iintro ⟨Hfly', Ho⟩
  iapply Hk
  iframe
  iexact HsBr

/-- and of the last hop. -/
theorem relay_end (O : CellTallies nD τ sig ℕ) (hO : Above (3 * 61 + 3) O) (K : PUnit → sProp 𝕄) :
    iprop(ctx Wk ν ∗ workPts c (Wk c) ∗ lane Wk c d q 61
        ∗ (∃ W, owes (c : Thread nD τ) (O + oweT c d q (61 + 1)) W))
      ⊢ iprop((workPts c (Wk c) ∗ laneB Wk c d q 61 ∗ (∃ W, owes (c : Thread nD τ) (O + oweT c d q (61 + 2)) W) -∗ K ⟨⟩)
          -∗ runs c (relay c 61 d q) K) := by
  unfold lane laneB relay runs
  rw [if_neg (by omega), arrivals_succ c d q 61 (by omega),
    flyAt_fly _ _ _ _ _ (show 61 < 62 by omega), flyAt_end _ _ _ _ _ (show ¬ 61 + 1 < 62 by omega),
    got_ag _ _ _ _ _ (by omega), stagesB_ag _ _ _ _ (by omega), oweT_end _ _ _ _ (by omega), oweT_end _ _ _ _ (by omega)]
  simp only [wp_bind, Prog.pure_eq_ret, wp_ret]
  iintro ⟨#Hctx, Hwork, ⟨Hfly, Hstg, ⟨HrA, HrB, HrC⟩, Hsup, ⟨Hcr, Harr⟩, Hside⟩, Ho⟩ Hk
  iapply (relay_head Wk ν c d q 61 (by omega) (O + 0) (hO.add (Above.zero _)) _) $$ [HrA Hcr Ho]
  · isplitr; · iexact Hctx
    iframe
  iintro ⟨Hr3, Hgot, Ho⟩
  imodintro
  iapply Hk
  iframe
  isplitl [Hgot]
  · rw [srcM_comm d _ (by omega), srcS_comm _ (by omega), snt_ag Wk d q 61 (by omega) c]; iexact Hgot
  unfold supplies; rw [Finset.Ico_eq_empty (by omega), Finset.Ico_eq_empty (by omega)]; iexact Hsup

/-- The receipt of hop `h` and the next send, which the neighbour's slot must be ready for. -/
theorem relay_wp (h : ℕ) (hh : h < 62) (O : CellTallies nD τ sig ℕ) (hO : Above (3 * h + 3) O) (K : PUnit → sProp 𝕄) :
    iprop(ctx Wk ν ∗ readyQ (dst d c) d q (min (h + 2) 62) ∗ workPts c (Wk c) ∗ lane Wk c d q h
        ∗ (∃ W, owes (c : Thread nD τ) (O + oweT c d q (h + 1)) W))
      ⊢ iprop((workPts c (Wk c) ∗ laneB Wk c d q h ∗ (∃ W, owes (c : Thread nD τ) (O + oweT c d q (h + 2)) W) -∗ K ⟨⟩)
          -∗ runs c (relay c h d q) K) := by
  rcases Nat.lt_or_ge h 61 with h61 | h61
  · iintro ⟨#Hctx, #Hq, H⟩
    ihave Hr := (readyQ_at (dst d c) d q (min (h + 2) 62) (h + 1) (by omega)) $$ Hq
    by_cases h30 : h ≤ 30
    · iapply (relay_rs Wk ν c d q h h30 O hO K)
      isplitr; · iexact Hctx
      isplitl [Hr]; · iexact Hr
      iexact H
    · iapply (relay_ag Wk ν c d q h h30 h61 O hO K)
      isplitr; · iexact Hctx
      isplitl [Hr]; · iexact Hr
      iexact H
  · obtain rfl : h = 61 := by omega
    iintro ⟨#Hctx, -, H⟩
    iapply (relay_end Wk ν c d q O hO K)
    isplitr; · iexact Hctx
    iexact H

end Parts

end Cert.AllReduce

end
-- ==== Proof.Leave.lean ====
/-
# The end of a hop on one lane

When transfer `h` has left, its source is free again; the landing slot of transfer `h - 1` is then in no use any more and
is given back to the neighbour, or kept when no later transfer needs it.
-/
module

public import proofs.«01_k».proof.Proof.Lane

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Leave
variable (Wk : Works F) (ν : Names) (c : Dev nD) (d q : Fin 2)

theorem reads_on (h : ℕ) (hh : h ≤ 59) :
    (reads c d q h : sProp 𝕄) = iprop(readPos c d q (h - 1) ∗ readPos c d q (h - 1 + 1) ∗ readPos c d q (h - 1 + 2)) := if_pos hh
theorem reads_off (h : ℕ) (hh : ¬ h ≤ 59) : (reads c d q h : sProp 𝕄) = iprop(emp) := if_neg hh
theorem rest_none (h : ℕ) (hh : h ≤ 60) : (rest c d q h : sProp 𝕄) = iprop(emp) := by
  unfold rest; rw [Finset.Ico_eq_empty (by omega)]; rfl
theorem rest_succ (h : ℕ) (hh : 60 ≤ h) :
    iprop(free (commM d) (at3 (h - 1)) q c ∗ rest c d q h) ⊢ (rest c d q (h + 1) : sProp 𝕄) := by
  unfold rest
  rw [show h + 1 - 1 = h - 1 + 1 by omega, bigSep_Ico_succ_top (show 59 ≤ h - 1 by omega)]
theorem ready_next (j : ℕ) :
    iprop(Release.released ES (c, d, at3 j, q) (j / 3 + 1 + 1) ∗ reached ER (recvCell c d (j + 3) q) ((j + 3) / 3))
      ⊢ (ready c d q (j + 3) : sProp 𝕄) := by
  unfold ready; rw [at3_add, show (j + 3) / 3 = j / 3 + 1 by omega]
theorem readPos_next (j : ℕ) : Release.readerAt ES (c, d, at3 j, q) (j / 3 + 1 + 1) ⊢ (readPos c d q (j + 3) : sProp 𝕄) := by
  unfold readPos; rw [at3_add, show (j + 3) / 3 = j / 3 + 1 by omega]
theorem readyQ_succ (n : ℕ) : iprop(ready c d q n ∗ readyQ c d q n) ⊢ (readyQ c d q (n + 1) : sProp 𝕄) := by
  unfold readyQ; rw [bigSep_range_succ]

/-- Giving back the slot of transfer `i`. -/
theorem give_back (i : ℕ) :
    iprop(ctx Wk ν ∗ free (commM d) (at3 i) q c ∗ readPos c d q i ∗ reached ER (recvCell c d (i + 3) q) ((i + 3) / 3))
      ⊢ (|={Set.univ}=> (readPos c d q (i + 3) ∗ ready c d q (i + 3)) : sProp 𝕄) := by
  rw [show (readPos c d q i : sProp 𝕄) = Release.readerAt ES (c, d, at3 i, q) (i / 3 + 1) from rfl]
  iintro ⟨#Hctx, Hf, Hp, #Hr⟩
  ihave Hi := (ctx_slot Wk ν (c, d, at3 i, q)) $$ Hctx
  imod (Release.slot_release ES (S := freeKey (c, d, at3 i, q)) (Set.mem_univ _) (free_free_false (commM d) (at3 i) q c) (i / 3 + 1)) $$ [Hi Hp Hf] with ⟨Hp, Hrel⟩
  · isplitl [Hi]; · iexact Hi
    isplitl [Hp]; · iexact Hp
    unfold freeKey; iexact Hf
  imodintro
  isplitl [Hp]
  · iapply (readPos_next c d q i); iexact Hp
  · iapply (ready_next c d q i); isplitl [Hrel]; · iexact Hrel
    iexact Hr

theorem side_step (h : ℕ) (h1 : 1 ≤ h) (hh : h < 62) :
    iprop(ctx Wk ν ∗ free (commM d) (at3 (h - 1)) q c ∗ reads c d q h ∗ rest c d q h ∗ readyQ c d q (min (max 3 (h + 2)) 62)
        ∗ reached ER (recvCell c d (h + 2) q) ((h + 2) / 3))
      ⊢ (|={Set.univ}=> (reads c d q (h + 1) ∗ rest c d q (h + 1) ∗ readyQ c d q (min (max 3 (h + 1 + 2)) 62)) : sProp 𝕄) := by
  by_cases h59 : h ≤ 59
  · obtain ⟨i, rfl⟩ : ∃ i, h = i + 1 := ⟨h - 1, by omega⟩
    rw [reads_on _ _ _ _ h59, rest_none _ _ _ _ (by omega), rest_none _ _ _ _ (by omega), Nat.add_sub_cancel,
      show min (max 3 (i + 1 + 2)) 62 = i + 3 by omega, show min (max 3 (i + 1 + 1 + 2)) 62 = i + 3 + 1 by omega]
    iintro ⟨#Hctx, Hf, ⟨Hp0, Hp1, Hp2⟩, -, Hq, #Hr⟩
    imod (give_back Wk ν c d q i) $$ [Hf Hp0] with ⟨Hp, Hrdy⟩
    · isplitr; · iexact Hctx
      isplitl [Hf]; · iexact Hf
      isplitl [Hp0]; · iexact Hp0
      iexact Hr
    imodintro
    isplitl [Hp1 Hp2 Hp]
    · by_cases h58 : i + 1 + 1 ≤ 59
      · rw [reads_on _ _ _ _ h58, Nat.add_sub_cancel]
        isplitl [Hp1]; · iexact Hp1
        isplitl [Hp2]; · iexact Hp2
        iexact Hp
      · rw [reads_off _ _ _ _ h58]; iempintro
    isplitr; · iempintro
    iapply (readyQ_succ c d q (i + 3)); isplitl [Hrdy] <;> iassumption
  · rw [reads_off _ _ _ _ (show ¬ h + 1 ≤ 59 by omega), show min (max 3 (h + 2)) 62 = 62 by omega,
      show min (max 3 (h + 1 + 2)) 62 = 62 by omega]
    iintro ⟨-, Hf, -, Hrest, Hq, -⟩
    imodintro
    isplitr; · iempintro
    isplitr [Hq]
    · iapply (rest_succ c d q h (by omega)); isplitl [Hf] <;> iassumption
    iexact Hq

theorem free_src (h : ℕ) :
    iprop(held (srcM d h) (srcS h) q c kept (snt Wk d q h c) ∗ held (srcM d h) (srcS h) q c lent (snt Wk d q h c))
      ⊢ (free (srcM d h) (srcS h) q c : sProp 𝕄) :=
  (held_join _ _ _ _ _).trans (free_of_held _ _ _ _ _)

theorem old_on (h : ℕ) (h1 : 1 ≤ h ∧ h ≤ 31) : (old c d q h : sProp 𝕄) = free (commM d) (at3 (h - 1)) q c := if_pos h1
theorem old_off (h : ℕ) (h1 : ¬ (1 ≤ h ∧ h ≤ 31)) : (old c d q h : sProp 𝕄) = iprop(emp) := if_neg h1
theorem stages_ag (h : ℕ) (hh : ¬ h ≤ 31) :
    (stages c d q h : sProp 𝕄) = iprop(free (stageM d) 0 q c ∗ free (stageM d) 1 q c ∗ free (stageM d) 2 q c) := if_neg hh

/-- What the free source becomes. -/
theorem settle (h : ℕ) (hh : h < 62) :
    iprop(ctx Wk ν ∗ free (srcM d h) (srcS h) q c ∗ got Wk c d q h ∗ stagesB c d q h ∗ old c d q h ∗ reads c d q h ∗ rest c d q h
        ∗ readyQ c d q (min (max 3 (h + 2)) 62) ∗ reached ER (recvCell c d (h + 2) q) ((h + 2) / 3))
      ⊢ (|={Set.univ}=> (stages c d q (h + 1) ∗ old c d q (h + 1) ∗ reads c d q (h + 1) ∗ rest c d q (h + 1)
          ∗ readyQ c d q (min (max 3 (h + 1 + 2)) 62)) : sProp 𝕄) := by
  by_cases h30 : h ≤ 30
  · rw [srcM_stage d h (by omega), srcS_stage h (by omega), got_rs _ _ _ _ _ h30, stagesB_rs _ _ _ _ h30,
      stages_rs _ _ _ _ (show h + 1 ≤ 31 by omega), old_on c d q (h + 1) ⟨by omega, by omega⟩, Nat.add_sub_cancel,
      show h + 1 + 2 = h + 3 from rfl, at3_add]
    by_cases h0 : h = 0
    · subst h0
      rw [old_off _ _ _ _ (by omega), rest_none _ _ _ _ (by omega), rest_none _ _ _ _ (by omega), reads_on _ _ _ _ (by omega),
        reads_on _ _ _ _ (by omega)]
      iintro ⟨-, Hs, Hg, Hst, -, Hrd, -, Hq, -⟩
      imodintro
      isplitl [Hs Hst]; · isplitl [Hst] <;> iassumption
      isplitl [Hg]; · iapply (free_of_held _ _ _ _ _); iexact Hg
      isplitl [Hrd]; · iexact Hrd
      isplitr; · iempintro
      iexact Hq
    · rw [old_on _ _ _ _ ⟨by omega, by omega⟩]
      iintro ⟨#Hctx, Hs, Hg, Hst, Hold, Hrd, Hre, Hq, Hr⟩
      imod (side_step Wk ν c d q h (by omega) hh) $$ [Hold Hrd Hre Hq Hr] with ⟨Hrd, Hre, Hq⟩
      · isplitr; · iexact Hctx
        iframe
      imodintro
      isplitl [Hs Hst]; · isplitl [Hst] <;> iassumption
      isplitl [Hg]; · iapply (free_of_held _ _ _ _ _); iexact Hg
      isplitl [Hrd]; · iexact Hrd
      isplitl [Hre]; · iexact Hre
      iexact Hq
  · rw [got_ag _ _ _ _ _ h30, stagesB_ag _ _ _ _ h30, stages_ag _ _ _ _ (show ¬ h + 1 ≤ 31 by omega), old_off c d q (h + 1) (by omega)]
    by_cases h31 : h = 31
    · subst h31
      rw [srcM_stage d _ (by omega), srcS_stage _ (by omega), stages_rs _ _ _ _ (by omega), old_on _ _ _ _ ⟨by omega, by omega⟩]
      iintro ⟨#Hctx, Hs, -, ⟨Hst1, Hst2⟩, Hold, Hrd, Hre, Hq, Hr⟩
      imod (side_step Wk ν c d q 31 (by omega) hh) $$ [Hold Hrd Hre Hq Hr] with ⟨Hrd, Hre, Hq⟩
      · isplitr; · iexact Hctx
        iframe
      imodintro
      isplitl [Hs Hst1 Hst2]
      · isplitl [Hst2]; · iexact Hst2
        isplitl [Hs]; · iexact Hs
        iexact Hst1
      isplitr; · iempintro
      isplitl [Hrd]; · iexact Hrd
      isplitl [Hre]; · iexact Hre
      iexact Hq
    · rw [srcM_comm d _ (by omega), srcS_comm _ (by omega), stages_ag _ _ _ _ (by omega), old_off _ _ _ _ (by omega)]
      iintro ⟨#Hctx, Hs, -, Hst, -, Hrd, Hre, Hq, Hr⟩
      imod (side_step Wk ν c d q h (by omega) hh) $$ [Hs Hrd Hre Hq Hr] with ⟨Hrd, Hre, Hq⟩
      · isplitr; · iexact Hctx
        iframe
      imodintro
      isplitl [Hst]; · iexact Hst
      isplitr; · iempintro
      isplitl [Hrd]; · iexact Hrd
      isplitl [Hre]; · iexact Hre
      iexact Hq

/-- The wait for transfer `h` to leave. -/
theorem leave_wp (h : ℕ) (hh : h < 62) (O : CellTallies nD τ sig ℕ) (hO : Above 0 O) (K : PUnit → sProp 𝕄) :
    iprop(ctx Wk ν ∗ laneB Wk c d q h ∗ (∃ W, owes (c : Thread nD τ) O W))
      ⊢ iprop((lane Wk c d q (h + 1) ∗ (∃ W, owes (c : Thread nD τ) O W) -∗ K ⟨⟩) -∗ runs c (waitSend d h q) K) := by
  unfold laneB lane fly side
  iintro ⟨#Hctx, ⟨Hnext, ⟨Hk, Hcr⟩, Hgot, Hst, ⟨HrA, HrB, HrC⟩, Hsup, Harr, Hold, Hrd, Hre, Hq, HsA, HsB, HsC⟩, ⟨%W, Ho⟩⟩ HK
  ihave HrB' := (recvPos_at c d q (h + 2)) $$ HrB
  icases HrB' with ⟨HrB, #Hrch⟩
  ihave HsA' := (sendPos_at c d q h) $$ HsA
  icases HsA' with ⟨Hat, -⟩
  iapply (wp_fupd frame (wpE (defs₀ (F := F)) 𝒱₀ (c : Thread nD τ) none) (E := Set.univ) (waitSend d h q) K)
  iapply (waitSend_wp Wk c d q h (ν.cell (c, kSend d h q)) hh O hO W (fun x => iprop(|={Set.univ}=> K x))) $$ [Hcr Ho Hat]
  · isplitr; · iapply (ctx_cell Wk ν (c, kSend d h q)); iexact Hctx
    isplitl [Hcr]; · iexact Hcr
    isplitl [Ho]; · iexact Ho
    isplitr; · iapply (ctx_lev Wk ν); iexact Hctx
    iexact Hat
  iintro ⟨Ho, Hat, Hr, Hl⟩
  imod (settle Wk ν c d q h hh) $$ [Hk Hl Hgot Hst Hold Hrd Hre Hq] with ⟨Hst, Hold, Hrd, Hre, Hq⟩
  · isplitr; · iexact Hctx
    isplitl [Hk Hl]; · iapply (free_src Wk c d q h); isplitl [Hk] <;> iassumption
    isplitl [Hgot]; · iexact Hgot
    isplitl [Hst]; · iexact Hst
    isplitl [Hold]; · iexact Hold
    isplitl [Hrd]; · iexact Hrd
    isplitl [Hre]; · iexact Hre
    isplitl [Hq]; · iexact Hq
    iexact Hrch
  imodintro
  iapply HK
  isplitr [Ho]
  · isplitl [Hnext]; · iexact Hnext
    isplitl [Hst]; · iexact Hst
    isplitl [HrA HrB HrC]
    · isplitl [HrA]; · iexact HrA
      isplitl [HrB]
      · unfold recvPos; isplitl [HrB]; · iexact HrB
        iexact Hrch
      iexact HrC
    isplitl [Hsup]; · iexact Hsup
    isplitl [Harr]; · iexact Harr
    isplitl [Hold]; · iexact Hold
    isplitl [Hrd]; · iexact Hrd
    isplitl [Hre]; · iexact Hre
    isplitl [Hq]; · iexact Hq
    isplitl [HsB]; · iexact HsB
    isplitl [HsC]; · iexact HsC
    iapply (sendPos_next c d q h); isplitl [Hat] <;> iassumption
  iexact Ho

end Leave

end Cert.AllReduce

end
-- ==== Proof.Out.lean ====
/-
# The result buffer

From hop `30` on every hop fills, on each lane, one block of the result with a full sum. What is known of the buffer is
which elements already agree with the full result.
-/
module

public import proofs.«01_k».proof.Proof.Lane

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev OutC (F : FTy → Type) : Type := (cc0_stg2_0 : Ref sig .tc).ty.Contents (Elt F)

/-- A block of the result, and the elements it covers. -/
def oblk (r : Rect S4096x2048) (g : OutC F) : Vec F r.shape .f32 := (outM.access r).read (Elt F) g
def oset (r : Rect S4096x2048) : Finset S4096x2048.Idx := (outM.access r).setOn Finset.univ

/-- The block hop `h` fills on a lane. -/
def oOff (d : Fin 2) (c : Dev nD) (h : ℕ) (q : Fin 2) : Fin 2 → ℕ := if h = 30 then rsOff d c h q else agOff d c h q
theorem oOff_inb (d : Fin 2) (c : Dev nD) (h : ℕ) (q : Fin 2) : ∀ a, oOff d c h q a + S64x1024.size a ≤ S4096x2048.size a := by
  unfold oOff; split
  · exact rsOff_inb d c h q
  · exact agOff_inb d c h q
abbrev oRect (d : Fin 2) (c : Dev nD) (h : ℕ) (q : Fin 2) : Rect S4096x2048 :=
  Rect.unit (s := S4096x2048) (oOff d c h q) S64x1024.size (oOff_inb d c h q)

/-- Every block filled from hop `30` on holds the full sum that hop has. -/
def Agrees (Wk : Works F) (c : Dev nD) (g : OutC F) : Prop :=
  ∀ (h : ℕ) (d q : Fin 2), 30 ≤ h → h < 62 → oblk (oRect d c h q) g = k0_pay146 (snt Wk d q (h + 1) c)

section Out
variable (Wk : Works F) (c : Dev nD) (g₀ : OutC F)

/-- The result buffer, agreeing with `g₀` on the elements of `P`. -/
def outPts (P : S4096x2048.Idx → Prop) : sProp 𝕄 :=
  iprop(∃ g : OutC F, ⌜∀ i, P i → g i = g₀ i⌝ ∗ outM.view.loc (c : Thread nD τ) ↦[Finset.univ]{fullShare} g)

theorem load_out (P : S4096x2048.Idx → Prop) (r : Rect S4096x2048) (hr : 0 < r.shape.numel) (K : Vec F r.shape .f32 → sProp 𝕄) :
    (outPts c g₀ P : sProp 𝕄) ⊢ iprop((∀ v, outPts c g₀ P -∗ K v)
      -∗ runs c (Prog.lift (.load outM r.toLoadRect (View.loadsAt_vmem hr)) : Prog (TpuEff nD τ sig (Elt F) Λ₀ .tc) (Vec F r.shape .f32)) K) := by
  unfold outPts runs
  iintro ⟨%g, %hg, H⟩ Hk
  iapply (wp_load 𝒱₀ (c : Thread nD τ) none Set.univ (m := outM) (Finset.subset_univ _)) $$ H
  iintro H
  rw [wp_ret]; imodintro
  iapply Hk
  iexists g; isplitr; · ipureintro; exact hg
  iexact H

theorem written (P : S4096x2048.Idx → Prop) (r : Rect S4096x2048) (g : OutC F) (hg : ∀ i, P i → g i = g₀ i) (v : Vec F r.shape .f32)
    (hv : oblk r g₀ = v) (i : S4096x2048.Idx) (hi : P i ∨ i ∈ oset r) :
    ((outM.access r).write (Elt F) g v Finset.univ : OutC F) i = g₀ i := by
  subst hv
  by_cases hm : i ∈ oset r
  · obtain ⟨x, -, rfl⟩ := Finset.mem_map.mp hm
    refine (View.write_emb_of_mem _ _ (Finset.mem_univ x)).trans ?_
    unfold oblk
    rw [View.read_apply, cast_cast, cast_eq]
  · exact (View.write_of_not_mem _ _ _ hm).trans (hg i (hi.resolve_right hm))

theorem store_out (P : S4096x2048.Idx → Prop) (r : Rect S4096x2048) (hr : 0 < r.shape.numel) (v : Vec F r.shape .f32)
    (hv : oblk r g₀ = v) (K : PUnit → sProp 𝕄) :
    (outPts c g₀ P : sProp 𝕄) ⊢ iprop((outPts c g₀ (fun i => P i ∨ i ∈ oset r) -∗ K ⟨⟩) -∗ runs c (storeOut r hr v) K) := by
  unfold outPts runs storeOut
  iintro ⟨%g, %hg, H⟩ Hk
  iapply (wp_store 𝒱₀ (c : Thread nD τ) none Set.univ (m := outM) (r := r) (Mk := Finset.univ) (S := Finset.univ) (Finset.subset_univ _)) $$ H
  iintro H
  rw [wp_ret]; imodintro
  iapply Hk
  iexists ((outM.access r).write (Elt F) g v Finset.univ)
  isplitr; · ipureintro; exact written g₀ P r g hg v hv
  iexact H

/-- What hop `h` adds on a lane. -/
def adds (d q : Fin 2) (h : ℕ) (i : S4096x2048.Idx) : Prop := 30 ≤ h ∧ i ∈ oset (oRect d c h q)

theorem oRect_rs (d q : Fin 2) : oRect d c 30 q = rsRect d c 30 q := rfl
theorem oRect_ag (d q : Fin 2) (h : ℕ) (hh : ¬ h = 30) : oRect d c h q = agRect d c h q := by
  have e : oOff d c h q = agOff d c h q := if_neg hh
  simp only [oRect, agRect, e]

/-- The output part of a hop on a lane. -/
theorem output_wp (hg : Agrees Wk c g₀) (d q : Fin 2) (P : S4096x2048.Idx → Prop) (h : ℕ) (hh : h < 62) (K : PUnit → sProp 𝕄) :
    iprop(laneB Wk c d q h ∗ outPts c g₀ P)
      ⊢ iprop((laneB Wk c d q h ∗ outPts c g₀ (fun i => P i ∨ adds c d q h i) -∗ K ⟨⟩) -∗ runs c (output c h d q) K) := by
  by_cases h30 : h < 30
  · unfold output runs
    rw [if_pos h30, Prog.pure_eq_ret, wp_ret,
      show (fun i => P i ∨ adds c d q h i) = P from funext fun i => propext ⟨fun hp => hp.resolve_right fun ha => absurd ha.1 (by omega), Or.inl⟩]
    iintro H Hk
    imodintro
    iapply Hk; iexact H
  have hadd : (fun i => P i ∨ adds c d q h i) = (fun i => P i ∨ i ∈ oset (oRect d c h q)) :=
    funext fun i => propext (or_congr_right ⟨fun ha => ha.2, fun ha => ⟨by omega, ha⟩⟩)
  have hv := hg h d q (by omega) hh
  rw [hadd]
  unfold output laneB runs
  rw [if_neg h30]
  by_cases he : h = 30
  · subst he
    rw [if_pos rfl, flyAt_fly _ _ _ _ _ (show 30 + 1 < 62 by omega)]
    unfold fly
    rw [srcM_stage d (30 + 1) (by omega), srcS_stage (30 + 1) (by omega)]
    simp only [wp_bind]
    iintro ⟨⟨⟨Hs, Hc⟩, Hl⟩, Hout⟩ Hk
    iapply (load_held (stageM d) (at3 (30 + 1)) q c kept _ _) $$ Hs; iintro Hs
    iapply (load_out c g₀ P (rsRect d c 30 q) h_S64x1024 _) $$ Hout; iintro %w Hout
    iapply (store_out c g₀ P (rsRect d c 30 q) h_S64x1024 _ hv K) $$ Hout; iintro Hout
    iapply Hk
    isplitr [Hout]
    · isplitl [Hs Hc]; · isplitl [Hs] <;> iassumption
      iexact Hl
    iexact Hout
  · rw [if_neg he]
    have hv' : oblk (agRect d c h q) g₀ = k0_pay146 (snt Wk d q (h + 1) c) := by
      have key : ∀ (off : Fin 2 → ℕ) (e : oOff d c h q = off) (hb : ∀ a, off a + S64x1024.size a ≤ S4096x2048.size a),
          oblk (Rect.unit (s := S4096x2048) off S64x1024.size hb) g₀ = k0_pay146 (snt Wk d q (h + 1) c) := by rintro _ rfl hb; exact hv
      exact key _ (if_neg he) _
    rw [oRect_ag c d q h he]
    simp only [wp_bind]
    by_cases h61 : h + 1 < 62
    · rw [flyAt_fly _ _ _ _ _ h61]
      unfold fly
      rw [srcM_comm d (h + 1) (by omega), srcS_comm (h + 1) (by omega), Nat.add_sub_cancel]
      iintro ⟨⟨⟨Hs, Hc⟩, Hl⟩, Hout⟩ Hk
      iapply (load_held (commM d) (at3 h) q c kept _ _) $$ Hs; iintro Hs
      iapply (load_out c g₀ P (agRect d c h q) h_S64x1024 _) $$ Hout; iintro %w Hout
      iapply (store_out c g₀ P (agRect d c h q) h_S64x1024 _ hv' K) $$ Hout; iintro Hout
      iapply Hk
      isplitr [Hout]
      · isplitl [Hs Hc]; · isplitl [Hs] <;> iassumption
        iexact Hl
      iexact Hout
    · rw [flyAt_end _ _ _ _ _ h61, srcM_comm d (h + 1) (by omega), srcS_comm (h + 1) (by omega), Nat.add_sub_cancel]
      iintro ⟨⟨Hs, Hl⟩, Hout⟩ Hk
      iapply (load_held (commM d) (at3 h) q c fullShare _ _) $$ Hs; iintro Hs
      iapply (load_out c g₀ P (agRect d c h q) h_S64x1024 _) $$ Hout; iintro %w Hout
      iapply (store_out c g₀ P (agRect d c h q) h_S64x1024 _ hv' K) $$ Hout; iintro Hout
      iapply Hk
      isplitr [Hout]
      · isplitl [Hs]; · iexact Hs
        iexact Hl
      iexact Hout

end Out

end Cert.AllReduce

end
-- ==== Proof.Credits.lean ====
/-
# The barrier and the credits

At the start a device tells both senders that its landing slots are ready for their first three transfers; at the end
of hop `k` it tells them how far it is ready by then. A sender has consumed `k` credits of a ring once it knows that
the receiver is ready for the first `k + 3` transfers: the credits may come in any order, but `k` of them include one
numbered `k` or more.
-/
module

public import proofs.«01_k».proof.Proof.Lane

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Credits
variable (Wk : Works F) (ν : Names) (c : Dev nD) (d : Fin 2)

theorem readyQ_mono (q : Fin 2) (m n : ℕ) (h : m ≤ n) : (readyQ c d q n : sProp 𝕄) ⊢ readyQ c d q m := by
  unfold readyQ; exact BI.bigSep_subset (Finset.range_mono h)
theorem readyTo_mono (m n : ℕ) (h : m ≤ n) : (readyTo c d n : sProp 𝕄) ⊢ readyTo c d m := by
  unfold readyTo
  iintro ⟨H0, H1⟩
  isplitl [H0]
  · iapply (readyQ_mono c d 0 m n h); iexact H0
  · iapply (readyQ_mono c d 1 m n h); iexact H1

/-- The rights to signal ring `d`'s sender from credit `k` on. -/
def creditToks (k : ℕ) : sProp 𝕄 := bigSep (Finset.Ico k 62) fun i => dutyTok ER (creditCell (src d c) d) 0 i
theorem creditToks_succ (k : ℕ) (h : k < 62) :
    (creditToks c d k : sProp 𝕄) = iprop(dutyTok ER (creditCell (src d c) d) 0 k ∗ creditToks c d (k + 1)) := by
  unfold creditToks; exact bigSep_Ico_succ_bot h _

/-- The units of the credits from `k` on. -/
def creditUnits (k : ℕ) : sProp 𝕄 := bigSep (Finset.Ico k 62) fun i => cred (tallyAt (creditCell c d) i 1)
theorem creditUnits_succ (k : ℕ) (h : k < 62) :
    (creditUnits c d k : sProp 𝕄) = iprop(cred (tallyAt (creditCell c d) k 1) ∗ creditUnits c d (k + 1)) := by
  unfold creditUnits; exact bigSep_Ico_succ_bot h _

/-- `k` credits of ring `d` consumed. -/
def credits (k : ℕ) : sProp 𝕄 :=
  iprop((∃ S : Finset ℕ, ⌜S ⊆ Finset.Ico 1 62 ∧ k ≤ S.card⌝ ∗ atPos ER (creditCell c d) 0 S k
      ∗ bigSep S (fun i => readyTo (dst d c) d (min (i + 3) 62)))
    ∗ creditUnits c d (k + 1))

/-- `k` numbers from `1` on include one that is `k` or more. -/
theorem some_large (S : Finset ℕ) (k : ℕ) (hS : S ⊆ Finset.Ico 1 62) (hk : k + 1 ≤ S.card) : ∃ i ∈ S, k + 1 ≤ i := by
  by_contra hc
  push Not at hc
  have : S ⊆ Finset.Ico 1 (k + 1) := fun i hi => Finset.mem_Ico.mpr ⟨(Finset.mem_Ico.mp (hS hi)).1, hc i hi⟩
  have h2 := Finset.card_le_card this
  rw [Nat.card_Ico] at h2
  omega

theorem credits_ready (S : Finset ℕ) (k : ℕ) (hS : S ⊆ Finset.Ico 1 62) (hk : k + 1 ≤ S.card) :
    bigSep S (fun i => readyTo (dst d c) d (min (i + 3) 62)) ⊢ (readyTo (dst d c) d (min (k + 4) 62) : sProp 𝕄) := by
  obtain ⟨i, hi, hki⟩ := some_large S k hS hk
  exact (pick hi fun i => (readyTo (dst d c) d (min (i + 3) 62) : sProp 𝕄)).trans (readyTo_mono _ _ _ _ (by omega))

theorem payloads_credit (S : Finset ℕ) :
    bigSep S (fun i => (Rd Wk).payload (creditCell c d) 0 i) = (bigSep S (fun i => readyTo (dst d c) d (min (i + 3) 62)) : sProp 𝕄) :=
  bigSep_congr fun i _ => payload_credit Wk c d i

theorem payloads_join (T S : Finset ℕ) (h : T ⊆ S) (A : ℕ → sProp 𝕄) : iprop(bigSep (S \ T) A ∗ bigSep T A) ⊢ bigSep S A := by
  have e : bigSep S A = bigSep (S \ T ∪ T) A := by rw [Finset.sdiff_union_of_subset h]
  rw [e, bigSep_union Finset.sdiff_disjoint]
  exact .rfl

/-- The wait for one more credit, but the last. -/
theorem credit_wp (k : ℕ) (hk : k < 60) (O : CellTallies nD τ sig ℕ) (hO : Above (3 * (k + 1) + 5) O) (K : PUnit → sProp 𝕄) :
    iprop(ctx Wk ν ∗ credits c d k ∗ (∃ W, owes (c : Thread nD τ) O W))
      ⊢ iprop((credits c d (k + 1) ∗ readyTo (dst d c) d (min (k + 4) 62) ∗ (∃ W, owes (c : Thread nD τ) O W) -∗ K ⟨⟩)
          -∗ runs c (semWaitWord (creditSem d) 1#32) K) := by
  unfold runs semWaitWord credits
  rw [creditUnits_succ c d (k + 1) (by omega)]
  iintro ⟨#Hctx, ⟨⟨%T, %hT, Hat, #Hpay⟩, Hc, Hcs⟩, ⟨%W, Ho⟩⟩ Hk
  iapply (Rounds.wp_wait 𝒱₀ ER (Rd Wk) (c : Thread nD τ) none (κ := ν.cell (c, kCredit d))
    (wpE_semWait_eq 𝒱₀ (c : Thread nD τ) none Set.univ) (Set.mem_univ _) (cr := Finsupp.single (k + 1) 1) (O := O) (W := W)
    {((.reg (creditSem d) : SemLoc sig), k + 1)} (R := 0) (m := k) (T := T)
    (by rw [Util.total_single]; rfl) (image_single_subset _ (k + 1) 1)) $$ [Hc Ho Hat]
  · isplitr; · iapply (ctx_cell Wk ν (c, kCredit d)); iexact Hctx
    isplitl [Hc]; · iexact Hc
    isplitl [Ho]; · iexact Ho
    isplitr
    · iapply (may_wait c (.reg (creditSem d)) (k + 1) _ (by omega) (lv_credit c d (k + 1)) O hO); iapply (ctx_lev Wk ν); iexact Hctx
    iexact Hat
  iintro %S ⟨%hS, Ho, Hat, Hnew⟩
  rw [wp_ret]; imodintro
  have hS' : S ⊆ Finset.Ico 1 62 := by rw [← duties_credit Wk c d]; exact hS.2.1
  have hcard : k + 1 ≤ S.card := by
    have h1 : k + 1 + ((Rd Wk).duties (creditCell c d) 0 \ S).card ≤ (Rd Wk).expect (creditCell c d) 0 := hS.2.2
    rw [duties_credit, expect_credit, Finset.card_sdiff_of_subset hS', Nat.card_Ico] at h1
    have h2 := Finset.card_le_card hS'
    rw [Nat.card_Ico] at h2
    omega
  ihave Hnew' := (Entails.of_eq (payloads_credit Wk c d (S \ T))) $$ Hnew
  ihave #Hall := (payloads_join T S hS.1 fun i => readyTo (dst d c) d (min (i + 3) 62)) $$ [Hnew']
  · isplitl [Hnew']; · iexact Hnew'
    iexact Hpay
  iapply Hk
  isplitl [Hat Hcs]
  · isplitr [Hcs]
    · iexists S
      isplitr; · ipureintro; exact ⟨hS', hcard⟩
      isplitl [Hat]; · iexact Hat
      iexact Hall
    iexact Hcs
  isplitr
  · iapply (credits_ready c d S k hS' hcard); iexact Hall
  iexists (W ∪ {((.reg (creditSem d) : SemLoc sig), k + 1)}); iexact Ho

/-- The wait for the last credit. -/
theorem credit_last_wp (O : CellTallies nD τ sig ℕ) (hO : Above (3 * 61 + 5) O) (K : PUnit → sProp 𝕄) :
    iprop(ctx Wk ν ∗ credits c d 60 ∗ (∃ W, owes (c : Thread nD τ) O W))
      ⊢ iprop((atPos ER (creditCell c d) 1 ∅ 0 ∗ (∃ W, owes (c : Thread nD τ) O W) -∗ K ⟨⟩)
          -∗ runs c (semWaitWord (creditSem d) 1#32) K) := by
  unfold runs semWaitWord credits
  rw [creditUnits_succ c d (60 + 1) (by omega)]
  iintro ⟨#Hctx, ⟨⟨%T, %hT, Hat, #Hpay⟩, Hc, Hcs⟩, ⟨%W, Ho⟩⟩ Hk
  iapply (Rounds.wp_wait_rest_token 𝒱₀ ER (Rd Wk) (c : Thread nD τ) none (κ := ν.cell (c, kCredit d))
    (wpE_semWait_eq 𝒱₀ (c : Thread nD τ) none Set.univ) (Set.mem_univ _) (60 + 1) (O := O) (W := W) (R := 0) (m := 60) (T := T)
    ((expect_credit Wk c d).symm)) $$ [Hc Ho Hat]
  · isplitr; · iapply (ctx_cell Wk ν (c, kCredit d)); iexact Hctx
    isplitl [Hc]; · iexact Hc
    isplitl [Ho]; · iexact Ho
    isplitr
    · iapply (may_wait c (.reg (creditSem d)) (60 + 1) _ (by omega) (lv_credit c d (60 + 1)) O hO); iapply (ctx_lev Wk ν); iexact Hctx
    iexact Hat
  iintro ⟨Ho, Hat, -, -⟩
  rw [wp_ret]; imodintro
  iapply Hk
  isplitl [Hat]; · iexact Hat
  iexists (insert ((.reg (creditSem d) : SemLoc sig), 60 + 1) W); iexact Ho

/-- Credit `k` to ring `d`'s sender. -/
theorem signal_wp (k : ℕ) (h1 : 1 ≤ k) (hk : k < 62) (O : CellTallies nD τ sig ℕ) (K : PUnit → sProp 𝕄) :
    iprop(ctx Wk ν ∗ creditToks c d k ∗ readyTo c d (min (k + 3) 62) ∗ (∃ W, owes (c : Thread nD τ) (O + oweC c d k) W))
      ⊢ iprop((creditToks c d (k + 1) ∗ (∃ W, owes (c : Thread nD τ) (O + oweC c d (k + 1)) W) -∗ K ⟨⟩)
          -∗ runs c (semSignalWord (src d c) (creditSem d) 1#32) K) := by
  unfold runs semSignalWord
  rw [creditToks_succ c d k hk, oweC_succ c d k hk, ← add_assoc]
  iintro ⟨#Hctx, ⟨Ht, Hts⟩, #Hr, ⟨%W, Ho⟩⟩ Hk
  iapply (Rounds.wp_signal 𝒱₀ ER (Rd Wk) (c : Thread nD τ) none (dst := (src d c : Thread nD τ)) (κ := ν.cell (src d c, kCredit d)) (r := 0)
      (d := k) (by rw [duties_credit, Finset.mem_Ico]; omega) ((amount_credit Wk (src d c) d 0 k).trans (by decide)) k (O + oweC c d (k + 1)) rfl)
    $$ [Ho Ht]
  · isplitr; · iapply (ctx_cell Wk ν (src d c, kCredit d)); iexact Hctx
    isplitl [Ho]; · iexact Ho
    isplitl [Ht]; · iexact Ht
    isplitr; · rw [payload_credit, dst_src]; iexact Hr
    iapply (ctx_reached Wk ν (src d c, kCredit d)); iexact Hctx
  iintro Ho
  rw [wp_ret]; imodintro
  iapply Hk
  isplitl [Hts]; · iexact Hts
  iexists W; iexact Ho

/-- The barrier signal to ring `d`'s sender. -/
theorem enter_wp (O : CellTallies nD τ sig ℕ) (W : Waits sig ℕ) (K : PUnit → sProp 𝕄) :
    iprop(ctx Wk ν ∗ dutyTok ER (barCell (src d c)) 0 d.val ∗ readyTo c d 3
        ∗ owes (c : Thread nD τ) (O + tallyAt (barCell (src d c)) 0 1) W)
      ⊢ iprop((owes (c : Thread nD τ) O W -∗ K ⟨⟩) -∗ runs c (semSignalWord (src d c) barSem 1#32) K) := by
  have hd : ringOf d.val = d := by revert d; decide
  unfold runs semSignalWord
  iintro ⟨#Hctx, Ht, #Hr, Ho⟩ Hk
  iapply (Rounds.wp_signal 𝒱₀ ER (Rd Wk) (c : Thread nD τ) none (dst := (src d c : Thread nD τ)) (κ := ν.cell (src d c, kBar)) (r := 0)
      (d := d.val) (by rw [duties_bar, Finset.mem_range]; exact d.isLt) ((amount_bar Wk (src d c) 0 d.val).trans (by decide)) 0 O rfl)
    $$ [Ho Ht]
  · isplitr; · iapply (ctx_cell Wk ν (src d c, kBar)); iexact Hctx
    isplitl [Ho]; · iexact Ho
    isplitl [Ht]; · iexact Ht
    isplitr; · rw [payload_bar, hd, dst_src]; iexact Hr
    iapply (ctx_reached Wk ν (src d c, kBar)); iexact Hctx
  iintro Ho
  rw [wp_ret]; imodintro
  iapply Hk
  iexact Ho

/-- The wait for both. -/
theorem barrier_wp (O : CellTallies nD τ sig ℕ) (hO : Above 1 O) (W : Waits sig ℕ) (K : PUnit → sProp 𝕄) :
    iprop(ctx Wk ν ∗ cred (tallyAt (barCell c) 0 2) ∗ atPos ER (barCell c) 0 ∅ 0 ∗ owes (c : Thread nD τ) O W)
      ⊢ iprop((atPos ER (barCell c) 1 ∅ 0 ∗ readyTo (dst 0 c) 0 3 ∗ readyTo (dst 1 c) 1 3 ∗ (∃ W, owes (c : Thread nD τ) O W) -∗ K ⟨⟩)
          -∗ runs c (semWaitWord barSem 2#32) K) := by
  unfold runs semWaitWord
  iintro ⟨#Hctx, Hc, Hat, Ho⟩ Hk
  iapply (Rounds.wp_wait_rest_token 𝒱₀ ER (Rd Wk) (c : Thread nD τ) none (κ := ν.cell (c, kBar))
    (wpE_semWait_eq 𝒱₀ (c : Thread nD τ) none Set.univ) (Set.mem_univ _) 0 (O := O) (W := W) (R := 0) (m := 0) (T := ∅)
    (by rw [expect_bar]; decide)) $$ [Hc Ho Hat]
  · isplitr; · iapply (ctx_cell Wk ν (c, kBar)); iexact Hctx
    isplitl [Hc]; · iexact Hc
    isplitl [Ho]; · iexact Ho
    isplitr
    · iapply (may_wait c (.reg barSem) 0 _ (by omega) (lv_bar c 0) O hO); iapply (ctx_lev Wk ν); iexact Hctx
    iexact Hat
  iintro ⟨Ho, Hat, -, Hpay⟩
  rw [wp_ret]; imodintro
  ihave Hp := (Entails.of_eq (show bigSep ((Rd Wk).duties (barCell c) 0 \ ∅) (fun i => (Rd Wk).payload (barCell c) 0 i)
      = (iprop(readyTo (dst 0 c) 0 3 ∗ readyTo (dst 1 c) 1 3) : sProp 𝕄) by
    rw [duties_bar, Finset.sdiff_empty, show Finset.range 2 = insert 0 {1} from rfl, bigSep_insert (by decide), bigSep_singleton, payload_bar, payload_bar]
    rfl)) $$ Hpay
  icases Hp with ⟨Hp0, Hp1⟩
  iapply Hk
  isplitl [Hat]; · iexact Hat
  isplitl [Hp0]; · iexact Hp0
  isplitl [Hp1]; · iexact Hp1
  iexists (insert ((.reg barSem : SemLoc sig), 0) W); iexact Ho

end Credits

end Cert.AllReduce

end
-- ==== Proof.Hops.lean ====
/-
# The hops

One hop takes all four lanes of a device one step on, and by induction the kernel's hops take them to the end.
-/
module

public import proofs.«01_k».proof.Proof.Leave
public import proofs.«01_k».proof.Proof.Out
public import proofs.«01_k».proof.Proof.Credits

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Hops
variable (Wk : Works F) (ν : Names) (c : Dev nD) (g₀ : OutC F)

/-- What device `c` owes, with what is recorded of its waits forgotten. -/
def debt (O : CellTallies nD τ sig ℕ) : sProp 𝕄 := iprop(∃ W, owes (c : Thread nD τ) O W)
theorem debt_eq {O O' : CellTallies nD τ sig ℕ} (h : O = O') : (debt c O : sProp 𝕄) ⊢ ∃ W, owes (c : Thread nD τ) O' W := by
  subst h; exact .rfl
theorem eq_debt {O O' : CellTallies nD τ sig ℕ} (h : O = O') : iprop(∃ W, owes (c : Thread nD τ) O W) ⊢ (debt c O' : sProp 𝕄) := by
  subst h; exact .rfl

/-- The transfers owed on the four lanes. -/
def oweL (i j k l : ℕ) : CellTallies nD τ sig ℕ := oweT c 0 0 i + oweT c 0 1 j + oweT c 1 0 k + oweT c 1 1 l
theorem oweL_above (i j k l n : ℕ) (h : n < 3 * i + 3 ∧ n < 3 * j + 3 ∧ n < 3 * k + 3 ∧ n < 3 * l + 3) : Above n (oweL c i j k l) :=
  (((oweT_above c 0 0 i n h.1).add (oweT_above c 0 1 j n h.2.1)).add (oweT_above c 1 0 k n h.2.2.1)).add (oweT_above c 1 1 l n h.2.2.2)

section Split
variable (R : CellTallies nD τ sig ℕ) (i j k l : ℕ)
theorem oweL_00 : R + oweL c i j k l = R + (oweT c 0 1 j + oweT c 1 0 k + oweT c 1 1 l) + oweT c 0 0 i := by
  unfold oweL; simp only [add_assoc, add_comm, add_left_comm]
theorem oweL_01 : R + oweL c i j k l = R + (oweT c 0 0 i + oweT c 1 0 k + oweT c 1 1 l) + oweT c 0 1 j := by
  unfold oweL; simp only [add_assoc, add_comm, add_left_comm]
theorem oweL_10 : R + oweL c i j k l = R + (oweT c 0 0 i + oweT c 0 1 j + oweT c 1 1 l) + oweT c 1 0 k := by
  unfold oweL; simp only [add_assoc, add_comm, add_left_comm]
theorem oweL_11 : R + oweL c i j k l = R + (oweT c 0 0 i + oweT c 0 1 j + oweT c 1 0 k) + oweT c 1 1 l := by
  unfold oweL; simp only [add_assoc, add_comm, add_left_comm]
end Split

def lanes4 (A : Fin 2 → Fin 2 → sProp 𝕄) : sProp 𝕄 := iprop(A 0 0 ∗ A 0 1 ∗ A 1 0 ∗ A 1 1)

theorem readyTo_q (e : Dev nD) (d q : Fin 2) (n : ℕ) : (readyTo e d n : sProp 𝕄) ⊢ readyQ e d q n := by
  unfold readyTo
  obtain rfl | rfl : q = 0 ∨ q = 1 := by omega
  · iintro ⟨H, -⟩; iexact H
  · iintro ⟨-, H⟩; iexact H

/-- The receipts and the next sends of hop `h`. -/
theorem relays_wp (h : ℕ) (hh : h < 62) (R : CellTallies nD τ sig ℕ) (hR : Above (3 * h + 3) R) (K : PUnit → sProp 𝕄) :
    iprop(ctx Wk ν ∗ readyTo (dst 0 c) 0 (min (h + 2) 62) ∗ readyTo (dst 1 c) 1 (min (h + 2) 62) ∗ workPts c (Wk c)
        ∗ lanes4 (fun d q => lane Wk c d q h) ∗ debt c (R + oweL c (h + 1) (h + 1) (h + 1) (h + 1)))
      ⊢ iprop((workPts c (Wk c) ∗ lanes4 (fun d q => laneB Wk c d q h) ∗ debt c (R + oweL c (h + 2) (h + 2) (h + 2) (h + 2)) -∗ K ⟨⟩)
          -∗ runs c (lanes (relay c h)) K) := by
  have ha : ∀ d q : Fin 2, Above (3 * h + 3) (oweT c d q (h + 1)) := fun d q => oweT_above c d q _ _ (by omega)
  have hb : ∀ d q : Fin 2, Above (3 * h + 3) (oweT c d q (h + 2)) := fun d q => oweT_above c d q _ _ (by omega)
  unfold lanes runs lanes4
  simp only [wp_bind]
  iintro ⟨#Hctx, #Hr0, #Hr1, Hw, ⟨H00, H01, H10, H11⟩, Ho⟩ Hk
  ihave Ho' := (debt_eq c (oweL_00 c R (h + 1) (h + 1) (h + 1) (h + 1))) $$ Ho
  iapply (relay_wp Wk ν c 0 0 h hh _ (hR.add (((ha 0 1).add (ha 1 0)).add (ha 1 1))) _) $$ [Hw H00 Ho']
  · isplitr; · iexact Hctx
    isplitr; · iapply (readyTo_q (dst 0 c) 0 0 (min (h + 2) 62)); iexact Hr0
    isplitl [Hw]; · iexact Hw
    isplitl [H00]; · iexact H00
    iexact Ho'
  iintro ⟨Hw, H00, Ho⟩
  ihave Ho := (eq_debt c (oweL_00 c R (h + 2) (h + 1) (h + 1) (h + 1)).symm) $$ Ho
  ihave Ho' := (debt_eq c (oweL_01 c R (h + 2) (h + 1) (h + 1) (h + 1))) $$ Ho
  iapply (relay_wp Wk ν c 0 1 h hh _ (hR.add (((hb 0 0).add (ha 1 0)).add (ha 1 1))) _) $$ [Hw H01 Ho']
  · isplitr; · iexact Hctx
    isplitr; · iapply (readyTo_q (dst 0 c) 0 1 (min (h + 2) 62)); iexact Hr0
    isplitl [Hw]; · iexact Hw
    isplitl [H01]; · iexact H01
    iexact Ho'
  iintro ⟨Hw, H01, Ho⟩
  ihave Ho := (eq_debt c (oweL_01 c R (h + 2) (h + 2) (h + 1) (h + 1)).symm) $$ Ho
  ihave Ho' := (debt_eq c (oweL_10 c R (h + 2) (h + 2) (h + 1) (h + 1))) $$ Ho
  iapply (relay_wp Wk ν c 1 0 h hh _ (hR.add (((hb 0 0).add (hb 0 1)).add (ha 1 1))) _) $$ [Hw H10 Ho']
  · isplitr; · iexact Hctx
    isplitr; · iapply (readyTo_q (dst 1 c) 1 0 (min (h + 2) 62)); iexact Hr1
    isplitl [Hw]; · iexact Hw
    isplitl [H10]; · iexact H10
    iexact Ho'
  iintro ⟨Hw, H10, Ho⟩
  ihave Ho := (eq_debt c (oweL_10 c R (h + 2) (h + 2) (h + 2) (h + 1)).symm) $$ Ho
  ihave Ho' := (debt_eq c (oweL_11 c R (h + 2) (h + 2) (h + 2) (h + 1))) $$ Ho
  iapply (relay_wp Wk ν c 1 1 h hh _ (hR.add (((hb 0 0).add (hb 0 1)).add (hb 1 0))) _) $$ [Hw H11 Ho']
  · isplitr; · iexact Hctx
    isplitr; · iapply (readyTo_q (dst 1 c) 1 1 (min (h + 2) 62)); iexact Hr1
    isplitl [Hw]; · iexact Hw
    isplitl [H11]; · iexact H11
    iexact Ho'
  iintro ⟨Hw, H11, Ho⟩
  ihave Ho := (eq_debt c (oweL_11 c R (h + 2) (h + 2) (h + 2) (h + 2)).symm) $$ Ho
  iapply Hk
  iframe

/-- The elements the hops before `h` fill. -/
def done (h : ℕ) (i : S4096x2048.Idx) : Prop := ∃ (h' : ℕ) (d q : Fin 2), h' < h ∧ adds c d q h' i

theorem fin2 : ∀ d : Fin 2, d = 0 ∨ d = 1 := by decide

theorem done_succ (h : ℕ) (i : S4096x2048.Idx) (hd : done c (h + 1) i) :
    (((done c h i ∨ adds c 0 0 h i) ∨ adds c 0 1 h i) ∨ adds c 1 0 h i) ∨ adds c 1 1 h i := by
  obtain ⟨h', d, q, hlt, ha⟩ := hd
  rcases Nat.lt_or_ge h' h with hl | hl
  · exact .inl (.inl (.inl (.inl ⟨h', d, q, hl, ha⟩)))
  obtain rfl : h' = h := by omega
  rcases fin2 d with rfl | rfl
  · rcases fin2 q with rfl | rfl
    · exact .inl (.inl (.inl (.inr ha)))
    · exact .inl (.inl (.inr ha))
  · rcases fin2 q with rfl | rfl
    · exact .inl (.inr ha)
    · exact .inr ha

theorem outPts_mono (P Q : S4096x2048.Idx → Prop) (h : ∀ i, Q i → P i) : (outPts c g₀ P : sProp 𝕄) ⊢ outPts c g₀ Q := by
  unfold outPts
  iintro ⟨%g, %hg, H⟩
  iexists g
  isplitr; · ipureintro; exact fun i hi => hg i (h i hi)
  iexact H

/-- The outputs of hop `h`. -/
theorem outputs_wp (hg : Agrees Wk c g₀) (h : ℕ) (hh : h < 62) (K : PUnit → sProp 𝕄) :
    iprop(lanes4 (fun d q => laneB Wk c d q h) ∗ outPts c g₀ (done c h))
      ⊢ iprop((lanes4 (fun d q => laneB Wk c d q h) ∗ outPts c g₀ (done c (h + 1)) -∗ K ⟨⟩) -∗ runs c (lanes (output c h)) K) := by
  unfold lanes runs lanes4
  simp only [wp_bind]
  iintro ⟨⟨H00, H01, H10, H11⟩, Ho⟩ Hk
  iapply (output_wp Wk c g₀ hg 0 0 _ h hh _) $$ [H00 Ho]
  · isplitl [H00] <;> iassumption
  iintro ⟨H00, Ho⟩
  iapply (output_wp Wk c g₀ hg 0 1 _ h hh _) $$ [H01 Ho]
  · isplitl [H01] <;> iassumption
  iintro ⟨H01, Ho⟩
  iapply (output_wp Wk c g₀ hg 1 0 _ h hh _) $$ [H10 Ho]
  · isplitl [H10] <;> iassumption
  iintro ⟨H10, Ho⟩
  iapply (output_wp Wk c g₀ hg 1 1 _ h hh _) $$ [H11 Ho]
  · isplitl [H11] <;> iassumption
  iintro ⟨H11, Ho⟩
  ihave Ho := (outPts_mono c g₀ _ (done c (h + 1)) (done_succ c h)) $$ Ho
  iapply Hk
  iframe

/-- The waits for the sends of hop `h` to leave. -/
theorem leaves_wp (h : ℕ) (hh : h < 62) (O : CellTallies nD τ sig ℕ) (hO : Above 0 O) (K : PUnit → sProp 𝕄) :
    iprop(ctx Wk ν ∗ lanes4 (fun d q => laneB Wk c d q h) ∗ debt c O)
      ⊢ iprop((lanes4 (fun d q => lane Wk c d q (h + 1)) ∗ debt c O -∗ K ⟨⟩) -∗ runs c (lanes fun d q => waitSend d h q) K) := by
  unfold lanes runs lanes4 debt
  simp only [wp_bind]
  iintro ⟨#Hctx, ⟨H00, H01, H10, H11⟩, Ho⟩ Hk
  iapply (leave_wp Wk ν c 0 0 h hh O hO _) $$ [H00 Ho]
  · isplitr; · iexact Hctx
    isplitl [H00] <;> iassumption
  iintro ⟨H00, Ho⟩
  iapply (leave_wp Wk ν c 0 1 h hh O hO _) $$ [H01 Ho]
  · isplitr; · iexact Hctx
    isplitl [H01] <;> iassumption
  iintro ⟨H01, Ho⟩
  iapply (leave_wp Wk ν c 1 0 h hh O hO _) $$ [H10 Ho]
  · isplitr; · iexact Hctx
    isplitl [H10] <;> iassumption
  iintro ⟨H10, Ho⟩
  iapply (leave_wp Wk ν c 1 1 h hh O hO _) $$ [H11 Ho]
  · isplitr; · iexact Hctx
    isplitl [H11] <;> iassumption
  iintro ⟨H11, Ho⟩
  iapply Hk
  iframe

/-- The credits owed on the two rings. -/
def oweR (h : ℕ) : CellTallies nD τ sig ℕ := oweC c 0 (max 1 h) + oweC c 1 (max 1 h)

/-- A device before hop `h`. -/
def hopSt (h : ℕ) : sProp 𝕄 :=
  iprop(workPts c (Wk c) ∗ lanes4 (fun d q => lane Wk c d q h) ∗ outPts c g₀ (done c h)
    ∗ (creditToks c 0 (max 1 h) ∗ creditToks c 1 (max 1 h)) ∗ (credits c 0 (h - 2) ∗ credits c 1 (h - 2))
    ∗ debt c (oweR c h + oweL c (h + 1) (h + 1) (h + 1) (h + 1)))

/-- What the barrier told. -/
def peers : sProp 𝕄 := iprop(readyTo (dst 0 c) 0 3 ∗ readyTo (dst 1 c) 1 3)

instance peers_persistent : BI.Persistent (peers (F := F) c) := by unfold peers; infer_instance

/-- The waits for credits at the head of hop `h`. -/
theorem heads_wp (h : ℕ) (hh : h < 62) (O : CellTallies nD τ sig ℕ) (hO : Above (3 * h + 2) O) (K : PUnit → sProp 𝕄) :
    iprop(ctx Wk ν ∗ peers c ∗ (credits c 0 (h - 2) ∗ credits c 1 (h - 2)) ∗ debt c O)
      ⊢ iprop((readyTo (dst 0 c) 0 (min (h + 2) 62) ∗ readyTo (dst 1 c) 1 (min (h + 2) 62)
            ∗ (credits c 0 (h + 1 - 2) ∗ credits c 1 (h + 1 - 2)) ∗ debt c O -∗ K ⟨⟩)
          -∗ runs c (if 2 ≤ h then do semWaitWord (creditSem 0) 1#32; semWaitWord (creditSem 1) 1#32 else pure ⟨⟩) K) := by
  unfold runs peers
  by_cases h2 : 2 ≤ h
  · obtain ⟨k, rfl⟩ : ∃ k, h = k + 2 := ⟨h - 2, by omega⟩
    rw [if_pos h2, Nat.add_sub_cancel, show k + 2 + 1 - 2 = k + 1 by omega, show k + 2 + 2 = k + 4 from rfl]
    unfold debt
    simp only [wp_bind]
    iintro ⟨#Hctx, -, ⟨Hc0, Hc1⟩, Ho⟩ Hk
    iapply (credit_wp Wk ν c 0 k (by omega) O (hO.mono (by omega)) _) $$ [Hc0 Ho]
    · isplitr; · iexact Hctx
      isplitl [Hc0] <;> iassumption
    iintro ⟨Hc0, Hr0, Ho⟩
    iapply (credit_wp Wk ν c 1 k (by omega) O (hO.mono (by omega)) _) $$ [Hc1 Ho]
    · isplitr; · iexact Hctx
      isplitl [Hc1] <;> iassumption
    iintro ⟨Hc1, Hr1, Ho⟩
    iapply Hk
    iframe
  · rw [if_neg h2, Prog.pure_eq_ret, wp_ret, show h - 2 = 0 by omega, show h + 1 - 2 = 0 by omega]
    iintro ⟨-, ⟨Hr0, Hr1⟩, Hc, Ho⟩ Hk
    imodintro
    iapply Hk
    isplitl [Hr0]; · iapply (readyTo_mono (dst 0 c) 0 (min (h + 2) 62) 3 (by omega)); iexact Hr0
    isplitl [Hr1]; · iapply (readyTo_mono (dst 1 c) 1 (min (h + 2) 62) 3 (by omega)); iexact Hr1
    isplitl [Hc] <;> iassumption

theorem lane_ready (d q : Fin 2) (h : ℕ) : (lane Wk c d q h : sProp 𝕄) ⊢ readyQ c d q (min (max 3 (h + 2)) 62) := by
  unfold lane side
  iintro ⟨-, -, -, -, -, -, -, -, H, -⟩; iexact H

/-- The lanes know how far the device itself is ready. -/
theorem lanes_ready (h : ℕ) (h1 : 1 ≤ h) :
    lanes4 (fun d q => lane Wk c d q (h + 1)) ⊢ (iprop(readyTo c 0 (min (h + 3) 62) ∗ readyTo c 1 (min (h + 3) 62)) : sProp 𝕄) := by
  unfold lanes4 readyTo
  have e : min (max 3 (h + 1 + 2)) 62 = min (h + 3) 62 := by omega
  iintro ⟨H00, H01, H10, H11⟩
  ihave H00 := (lane_ready Wk c 0 0 (h + 1)) $$ H00
  ihave H01 := (lane_ready Wk c 0 1 (h + 1)) $$ H01
  ihave H10 := (lane_ready Wk c 1 0 (h + 1)) $$ H10
  ihave H11 := (lane_ready Wk c 1 1 (h + 1)) $$ H11
  rw [e]
  isplitl [H00 H01]
  · isplitl [H00] <;> iassumption
  · isplitl [H10] <;> iassumption

/-- The credits given at the end of hop `h`. -/
theorem tails_wp (h : ℕ) (hh : h < 62) (R : CellTallies nD τ sig ℕ) (K : PUnit → sProp 𝕄) :
    iprop(ctx Wk ν ∗ lanes4 (fun d q => lane Wk c d q (h + 1)) ∗ (creditToks c 0 (max 1 h) ∗ creditToks c 1 (max 1 h)) ∗ debt c (oweR c h + R))
      ⊢ iprop((lanes4 (fun d q => lane Wk c d q (h + 1)) ∗ (creditToks c 0 (max 1 (h + 1)) ∗ creditToks c 1 (max 1 (h + 1)))
            ∗ debt c (oweR c (h + 1) + R) -∗ K ⟨⟩)
          -∗ runs c (if 1 ≤ h then do semSignalWord (src 0 c) (creditSem 0) 1#32; semSignalWord (src 1 c) (creditSem 1) 1#32 else pure ⟨⟩) K) := by
  unfold runs oweR
  by_cases h1 : 1 ≤ h
  · rw [if_pos h1, show max 1 h = h by omega, show max 1 (h + 1) = h + 1 by omega]
    simp only [wp_bind]
    iintro ⟨#Hctx, Hl, ⟨Ht0, Ht1⟩, Ho⟩ Hk
    ihave #Hr := (lanes_ready Wk c h h1) $$ Hl
    icases Hr with ⟨#Hr0, #Hr1⟩
    ihave Ho := (debt_eq c (show oweC c 0 h + oweC c 1 h + R = oweC c 1 h + R + oweC c 0 h by simp only [add_assoc, add_comm, add_left_comm])) $$ Ho
    iapply (signal_wp Wk ν c 0 h h1 hh _ _) $$ [Ht0 Ho]
    · isplitr; · iexact Hctx
      isplitl [Ht0]; · iexact Ht0
      isplitr; · iexact Hr0
      iexact Ho
    iintro ⟨Ht0, Ho⟩
    ihave Ho := (eq_debt c (show oweC c 1 h + R + oweC c 0 (h + 1) = oweC c 0 (h + 1) + R + oweC c 1 h by simp only [add_assoc, add_comm, add_left_comm])) $$ Ho
    ihave Ho := (debt_eq c rfl) $$ Ho
    iapply (signal_wp Wk ν c 1 h h1 hh _ _) $$ [Ht1 Ho]
    · isplitr; · iexact Hctx
      isplitl [Ht1]; · iexact Ht1
      isplitr; · iexact Hr1
      iexact Ho
    iintro ⟨Ht1, Ho⟩
    ihave Ho := (eq_debt c (show oweC c 0 (h + 1) + R + oweC c 1 (h + 1) = oweC c 0 (h + 1) + oweC c 1 (h + 1) + R by simp only [add_assoc, add_comm, add_left_comm])) $$ Ho
    iapply Hk
    iframe
  · rw [if_neg h1, Prog.pure_eq_ret, wp_ret, show max 1 h = 1 by omega, show max 1 (h + 1) = 1 by omega]
    iintro ⟨-, Hl, Ht, Ho⟩ Hk
    imodintro
    iapply Hk
    iframe

/-- One hop. -/
theorem hop_wp (hg : Agrees Wk c g₀) (h : ℕ) (hh : h < 62) (K : PUnit → sProp 𝕄) :
    iprop(ctx Wk ν ∗ peers c ∗ hopSt Wk c g₀ h) ⊢ iprop((hopSt Wk c g₀ (h + 1) -∗ K ⟨⟩) -∗ runs c (hop c h) K) := by
  have hR : Above (3 * h + 3) (oweR c h) := (oweC_above c 0 _ _ (by omega)).add (oweC_above c 1 _ _ (by omega))
  have hL : Above (3 * h + 2) (oweL c (h + 1) (h + 1) (h + 1) (h + 1)) := oweL_above c _ _ _ _ _ (by omega)
  have hL2 : Above 0 (oweL c (h + 2) (h + 2) (h + 2) (h + 2)) := oweL_above c _ _ _ _ _ (by omega)
  unfold hop runs hopSt
  simp only [wp_bind]
  iintro ⟨#Hctx, #Hpeers, Hw, Hl, Hout, Ht, Hc, Ho⟩ Hk
  iapply (heads_wp Wk ν c h hh _ ((hR.mono (by omega)).add hL) _) $$ [Hc Ho]
  · isplitr; · iexact Hctx
    isplitr; · iexact Hpeers
    isplitl [Hc] <;> iassumption
  iintro ⟨#Hr0, #Hr1, Hc, Ho⟩
  iapply (relays_wp Wk ν c h hh (oweR c h) hR _) $$ [Hw Hl Ho]
  · isplitr; · iexact Hctx
    isplitr; · iexact Hr0
    isplitr; · iexact Hr1
    isplitl [Hw]; · iexact Hw
    isplitl [Hl] <;> iassumption
  iintro ⟨Hw, Hl, Ho⟩
  iapply (outputs_wp Wk c g₀ hg h hh _) $$ [Hl Hout]
  · isplitl [Hl] <;> iassumption
  iintro ⟨Hl, Hout⟩
  iapply (leaves_wp Wk ν c h hh _ ((hR.mono (by omega)).add hL2) _) $$ [Hl Ho]
  · isplitr; · iexact Hctx
    isplitl [Hl] <;> iassumption
  iintro ⟨Hl, Ho⟩
  iapply (tails_wp Wk ν c h hh _ _) $$ [Hl Ht Ho]
  · isplitr; · iexact Hctx
    isplitl [Hl]; · iexact Hl
    isplitl [Ht] <;> iassumption
  iintro ⟨Hl, Ht, Ho⟩
  iapply Hk
  iframe

/-- The hops from `h` on. -/
theorem hops_wp (hg : Agrees Wk c g₀) (n : ℕ) : ∀ (h : ℕ) (hh : h + n = 62) (K : PUnit → sProp 𝕄),
    iprop(ctx Wk ν ∗ peers c ∗ hopSt Wk c g₀ h) ⊢ iprop((hopSt Wk c g₀ 62 -∗ K ⟨⟩) -∗ runs c (hops c n h) K) := by
  induction n with
  | zero =>
    intro h hh K
    obtain rfl : h = 62 := by omega
    unfold hops runs
    rw [Prog.pure_eq_ret, wp_ret]
    iintro ⟨-, -, H⟩ Hk
    imodintro
    iapply Hk; iexact H
  | succ n ih =>
    intro h hh K
    unfold hops runs
    rw [wp_bind]
    iintro ⟨#Hctx, #Hpeers, H⟩ Hk
    iapply (hop_wp Wk ν c g₀ hg h (by omega) _) $$ [H]
    · isplitr; · iexact Hctx
      isplitr; · iexact Hpeers
      iexact H
    iintro H
    iapply (ih (h + 1) (by omega) K) $$ [H]
    · isplitr; · iexact Hctx
      isplitr; · iexact Hpeers
      iexact H
    iexact Hk

end Hops

end Cert.AllReduce

end
-- ==== Proof.Ring.lean ====
/-
# The whole ring on one device

A device gives its landing slots to its senders, signals them, waits for its own receivers, forms its product, starts
transfer `0` on all four lanes, makes its hops and waits for the last credits. In the end it has its buffers back and
every semaphore of its own is at zero.
-/
module

public import proofs.«01_k».proof.Proof.Hops

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Entering and leaving a lane -/

section Ends
variable (Wk : Works F) (ν : Names) (c : Dev nD) (d q : Fin 2)

def three (A : ℕ → sProp 𝕄) : sProp 𝕄 := iprop(A 0 ∗ A 1 ∗ A 2)

/-- A lane at the start. -/
def laneStart : sProp 𝕄 :=
  iprop(three (fun j => free (commM d) (at3 j) q c) ∗ three (fun j => free (stageM d) (at3 j) q c)
    ∗ three (fun j => Release.readerAt ES (c, d, at3 j, q) 0) ∗ three (fun j => recvPos c d q j) ∗ three (fun j => sendPos c d q j)
    ∗ supplies c d q 0 ∗ arrivals c d q 0)

/-- A lane once its landing slots are given away. -/
def laneIn : sProp 𝕄 :=
  iprop(three (fun j => free (stageM d) (at3 j) q c) ∗ three (fun j => readPos c d q j) ∗ three (fun j => recvPos c d q j)
    ∗ three (fun j => sendPos c d q j) ∗ supplies c d q 0 ∗ arrivals c d q 0 ∗ readyQ c d q 3)

/-- A lane at the end. -/
def laneEnd : sProp 𝕄 :=
  iprop(three (fun j => free (commM d) (at3 j) q c) ∗ three (fun j => free (stageM d) (at3 j) q c)
    ∗ three (fun j => semVal (recvCell c d j q) 0) ∗ three (fun j => semVal (sendCell c d j q) 0))

theorem give_first (j : ℕ) (hj : j < 3) :
    iprop(ctx Wk ν ∗ free (commM d) (at3 j) q c ∗ Release.readerAt ES (c, d, at3 j, q) 0 ∗ recvPos c d q j)
      ⊢ (|={Set.univ}=> (readPos c d q j ∗ ready c d q j ∗ recvPos c d q j) : sProp 𝕄) := by
  unfold readPos ready recvPos
  rw [show j / 3 = 0 by omega]
  iintro ⟨#Hctx, Hf, Hp, Hat, #Hr⟩
  ihave Hi := (ctx_slot Wk ν (c, d, at3 j, q)) $$ Hctx
  imod (Release.slot_release ES (S := freeKey (c, d, at3 j, q)) (Set.mem_univ _) (free_free_false (commM d) (at3 j) q c) 0) $$ [Hi Hp Hf] with ⟨Hp, Hrel⟩
  · isplitl [Hi]; · iexact Hi
    isplitl [Hp]; · iexact Hp
    unfold freeKey; iexact Hf
  imodintro
  isplitl [Hp]; · iexact Hp
  isplitl [Hrel]
  · isplitl [Hrel]; · iexact Hrel
    iexact Hr
  isplitl [Hat]; · iexact Hat
  iexact Hr

theorem readyQ_three : iprop(ready c d q 0 ∗ ready c d q 1 ∗ ready c d q 2) ⊢ (readyQ c d q 3 : sProp 𝕄) := by
  iintro ⟨H0, H1, H2⟩
  iapply (readyQ_succ c d q 2)
  isplitl [H2]; · iexact H2
  iapply (readyQ_succ c d q 1)
  isplitl [H1]; · iexact H1
  iapply (readyQ_succ c d q 0)
  isplitl [H0]; · iexact H0
  unfold readyQ
  rw [Finset.range_zero]
  iempintro

theorem enter_lane : iprop(ctx Wk ν ∗ laneStart c d q) ⊢ (|={Set.univ}=> laneIn c d q : sProp 𝕄) := by
  unfold laneStart laneIn three
  iintro ⟨#Hctx, ⟨Hf0, Hf1, Hf2⟩, Hst, ⟨Hp0, Hp1, Hp2⟩, ⟨Hr0, Hr1, Hr2⟩, Hs, Hsup, Harr⟩
  imod (give_first Wk ν c d q 0 (by omega)) $$ [Hf0 Hp0 Hr0] with ⟨Hp0, Hq0, Hr0⟩
  · isplitr; · iexact Hctx
    iframe
  imod (give_first Wk ν c d q 1 (by omega)) $$ [Hf1 Hp1 Hr1] with ⟨Hp1, Hq1, Hr1⟩
  · isplitr; · iexact Hctx
    iframe
  imod (give_first Wk ν c d q 2 (by omega)) $$ [Hf2 Hp2 Hr2] with ⟨Hp2, Hq2, Hr2⟩
  · isplitr; · iexact Hctx
    iframe
  ihave Hq := (readyQ_three c d q) $$ [Hq0 Hq1 Hq2]
  · iframe
  imodintro
  iframe

theorem laneIn_ready : (laneIn c d q : sProp 𝕄) ⊢ readyQ c d q 3 := by
  unfold laneIn
  iintro ⟨-, -, -, -, -, -, H⟩; iexact H

theorem sendPos_reached (j : ℕ) : (sendPos c d q j : sProp 𝕄) ⊢ iprop(sendPos c d q j ∗ reached ER (sendCell c d j q) (j / 3)) := by
  unfold sendPos
  iintro ⟨H, #Hr⟩
  isplitl [H]
  · isplitl [H]; · iexact H
    iexact Hr
  iexact Hr

/-- The first send on a lane. -/
theorem first_wp (O : CellTallies nD τ sig ℕ) (K : PUnit → sProp 𝕄) :
    iprop(ctx Wk ν ∗ ready (dst d c) d q 0 ∗ workPts c (Wk c) ∗ laneIn c d q ∗ (∃ W, owes (c : Thread nD τ) (O + oweT c d q 0) W))
      ⊢ iprop((workPts c (Wk c) ∗ lane Wk c d q 0 ∗ (∃ W, owes (c : Thread nD τ) (O + oweT c d q 1) W) -∗ K ⟨⟩) -∗ runs c (first c d q) K) := by
  unfold laneIn lane side first runs three
  rw [flyAt_fly _ _ _ _ _ (show 0 < 62 by omega), stages_rs _ _ _ _ (show 0 ≤ 31 by omega), old_off _ _ _ _ (by omega), reads_on _ _ _ _ (by omega),
    rest_none _ _ _ _ (by omega), supplies_succ c d q 0 (by omega)]
  simp only [wp_bind]
  iintro ⟨#Hctx, Hrdy, Hw, ⟨⟨Hst0, Hst1, Hst2⟩, ⟨Hp0, Hp1, Hp2⟩, ⟨Hr0, Hr1, Hr2⟩, ⟨Hs0, Hs1, Hs2⟩, ⟨Hsup, Hsups⟩, Harr, Hq⟩, Ho⟩ Hk
  ihave Hs0 := (sendPos_reached c d q 0) $$ Hs0
  icases Hs0 with ⟨Hs0, #Hs0r⟩
  iapply (load_work c (ownRect d c q) h_S64x1024 (Wk c) _) $$ Hw; iintro Hw
  iapply (load_free (stageM d) (at3 0) q c _) $$ Hst0; iintro %v0 Hst0
  iapply (store_free (stageM d) (at3 0) q c (stageM_whole d) _ _) $$ Hst0; iintro Hst0
  iapply (send_lane Wk ν c d q 0 (by omega) O K) $$ [Hrdy Hsup Hst0 Ho]
  · isplitr; · iexact Hctx
    isplitl [Hrdy]; · iexact Hrdy
    isplitl [Hsup]; · iexact Hsup
    isplitr; · iexact Hs0r
    isplitl [Hst0]
    · rw [srcM_stage d _ (by omega), srcS_stage _ (by omega)]; iexact Hst0
    iexact Ho
  iintro ⟨Hfly, Ho⟩
  iapply Hk
  iframe
  iexact Hq

theorem close_recv (j : ℕ) (hj : 62 ≤ j) : iprop(ctx Wk ν ∗ recvPos c d q j) ⊢ (|={Set.univ}=> semVal (recvCell c d j q) 0 : sProp 𝕄) := by
  unfold recvPos
  iintro ⟨#Hctx, Hat, -⟩
  imod (Rounds.cell_close ER (Rd Wk) (Set.mem_univ (ν.cell (c, kRecv d j q))) (fun h => h) (R := j / 3) (duties_recv_later Wk c d q j hj)) $$ [Hat] with Hz
  · isplitr; · iapply (ctx_cell Wk ν (c, kRecv d j q)); iexact Hctx
    iexact Hat
  imodintro; iexact Hz
theorem close_send (j : ℕ) (hj : 62 ≤ j) : iprop(ctx Wk ν ∗ sendPos c d q j) ⊢ (|={Set.univ}=> semVal (sendCell c d j q) 0 : sProp 𝕄) := by
  unfold sendPos
  iintro ⟨#Hctx, Hat, -⟩
  imod (Rounds.cell_close ER (Rd Wk) (Set.mem_univ (ν.cell (c, kSend d j q))) (fun h => h) (R := j / 3) (duties_send_later Wk c d q j hj)) $$ [Hat] with Hz
  · isplitr; · iapply (ctx_cell Wk ν (c, kSend d j q)); iexact Hctx
    iexact Hat
  imodintro; iexact Hz

theorem rest_end : (rest c d q 62 : sProp 𝕄) = iprop(free (commM d) (at3 59) q c ∗ free (commM d) (at3 60) q c) := by
  unfold rest
  rw [show 62 - 1 = 61 from rfl, bigSep_Ico_succ_bot (show 59 < 61 by omega), bigSep_Ico_succ_bot (show 59 + 1 < 61 by omega),
    Finset.Ico_eq_empty (show ¬ 59 + 1 + 1 < 61 by omega), bigSep_empty]
  exact congrArg (fun A => iprop(free (commM d) (at3 59) q c ∗ A)) (sep_emp_eq _)

theorem leave_lane : iprop(ctx Wk ν ∗ lane Wk c d q 62) ⊢ (|={Set.univ}=> laneEnd c d q : sProp 𝕄) := by
  unfold lane side laneEnd three
  rw [flyAt_end _ _ _ _ _ (show ¬ 62 < 62 by omega), stages_ag _ _ _ _ (show ¬ 62 ≤ 31 by omega), rest_end,
    srcM_comm d 62 (by omega), srcS_comm 62 (by omega)]
  iintro ⟨#Hctx, Hf, Hst, ⟨Hr0, Hr1, Hr2⟩, -, -, -, -, ⟨Hc0, Hc1⟩, -, Hs0, Hs1, Hs2⟩
  imod (close_recv Wk ν c d q 62 (by omega)) $$ [Hr0] with Hr0
  · isplitr; · iexact Hctx
    iexact Hr0
  imod (close_recv Wk ν c d q (62 + 1) (by omega)) $$ [Hr1] with Hr1
  · isplitr; · iexact Hctx
    iexact Hr1
  imod (close_recv Wk ν c d q (62 + 2) (by omega)) $$ [Hr2] with Hr2
  · isplitr; · iexact Hctx
    iexact Hr2
  imod (close_send Wk ν c d q 62 (by omega)) $$ [Hs0] with Hs0
  · isplitr; · iexact Hctx
    iexact Hs0
  imod (close_send Wk ν c d q (62 + 1) (by omega)) $$ [Hs1] with Hs1
  · isplitr; · iexact Hctx
    iexact Hs1
  imod (close_send Wk ν c d q (62 + 2) (by omega)) $$ [Hs2] with Hs2
  · isplitr; · iexact Hctx
    iexact Hs2
  ihave Hf := (free_of_held _ _ _ _ _) $$ Hf
  imodintro
  isplitl [Hc0 Hc1 Hf]
  · isplitl [Hc1]; · iexact Hc1
    isplitl [Hf]; · iexact Hf
    iexact Hc0
  isplitl [Hst]; · iexact Hst
  isplitl [Hr0 Hr1 Hr2]
  · isplitl [Hr1]; · iexact Hr1
    isplitl [Hr2]; · iexact Hr2
    iexact Hr0
  isplitl [Hs1]; · iexact Hs1
  isplitl [Hs2]; · iexact Hs2
  iexact Hs0

end Ends

/-! ## The ring -/

section Ring
variable (Wk : Works F) (ν : Names) (c : Dev nD) (g₀ : OutC F)

abbrev XC (F : FTy → Type) : Type := (cc0_stg0_0 : Ref sig .tc).ty.Contents (Elt F)
abbrev WC (F : FTy → Type) : Type := (cc0_stg1_0 : Ref sig .tc).ty.Contents (Elt F)
def xPts (x : XC F) : sProp 𝕄 := xM.view.loc (c : Thread nD τ) ↦[Finset.univ]{fullShare} x
def wPts (w : WC F) : sProp 𝕄 := wM.view.loc (c : Thread nD τ) ↦[Finset.univ]{fullShare} w

/-- What a device owes at the start. -/
def O₀ (c : Dev nD) : CellTallies nD τ sig ℕ :=
  oweR c 0 + oweL c 0 0 0 0 + tallyAt (barCell (src 1 c)) 0 1 + tallyAt (barCell (src 0 c)) 0 1

/-- A device's part in the protocol at the start. -/
def part : sProp 𝕄 :=
  iprop((dutyTok ER (barCell (src 0 c)) 0 0 ∗ dutyTok ER (barCell (src 1 c)) 0 1) ∗ cred (tallyAt (barCell c) 0 2) ∗ atPos ER (barCell c) 0 ∅ 0
    ∗ (creditToks c 0 1 ∗ creditToks c 1 1) ∗ (atPos ER (creditCell c 0) 0 ∅ 0 ∗ creditUnits c 0 1) ∗ (atPos ER (creditCell c 1) 0 ∅ 0 ∗ creditUnits c 1 1))

/-- Its semaphores that belong to no lane, at the end. -/
def zeros : sProp 𝕄 := iprop(semVal (barCell c) 0 ∗ semVal (creditCell c 0) 0 ∗ semVal (creditCell c 1) 0)

theorem credits_start (d : Fin 2) : iprop(atPos ER (creditCell c d) 0 ∅ 0 ∗ creditUnits c d 1) ⊢ (credits c d 0 : sProp 𝕄) := by
  unfold credits
  iintro ⟨Hat, Hc⟩
  isplitl [Hat]
  · iexists (∅ : Finset ℕ)
    isplitr; · ipureintro; exact ⟨Finset.empty_subset _, Nat.zero_le _⟩
    isplitl [Hat]; · iexact Hat
    rw [bigSep_empty]; iempintro
  iexact Hc

theorem close_credit (d : Fin 2) : iprop(ctx Wk ν ∗ atPos ER (creditCell c d) 1 ∅ 0) ⊢ (|={Set.univ}=> semVal (creditCell c d) 0 : sProp 𝕄) := by
  iintro ⟨#Hctx, Hat⟩
  imod (Rounds.cell_close ER (Rd Wk) (Set.mem_univ (ν.cell (c, kCredit d))) (fun h => h) (R := 1) (duties_credit_later Wk c d)) $$ [Hat] with Hz
  · isplitr; · iapply (ctx_cell Wk ν (c, kCredit d)); iexact Hctx
    iexact Hat
  imodintro; iexact Hz
theorem close_bar : iprop(ctx Wk ν ∗ atPos ER (barCell c) 1 ∅ 0) ⊢ (|={Set.univ}=> semVal (barCell c) 0 : sProp 𝕄) := by
  iintro ⟨#Hctx, Hat⟩
  imod (Rounds.cell_close ER (Rd Wk) (Set.mem_univ (ν.cell (c, kBar))) (fun h => h) (R := 1) (duties_bar_later Wk c)) $$ [Hat] with Hz
  · isplitr; · iapply (ctx_cell Wk ν (c, kBar)); iexact Hctx
    iexact Hat
  imodintro; iexact Hz

theorem lanesIn_ready :
    lanes4 (fun d q => laneIn c d q) ⊢ (iprop(readyTo c 0 3 ∗ readyTo c 1 3) : sProp 𝕄) := by
  unfold lanes4 readyTo
  iintro ⟨H00, H01, H10, H11⟩
  ihave H00 := (laneIn_ready c 0 0) $$ H00
  ihave H01 := (laneIn_ready c 0 1) $$ H01
  ihave H10 := (laneIn_ready c 1 0) $$ H10
  ihave H11 := (laneIn_ready c 1 1) $$ H11
  isplitl [H00 H01]
  · isplitl [H00] <;> iassumption
  · isplitl [H10] <;> iassumption

theorem enter_lanes : iprop(ctx Wk ν ∗ lanes4 (fun d q => laneStart c d q)) ⊢ (|={Set.univ}=> lanes4 (fun d q => laneIn c d q) : sProp 𝕄) := by
  unfold lanes4
  iintro ⟨#Hctx, H00, H01, H10, H11⟩
  imod (enter_lane Wk ν c 0 0) $$ [H00] with H00
  · isplitr; · iexact Hctx
    iexact H00
  imod (enter_lane Wk ν c 0 1) $$ [H01] with H01
  · isplitr; · iexact Hctx
    iexact H01
  imod (enter_lane Wk ν c 1 0) $$ [H10] with H10
  · isplitr; · iexact Hctx
    iexact H10
  imod (enter_lane Wk ν c 1 1) $$ [H11] with H11
  · isplitr; · iexact Hctx
    iexact H11
  imodintro
  iframe

theorem leave_lanes : iprop(ctx Wk ν ∗ lanes4 (fun d q => lane Wk c d q 62)) ⊢ (|={Set.univ}=> lanes4 (fun d q => laneEnd c d q) : sProp 𝕄) := by
  unfold lanes4
  iintro ⟨#Hctx, H00, H01, H10, H11⟩
  imod (leave_lane Wk ν c 0 0) $$ [H00] with H00
  · isplitr; · iexact Hctx
    iexact H00
  imod (leave_lane Wk ν c 0 1) $$ [H01] with H01
  · isplitr; · iexact Hctx
    iexact H01
  imod (leave_lane Wk ν c 1 0) $$ [H10] with H10
  · isplitr; · iexact Hctx
    iexact H10
  imod (leave_lane Wk ν c 1 1) $$ [H11] with H11
  · isplitr; · iexact Hctx
    iexact H11
  imodintro
  iframe

/-- The first sends. -/
theorem firsts_wp (R : CellTallies nD τ sig ℕ) (K : PUnit → sProp 𝕄) :
    iprop(ctx Wk ν ∗ peers c ∗ workPts c (Wk c) ∗ lanes4 (fun d q => laneIn c d q) ∗ debt c (R + oweL c 0 0 0 0))
      ⊢ iprop((workPts c (Wk c) ∗ lanes4 (fun d q => lane Wk c d q 0) ∗ debt c (R + oweL c 1 1 1 1) -∗ K ⟨⟩)
          -∗ runs c (lanes (first c)) K) := by
  unfold lanes runs lanes4 peers
  simp only [wp_bind]
  iintro ⟨#Hctx, ⟨#Hr0, #Hr1⟩, Hw, ⟨H00, H01, H10, H11⟩, Ho⟩ Hk
  ihave Hq00 := (((readyTo_q (dst 0 c) 0 0 3).trans (readyQ_at (dst 0 c) 0 0 3 0 (by omega)))) $$ Hr0
  ihave Hq01 := (((readyTo_q (dst 0 c) 0 1 3).trans (readyQ_at (dst 0 c) 0 1 3 0 (by omega)))) $$ Hr0
  ihave Hq10 := (((readyTo_q (dst 1 c) 1 0 3).trans (readyQ_at (dst 1 c) 1 0 3 0 (by omega)))) $$ Hr1
  ihave Hq11 := (((readyTo_q (dst 1 c) 1 1 3).trans (readyQ_at (dst 1 c) 1 1 3 0 (by omega)))) $$ Hr1
  ihave Ho' := (debt_eq c (oweL_00 c R 0 0 0 0)) $$ Ho
  iapply (first_wp Wk ν c 0 0 _ _) $$ [Hw H00 Hq00 Ho']
  · isplitr; · iexact Hctx
    isplitl [Hq00]; · iexact Hq00
    isplitl [Hw]; · iexact Hw
    isplitl [H00]; · iexact H00
    iexact Ho'
  iintro ⟨Hw, H00, Ho⟩
  ihave Ho := (eq_debt c (oweL_00 c R 1 0 0 0).symm) $$ Ho
  ihave Ho' := (debt_eq c (oweL_01 c R 1 0 0 0)) $$ Ho
  iapply (first_wp Wk ν c 0 1 _ _) $$ [Hw H01 Hq01 Ho']
  · isplitr; · iexact Hctx
    isplitl [Hq01]; · iexact Hq01
    isplitl [Hw]; · iexact Hw
    isplitl [H01]; · iexact H01
    iexact Ho'
  iintro ⟨Hw, H01, Ho⟩
  ihave Ho := (eq_debt c (oweL_01 c R 1 1 0 0).symm) $$ Ho
  ihave Ho' := (debt_eq c (oweL_10 c R 1 1 0 0)) $$ Ho
  iapply (first_wp Wk ν c 1 0 _ _) $$ [Hw H10 Hq10 Ho']
  · isplitr; · iexact Hctx
    isplitl [Hq10]; · iexact Hq10
    isplitl [Hw]; · iexact Hw
    isplitl [H10]; · iexact H10
    iexact Ho'
  iintro ⟨Hw, H10, Ho⟩
  ihave Ho := (eq_debt c (oweL_10 c R 1 1 1 0).symm) $$ Ho
  ihave Ho' := (debt_eq c (oweL_11 c R 1 1 1 0)) $$ Ho
  iapply (first_wp Wk ν c 1 1 _ _) $$ [Hw H11 Hq11 Ho']
  · isplitr; · iexact Hctx
    isplitl [Hq11]; · iexact Hq11
    isplitl [Hw]; · iexact Hw
    isplitl [H11]; · iexact H11
    iexact Ho'
  iintro ⟨Hw, H11, Ho⟩
  ihave Ho := (eq_debt c (oweL_11 c R 1 1 1 1).symm) $$ Ho
  iapply Hk
  iframe

theorem runs_def (p : Body F) (K : PUnit → sProp 𝕄) :
    runs c p K = wp (M := 𝕄) Idealize.ShloMosaic.frame (wpE (defs₀ (F := F)) 𝒱₀ (c : Thread nD τ) none) Set.univ p K := rfl

theorem hz : (![0, 0] : Fin 2 → Nat) = fun _ => 0 := funext fun a => by fin_cases a <;> rfl

/-- The device's product. -/
theorem work_wp (x : XC F) (w : WC F) (hW : Wk c = k0_pay1 x w) (K : PUnit → sProp 𝕄) (p : Body F) :
    iprop(xPts c x ∗ wPts c w ∗ (∃ f, workPts c f))
      ⊢ iprop((xPts c x ∗ wPts c w ∗ workPts c (Wk c) -∗ runs c p K)
          -∗ runs c (do
              let x : Vec F S4096x128 .bf16 ← Prog.lift (.load xM (Rect.unit (s := S4096x128) ![0, 0] S4096x128.size inb_S4096x128_S4096x128_0_0).toLoadRect (View.loadsAt_vmem h_S4096x128))
              let w : Vec F S128x2048 .bf16 ← Prog.lift (.load wM (Rect.unit (s := S128x2048) ![0, 0] S128x2048.size inb_S128x2048_S128x2048_0_0).toLoadRect (View.loadsAt_vmem h_S128x2048))
              let _ : Vec F S4096x2048 .bf16 ← Prog.lift (.load workM (Rect.unit (s := S4096x2048) ![0, 0] S4096x2048.size inb_S4096x2048_S4096x2048_0_0).toLoadRect (View.loadsAt_vmem h_S4096x2048))
              Prog.lift (.store workM (Rect.unit (s := S4096x2048) ![0, 0] S4096x2048.size inb_S4096x2048_S4096x2048_0_0) (k0_pay1 x w) Finset.univ (View.stores_vmem h_S4096x2048 ((Memref.isWhole_whole _).storeExact_slice rfl _ packedbf16_S4096x2048_S4096x2048_0_0) (fun _ => rfl)) (.inl rfl))
              p) K) := by
  unfold runs xPts wPts workPts
  simp only [wp_bind]
  iintro ⟨Hx, Hw, ⟨%f, Hf⟩⟩ Hk
  iapply (wp_load 𝒱₀ (c : Thread nD τ) none Set.univ (m := xM) (Finset.subset_univ _)) $$ Hx; iintro Hx
  rw [wp_ret]; imodintro
  iapply (wp_load 𝒱₀ (c : Thread nD τ) none Set.univ (m := wM) (Finset.subset_univ _)) $$ Hw; iintro Hw
  rw [wp_ret]; imodintro
  iapply (wp_load 𝒱₀ (c : Thread nD τ) none Set.univ (m := workM) (Finset.subset_univ _)) $$ Hf; iintro Hf
  rw [wp_ret]; imodintro
  iapply (wp_store 𝒱₀ (c : Thread nD τ) none Set.univ (m := workM) (r := Rect.unit (s := S4096x2048) ![0, 0] S4096x2048.size inb_S4096x2048_S4096x2048_0_0)
    (Mk := Finset.univ) (S := Finset.univ) (Finset.subset_univ _)) $$ Hf; iintro Hf
  rw [wp_ret]; imodintro
  iapply Hk
  isplitl [Hx]; · iexact Hx
  isplitl [Hw]; · iexact Hw
  have e : (workM.access (Rect.unit (s := S4096x2048) ![0, 0] S4096x2048.size inb_S4096x2048_S4096x2048_0_0) : View sig .tc _ _ _).write (Elt F) f
      (k0_pay1 (xM.view.readAt (Elt F) (Rect.unit (s := S4096x128) ![0, 0] S4096x128.size inb_S4096x128_S4096x128_0_0).toLoadRect x)
        (wM.view.readAt (Elt F) (Rect.unit (s := S128x2048) ![0, 0] S128x2048.size inb_S128x2048_S128x2048_0_0).toLoadRect w)) Finset.univ = Wk c := by
    rw [hW, show xM.view.readAt (Elt F) (Rect.unit (s := S4096x128) ![0, 0] S4096x128.size inb_S4096x128_S4096x128_0_0).toLoadRect x = x from
        Memref.readAt_unit_zero (Elt F) cc0_stg0_0 hz _ x,
      show wM.view.readAt (Elt F) (Rect.unit (s := S128x2048) ![0, 0] S128x2048.size inb_S128x2048_S128x2048_0_0).toLoadRect w = w from
        Memref.readAt_unit_zero (Elt F) cc0_stg1_0 hz _ w]
    exact Memref.write_access_unit_zero_univ (Elt F) cc0_scratch0 hz _ f _
  rw [← e]
  iexact Hf

/-- What a device has at the start, -/
def ringStart (x : XC F) (w : WC F) : sProp 𝕄 :=
  iprop((xPts c x ∗ wPts c w ∗ (∃ f, workPts c f)) ∗ outPts c g₀ (fun _ => False) ∗ lanes4 (fun d q => laneStart c d q) ∗ part c)
/-- and at the end. -/
def ringEnd (x : XC F) (w : WC F) : sProp 𝕄 :=
  iprop((xPts c x ∗ wPts c w ∗ (∃ f, workPts c f)) ∗ outPts c g₀ (done c 62) ∗ lanes4 (fun d q => laneEnd c d q) ∗ zeros c)

theorem O₀_rest_above : Above 1 (oweR c 0 + oweL c 0 0 0 0) :=
  ((oweC_above c 0 _ _ (by omega)).add (oweC_above c 1 _ _ (by omega))).add (oweL_above c _ _ _ _ _ (by omega))

theorem owed_end : oweR c 62 + oweL c (62 + 1) (62 + 1) (62 + 1) (62 + 1) = 0 := by
  unfold oweR oweL
  rw [oweC_end _ _ _ (by omega), oweC_end _ _ _ (by omega), oweT_end _ _ _ _ (by omega), oweT_end _ _ _ _ (by omega), oweT_end _ _ _ _ (by omega),
    oweT_end _ _ _ _ (by omega)]
  simp only [add_zero]

/-- The last credits, and the end. -/
theorem finish_wp (x : XC F) (w : WC F) (K : PUnit → sProp 𝕄) :
    iprop(ctx Wk ν ∗ xPts c x ∗ wPts c w ∗ atPos ER (barCell c) 1 ∅ 0 ∗ hopSt Wk c g₀ 62)
      ⊢ iprop((ringEnd c g₀ x w ∗ debt c 0 -∗ K ⟨⟩)
          -∗ runs c (do semWaitWord (creditSem 0) 1#32; semWaitWord (creditSem 1) 1#32) K) := by
  unfold hopSt ringEnd zeros
  rw [owed_end, runs_def]
  unfold debt
  iintro ⟨#Hctx, Hx, Hw, Hab, ⟨Hf, Hl, Hout, -, ⟨Hc0, Hc1⟩, Ho⟩⟩ Hk
  iapply (wp_fupd Idealize.ShloMosaic.frame (wpE (defs₀ (F := F)) 𝒱₀ (c : Thread nD τ) none) (E := Set.univ) _ K)
  rw [wp_bind]
  iapply (credit_last_wp Wk ν c 0 0 (Above.zero _) _) $$ [Hc0 Ho]
  · isplitr; · iexact Hctx
    isplitl [Hc0] <;> iassumption
  iintro ⟨Hc0, Ho⟩
  iapply (credit_last_wp Wk ν c 1 0 (Above.zero _) _) $$ [Hc1 Ho]
  · isplitr; · iexact Hctx
    isplitl [Hc1] <;> iassumption
  iintro ⟨Hc1, Ho⟩
  imod (leave_lanes Wk ν c) $$ [Hl] with Hl
  · isplitr; · iexact Hctx
    iexact Hl
  imod (close_bar Wk ν c) $$ [Hab] with Hzb
  · isplitr; · iexact Hctx
    iexact Hab
  imod (close_credit Wk ν c 0) $$ [Hc0] with Hz0
  · isplitr; · iexact Hctx
    iexact Hc0
  imod (close_credit Wk ν c 1) $$ [Hc1] with Hz1
  · isplitr; · iexact Hctx
    iexact Hc1
  imodintro
  iapply Hk
  isplitr [Ho]
  · isplitl [Hx Hw Hf]
    · isplitl [Hx]; · iexact Hx
      isplitl [Hw]; · iexact Hw
      iexists (Wk c); iexact Hf
    isplitl [Hout]; · iexact Hout
    isplitl [Hl]; · iexact Hl
    isplitl [Hzb]; · iexact Hzb
    isplitl [Hz0] <;> iassumption
  iexact Ho

/-- The ring on device `c`. -/
theorem ring_wp (x : XC F) (w : WC F) (hW : Wk c = k0_pay1 x w) (hg : Agrees Wk c g₀) (W : Waits sig ℕ) (K : PUnit → sProp 𝕄) :
    iprop(ctx Wk ν ∗ ringStart c g₀ x w ∗ owes (c : Thread nD τ) (O₀ c) W)
      ⊢ iprop((ringEnd c g₀ x w ∗ debt c 0 -∗ K ⟨⟩) -∗ runs c (ring c) K) := by
  unfold ring ringStart ringEnd part zeros O₀
  rw [runs_def]
  iintro ⟨#Hctx, ⟨Hbuf, Hout, Hl, ⟨Htb0, Htb1⟩, Hcb, Hab, Htc, Hc0, Hc1⟩, Ho⟩ Hk
  imod (enter_lanes Wk ν c) $$ [Hl] with Hl
  · isplitr; · iexact Hctx
    iexact Hl
  ihave #Hr := (lanesIn_ready c) $$ Hl
  icases Hr with ⟨#Hr0, #Hr1⟩
  rw [wp_bind]
  iapply (enter_wp Wk ν c 0 (oweR c 0 + oweL c 0 0 0 0 + tallyAt (barCell (src 1 c)) 0 1) W _) $$ [Htb0 Ho]
  · isplitr; · iexact Hctx
    isplitl [Htb0]; · iexact Htb0
    isplitr; · iexact Hr0
    iexact Ho
  iintro Ho
  rw [wp_bind]
  iapply (enter_wp Wk ν c 1 (oweR c 0 + oweL c 0 0 0 0) W _) $$ [Htb1 Ho]
  · isplitr; · iexact Hctx
    isplitl [Htb1]; · iexact Htb1
    isplitr; · iexact Hr1
    iexact Ho
  iintro Ho
  rw [wp_bind]
  iapply (barrier_wp Wk ν c (oweR c 0 + oweL c 0 0 0 0) (O₀_rest_above c) W _) $$ [Hcb Hab Ho]
  · isplitr; · iexact Hctx
    isplitl [Hcb]; · iexact Hcb
    isplitl [Hab]; · iexact Hab
    iexact Ho
  iintro ⟨Hab, #Hp0, #Hp1, Ho⟩
  iapply (work_wp Wk c x w hW K _) $$ [Hbuf]
  · iexact Hbuf
  iintro ⟨Hx, Hw, Hf⟩
  unfold runs
  rw [wp_bind]
  iapply (firsts_wp Wk ν c (oweR c 0) _) $$ [Hf Hl Ho]
  · isplitr; · iexact Hctx
    isplitr
    · unfold peers; isplitr; · iexact Hp0
      iexact Hp1
    isplitl [Hf]; · iexact Hf
    isplitl [Hl]; · iexact Hl
    unfold debt; iexact Ho
  iintro ⟨Hf, Hl, Ho⟩
  ihave Hc0 := (credits_start c 0) $$ Hc0
  ihave Hc1 := (credits_start c 1) $$ Hc1
  rw [wp_bind]
  iapply (hops_wp Wk ν c g₀ hg 62 0 rfl _) $$ [Hf Hl Hout Htc Hc0 Hc1 Ho]
  · isplitr; · iexact Hctx
    isplitr
    · unfold peers; isplitr; · iexact Hp0
      iexact Hp1
    unfold hopSt
    isplitl [Hf]; · iexact Hf
    isplitl [Hl]; · iexact Hl
    isplitl [Hout]
    · iapply (outPts_mono c g₀ (fun _ => False) (done c 0) (fun i hi => by obtain ⟨h', d, q, hlt, -⟩ := hi; omega)); iexact Hout
    isplitl [Htc]; · iexact Htc
    isplitl [Hc0 Hc1]; · isplitl [Hc0] <;> iassumption
    iexact Ho
  iintro H
  iapply (finish_wp Wk ν c g₀ x w K) $$ [H Hx Hw Hab] [Hk]
  · isplitr; · iexact Hctx
    isplitl [Hx]; · iexact Hx
    isplitl [Hw]; · iexact Hw
    isplitl [Hab] <;> iassumption
  unfold ringEnd zeros
  iexact Hk

end Ring

end Cert.AllReduce

end
-- ==== Proof.Deal.lean ====
/-
# Dealing out the protocol

What is made at launch — places at the semaphores, the right to pay each duty once, the right to write each slot once
per transfer — is dealt to the devices: each gets its own places, and the rights to what it pays and writes on its
neighbours.
-/
module

public import proofs.«01_k».proof.Proof.Ring
public import Idealize.ShloMosaic.Lib.Ring

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Families -/

theorem all_sum {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

theorem all_lanes4 (A : Dev nD → Fin 2 → Fin 2 → sProp 𝕄) :
    (bigSep Finset.univ fun c => lanes4 (A c)) = lanes4 (fun d q => bigSep Finset.univ fun c => A c d q) := by
  unfold lanes4; rw [bigSep_sep', bigSep_sep', bigSep_sep']

theorem lanes4_sep (A B : Fin 2 → Fin 2 → sProp 𝕄) : iprop(lanes4 A ∗ lanes4 B) ⊢ lanes4 (fun d q => iprop(A d q ∗ B d q)) := by
  unfold lanes4
  beta_reduce
  iintro ⟨⟨H1, H2, H3, H4⟩, G1, G2, G3, G4⟩
  iframe

theorem lanes4_mono (A B : Fin 2 → Fin 2 → sProp 𝕄) (h : ∀ d q, A d q ⊢ B d q) : lanes4 A ⊢ lanes4 B := by
  unfold lanes4
  exact BIClass.sep_mono (h 0 0) (BIClass.sep_mono (h 0 1) (BIClass.sep_mono (h 1 0) (h 1 1)))

theorem lanes_all (Φ : Fin 2 × Fin 2 → sProp 𝕄) : bigSep Finset.univ Φ = lanes4 (fun d q => Φ (d, q)) :=
  bigSep_univ_eq_bigSepL [(0, 0), (0, 1), (1, 0), (1, 1)] (by decide) (by decide) Φ

theorem three_all (Φ : Fin 3 → sProp 𝕄) : bigSep Finset.univ Φ = three (fun j => Φ (at3 j)) :=
  bigSep_univ_eq_bigSepL [0, 1, 2] (by decide) (by decide) Φ

/-- A ring, a half and a slot, in the two orders. -/
def order : (Fin 2 × Fin 2) × Fin 3 ≃ Fin 2 × Fin 3 × Fin 2 where
  toFun x := (x.1.1, x.2, x.1.2)
  invFun y := ((y.1, y.2.2), y.2.1)
  left_inv _ := rfl
  right_inv _ := rfl

theorem slots_all (Φ : Fin 2 × Fin 3 × Fin 2 → sProp 𝕄) :
    bigSep Finset.univ Φ = lanes4 (fun d q => three fun j => Φ (d, at3 j, q)) := by
  rw [bigSep_univ_equiv order, bigSep_univ_prod, lanes_all]
  simp only [three_all]
  rfl

theorem kinds_all (Φ : Kind → sProp 𝕄) :
    bigSep Finset.univ Φ = iprop(Φ kBar ∗ (Φ (kCredit 0) ∗ Φ (kCredit 1)) ∗ lanes4 (fun d q => three fun j => Φ (kSend d j q))
      ∗ lanes4 (fun d q => three fun j => Φ (kRecv d j q))) := by
  rw [all_sum, all_sum, all_sum, bigSep_univ_two, slots_all, slots_all,
    show (bigSep Finset.univ fun a : Unit => Φ (.inl a)) = Φ kBar from bigSep_singleton]

theorem trips62 (Φ : (Fin 2 × Fin 2) × Fin 62 → sProp 𝕄) :
    bigSep Finset.univ Φ = lanes4 (fun d q => bigSep Finset.univ fun j => Φ ((d, q), j)) := by
  rw [bigSep_univ_prod, lanes_all]

theorem credits62 (Φ : Fin 2 × Fin 62 → sProp 𝕄) :
    bigSep Finset.univ Φ = iprop((bigSep Finset.univ fun j => Φ (0, j)) ∗ (bigSep Finset.univ fun j => Φ (1, j))) := by
  rw [bigSep_univ_prod, bigSep_univ_two]

theorem upto (Φ : ℕ → sProp 𝕄) : (bigSep Finset.univ fun j : Fin 62 => Φ j.val) = bigSep (Finset.Ico 0 62) Φ := by
  rw [show Finset.Ico 0 62 = (Finset.univ : Finset (Fin 62)).map Fin.valEmbedding from by decide, bigSep_map]
  rfl

/-! ## The duties -/

/-- A duty: the barrier's two, a credit, a departure, an arrival. -/
abbrev Duty : Type := Fin 2 ⊕ (Fin 2 × Fin 62) ⊕ ((Fin 2 × Fin 2) × Fin 62) ⊕ ((Fin 2 × Fin 2) × Fin 62)

def dutyAt : Duty → Kind × ℕ × ℕ
  | .inl i => (kBar, 0, i.val)
  | .inr (.inl (d, i)) => (kCredit d, 0, i.val)
  | .inr (.inr (.inl ((d, q), j))) => (kSend d j.val q, j.val / 3, 0)
  | .inr (.inr (.inr ((d, q), j))) => (kRecv d j.val q, j.val / 3, 0)

theorem at3_div (j j' : ℕ) (h : at3 j = at3 j') (h' : j / 3 = j' / 3) : j = j' := by
  have := congrArg Fin.val h
  unfold at3 at this; simp only at this; omega

theorem dutyAt_injective : Function.Injective dutyAt := by
  rintro (i | ⟨d, i⟩ | ⟨⟨d, q⟩, j⟩ | ⟨⟨d, q⟩, j⟩) (i' | ⟨d', i'⟩ | ⟨⟨d', q'⟩, j'⟩ | ⟨⟨d', q'⟩, j'⟩) h <;>
    simp only [dutyAt, Prod.mk.injEq, Sum.inl.injEq, Sum.inr.injEq, reduceCtorEq, false_and, and_false] at h ⊢
  · exact Fin.ext h.2.2
  · exact ⟨h.1, Fin.ext h.2.2⟩
  · exact ⟨⟨h.1.1, h.1.2.2⟩, Fin.ext (at3_div _ _ h.1.2.1 h.2.1)⟩
  · exact ⟨⟨h.1.1, h.1.2.2⟩, Fin.ext (at3_div _ _ h.1.2.1 h.2.1)⟩

theorem kcell_injective : Function.Injective (kcell : Dev nD × Kind → GSem nD τ sig) := by
  rintro ⟨c, k⟩ ⟨c', k'⟩ h
  have h1 : c = c' := congrArg (fun g : GSem nD τ sig => g.1.1) h
  have h2 : k = k' := csem_injective (congrArg Prod.snd h)
  rw [h1, h2]

def tokOf (x : Dev nD × Duty) : GSem nD τ sig × ℕ × ℕ := (kcell (x.1, (dutyAt x.2).1), (dutyAt x.2).2)

theorem tokOf_injective : Function.Injective tokOf := by
  rintro ⟨c, t⟩ ⟨c', t'⟩ h
  have h1 := kcell_injective (congrArg Prod.fst h)
  have h2 : (dutyAt t).2 = (dutyAt t').2 := congrArg (fun x : GSem nD τ sig × ℕ × ℕ => x.2) h
  have h3 : c = c' := congrArg Prod.fst h1
  have h4 : t = t' := dutyAt_injective (Prod.ext (congrArg Prod.snd h1) h2)
  rw [h3, h4]

def allCells : Finset (GSem nD τ sig) := Finset.univ.map ⟨kcell, kcell_injective⟩
def allToks : Finset (GSem nD τ sig × ℕ × ℕ) := Finset.univ.map ⟨tokOf, tokOf_injective⟩

theorem allCells_sep (Φ : GSem nD τ sig → sProp 𝕄) :
    bigSep allCells Φ = bigSep Finset.univ fun c : Dev nD => bigSep Finset.univ fun k : Kind => Φ (kcell (c, k)) := by
  unfold allCells; rw [bigSep_map, bigSep_univ_prod]; rfl

/-- The duties of a device's own semaphores, to be paid by its neighbours and itself. -/
theorem duties_all (Φ : GSem nD τ sig × ℕ × ℕ → sProp 𝕄) :
    bigSep allToks Φ = bigSep Finset.univ fun c : Dev nD =>
      iprop((Φ (barCell c, 0, 0) ∗ Φ (barCell c, 0, 1))
        ∗ ((bigSep (Finset.Ico 0 62) fun i => Φ (creditCell c 0, 0, i)) ∗ (bigSep (Finset.Ico 0 62) fun i => Φ (creditCell c 1, 0, i)))
        ∗ lanes4 (fun d q => bigSep (Finset.Ico 0 62) fun j => Φ (sendCell c d j q, j / 3, 0))
        ∗ lanes4 (fun d q => bigSep (Finset.Ico 0 62) fun j => Φ (recvCell c d j q, j / 3, 0))) := by
  unfold allToks
  rw [bigSep_map, bigSep_univ_prod]
  refine bigSep_congr fun c _ => ?_
  rw [all_sum, all_sum, all_sum, bigSep_univ_two, credits62, trips62, trips62]
  simp only [← upto]
  rfl

/-! ## Dealing -/

/-- A family over the devices, counted from a ring's next device or its previous one. -/
theorem from_dst (d : Fin 2) (Φ : Dev nD → sProp 𝕄) : bigSep Finset.univ Φ = bigSep Finset.univ fun c => Φ (dst d c) :=
  bigSep_univ_equiv (around d) Φ
theorem from_src (d : Fin 2) (Φ : Dev nD → sProp 𝕄) : bigSep Finset.univ Φ = bigSep Finset.univ fun c => Φ (src d c) :=
  bigSep_univ_equiv (around d).symm Φ

/-- The rights a device has: the barriers, the credits, its transfers. -/
def rights (c : Dev nD) : sProp 𝕄 :=
  iprop((dutyTok ER (barCell (src 0 c)) 0 0 ∗ dutyTok ER (barCell (src 1 c)) 0 1) ∗ (creditToks c 0 0 ∗ creditToks c 1 0)
    ∗ lanes4 fun d q => supplies c d q 0)

/-- Each transfer's slot and trip. -/
def tripOf (x : Dev nD × (Fin 2 × Fin 2) × Fin 62) : Key × ℕ := ((x.1, x.2.1.1, at3 x.2.2.val, x.2.1.2), x.2.2.val / 3)
theorem tripOf_injective : Function.Injective tripOf := by
  rintro ⟨c, ⟨d, q⟩, j⟩ ⟨c', ⟨d', q'⟩, j'⟩ h
  simp only [tripOf, Prod.mk.injEq] at h ⊢
  exact ⟨h.1.1, ⟨h.1.2.1, h.1.2.2.2⟩, Fin.ext (at3_div _ _ h.1.2.2.1 h.2)⟩

theorem trips_all (Φ : Key × ℕ → sProp 𝕄) :
    bigSep ((Finset.univ : Finset Key) ×ˢ Finset.range 21) Φ
      ⊢ bigSep Finset.univ fun c : Dev nD => lanes4 (fun d q => bigSep (Finset.Ico 0 62) fun j => Φ ((c, d, at3 j, q), j / 3)) := by
  refine (show _ ⊢ bigSep (Finset.univ.map ⟨tripOf, tripOf_injective⟩) Φ from bigSep_subset fun x hx => ?_).trans (Entails.of_eq ?_)
  · obtain ⟨y, -, rfl⟩ := Finset.mem_map.mp hx
    have := y.2.2.isLt
    exact Finset.mem_product.mpr ⟨Finset.mem_univ _, Finset.mem_range.mpr (by show y.2.2.val / 3 < 21; omega)⟩
  · rw [bigSep_map, bigSep_univ_prod]
    refine bigSep_congr fun c _ => ?_
    rw [trips62]
    simp only [← upto]
    rfl

theorem deal_lanes :
    iprop((bigSep Finset.univ fun c : Dev nD => lanes4 (fun d q => bigSep (Finset.Ico 0 62) fun j => dutyTok ER (sendCell c d j q) (j / 3) 0))
        ∗ (bigSep Finset.univ fun c : Dev nD => lanes4 (fun d q => bigSep (Finset.Ico 0 62) fun j => dutyTok ER (recvCell c d j q) (j / 3) 0))
        ∗ (bigSep Finset.univ fun c : Dev nD => lanes4 (fun d q => bigSep (Finset.Ico 0 62) fun j => Release.writeTok ES (c, d, at3 j, q) (j / 3 + 1))))
      ⊢ (bigSep Finset.univ fun c : Dev nD => lanes4 fun d q => supplies c d q 0 : sProp 𝕄) := by
  rw [all_lanes4, all_lanes4, all_lanes4, all_lanes4]
  refine (BIClass.sep_mono .rfl (lanes4_sep _ _)).trans ((lanes4_sep _ _).trans (lanes4_mono _ _ fun d q => Entails.of_eq ?_))
  rw [from_dst d (fun c => bigSep (Finset.Ico 0 62) fun j => (dutyTok ER (recvCell c d j q) (j / 3) 0 : sProp 𝕄)),
    from_dst d (fun c => bigSep (Finset.Ico 0 62) fun j => (Release.writeTok ES (c, d, at3 j, q) (j / 3 + 1) : sProp 𝕄)),
    ← bigSep_sep', ← bigSep_sep']
  refine bigSep_congr fun c _ => ?_
  rw [← bigSep_sep', ← bigSep_sep']
  rfl

theorem deal_rights :
    iprop((bigSep allToks fun x => dutyTok ER x.1 x.2.1 x.2.2)
        ∗ bigSep ((Finset.univ : Finset Key) ×ˢ Finset.range 21) fun x => Release.writeTok ES x.1 (x.2 + 1))
      ⊢ (bigSep Finset.univ fun c => rights c : sProp 𝕄) := by
  unfold rights creditToks
  rw [duties_all, bigSep_sep', bigSep_sep', bigSep_sep', bigSep_sep', bigSep_sep', bigSep_sep', bigSep_sep', bigSep_sep', bigSep_sep',
    from_src 0 (fun c => (dutyTok ER (barCell c) 0 0 : sProp 𝕄)), from_src 1 (fun c => (dutyTok ER (barCell c) 0 1 : sProp 𝕄)),
    from_src 0 (fun c => bigSep (Finset.Ico 0 62) fun i => (dutyTok ER (creditCell c 0) 0 i : sProp 𝕄)),
    from_src 1 (fun c => bigSep (Finset.Ico 0 62) fun i => (dutyTok ER (creditCell c 1) 0 i : sProp 𝕄))]
  iintro ⟨⟨Hb, Hc, Hs, Hr⟩, Hw⟩
  ihave Hw := (trips_all _) $$ Hw
  isplitl [Hb]; · iexact Hb
  isplitl [Hc]; · iexact Hc
  iapply (deal_lanes (F := F))
  isplitl [Hs]; · iexact Hs
  isplitl [Hr] <;> iassumption

/-- A device's places at its semaphores and slots. -/
def places (c : Dev nD) : sProp 𝕄 :=
  iprop((bigSep Finset.univ fun k : Kind => atPos ER (kcell (c, k)) 0 ∅ 0)
    ∗ lanes4 fun d q => three fun j => Release.readerAt ES (c, d, at3 j, q) 0)

/-- What all know of slots and rounds. -/
def known : sProp 𝕄 :=
  iprop((∃ ιs : Key → ℕ, bigSep Finset.univ fun k : Key => Release.slotInv ES (ιs k) k (freeKey k))
    ∗ (bigSep Finset.univ fun ck : Dev nD × Kind => reached ER (kcell ck) 0))
instance known_persistent : BI.Persistent (known (F := F)) := by unfold known; infer_instance

def dealt (c : Dev nD) : sProp 𝕄 := iprop(places c ∗ rights c ∗ known)

theorem fund (Wk : Works F) :
    iprop(BI.own (ER (initOf allCells allToks)) ∗ BI.own (ES (Release.initSlots (Finset.univ : Finset Key) 21)))
      ⊢ (|={Set.univ}=> bigSep Finset.univ fun c : Dev nD =>
          iprop((bigSep Finset.univ fun k : Kind => roundState ER (Rd Wk) (kcell (c, k)) 0) ∗ dealt c) : sProp 𝕄) := by
  iintro ⟨HR, HS⟩
  imod (Rounds.fund ER (Rd Wk) allCells allToks) $$ HR with ⟨Hst, Hr, Hat, Htok⟩
  imod (Release.slots_init ES (Finset.univ : Finset Key) 21 freeKey) $$ HS with ⟨%ιs, -, #Hinv, Hrd, Hw⟩
  imodintro
  ihave Hrights := (deal_rights (F := F)) $$ [Htok Hw]
  · isplitl [Htok] <;> iassumption
  ihave Hst := (Entails.of_eq (allCells_sep fun g => roundState ER (Rd Wk) g 0)) $$ Hst
  ihave Hat := (Entails.of_eq (allCells_sep fun g => atPos ER g 0 ∅ 0)) $$ Hat
  ihave #Hr := (Entails.of_eq ((allCells_sep (F := F) fun g => reached ER g 0).trans (bigSep_univ_prod fun ck : Dev nD × Kind => (reached ER (kcell ck) 0 : sProp 𝕄)).symm)) $$ Hr
  ihave Hrd := (Entails.of_eq ((bigSep_univ_prod (fun k : Key => (Release.readerAt ES k 0 : sProp 𝕄))).trans
    (bigSep_congr fun c _ => slots_all fun x => (Release.readerAt ES (c, x) 0 : sProp 𝕄)))) $$ Hrd
  ihave #Hk := (show iprop((bigSep Finset.univ fun k : Key => Release.slotInv ES (ιs k) k (freeKey (F := F) k))
      ∗ (bigSep Finset.univ fun ck : Dev nD × Kind => reached ER (kcell ck) 0)) ⊢ known (F := F) from by
    unfold known
    iintro ⟨H1, H2⟩
    isplitl [H1]; · iexists ιs; iexact H1
    iexact H2) $$ []
  · isplitr; · iexact Hinv
    iexact Hr
  ihave #Hks := (BI.bigSep_of_persistent (Finset.univ : Finset (Dev nD)) (known (F := F))) $$ Hk
  unfold dealt places
  rw [bigSep_sep', bigSep_sep', bigSep_sep', bigSep_sep']
  isplitl [Hst]; · iexact Hst
  isplitl [Hat Hrd]
  · isplitl [Hat] <;> iassumption
  isplitl [Hrights]; · iexact Hrights
  iexact Hks

/-! ## What the launch owes -/

/-- The units a device is owed. -/
def units (c : Dev nD) : sProp 𝕄 :=
  iprop(cred (tallyAt (barCell c) 0 2) ∗ (creditUnits c 0 1 ∗ creditUnits c 1 1) ∗ lanes4 fun d q => arrivals c d q 0)

theorem units_credit (d : Fin 2) (c : Dev nD) : (Pipeline.launchCred (fun c => oweC c d (max 1 0)) c : sProp 𝕄) ⊢ creditUnits c d 1 := by
  unfold oweC creditUnits
  rw [Pipeline.launchCred_sum]
  exact bigSep_mono fun i _ => Pipeline.launchCred_tallyAt (.reg (creditSem d)) (src d) (dst d) (src_dst d) (dst_src d) i 1 c
theorem units_arrive (d q : Fin 2) (c : Dev nD) : (Pipeline.launchCred (fun c => oweT c d q 0) c : sProp 𝕄) ⊢ arrivals c d q 0 := by
  unfold oweT arrivals
  rw [Pipeline.launchCred_sum]
  exact bigSep_mono fun i _ => Pipeline.launchCred_tallyAt (.dma (semAt (recvSems d) (at3 i) q)) (dst d) (src d) (dst_src d) (src_dst d) i N c

theorem units_bar (c : Dev nD) :
    iprop(Pipeline.launchCred (fun c => tallyAt (barCell (src 1 c)) 0 1) c ∗ Pipeline.launchCred (fun c => tallyAt (barCell (src 0 c)) 0 1) c)
      ⊢ (cred (tallyAt (barCell c) 0 2) : sProp 𝕄) := by
  refine (BIClass.sep_mono (Pipeline.launchCred_tallyAt (.reg barSem) (src 1) (dst 1) (src_dst 1) (dst_src 1) 0 1 c)
    (Pipeline.launchCred_tallyAt (.reg barSem) (src 0) (dst 0) (src_dst 0) (dst_src 0) 0 1 c)).trans ?_
  rw [show (tallyAt (barCell c) 0 2 : CellTallies nD τ sig ℕ) = tallyAt (barCell c) 0 1 + tallyAt (barCell c) 0 1 from by
    unfold tallyAt; rw [← tallyOn_add, ← Finsupp.single_add]]
  exact (cred_add _ _).2

theorem units_intro (c : Dev nD) : (Pipeline.launchCred O₀ c : sProp 𝕄) ⊢ units c := by
  unfold units lanes4
  rw [show (O₀ : Dev nD → CellTallies nD τ sig ℕ) = fun c => ((oweC c 0 (max 1 0) + oweC c 1 (max 1 0))
      + (oweT c 0 0 0 + oweT c 0 1 0 + oweT c 1 0 0 + oweT c 1 1 0)) + tallyAt (barCell (src 1 c)) 0 1 + tallyAt (barCell (src 0 c)) 0 1 from rfl]
  rw [Pipeline.launchCred_add, Pipeline.launchCred_add, Pipeline.launchCred_add, Pipeline.launchCred_add, Pipeline.launchCred_add, Pipeline.launchCred_add,
    Pipeline.launchCred_add]
  iintro ⟨⟨⟨⟨HC0, HC1⟩, ⟨⟨⟨H00, H01⟩, H10⟩, H11⟩⟩, HB1⟩, HB0⟩
  isplitl [HB0 HB1]
  · iapply (units_bar c); isplitl [HB1] <;> iassumption
  isplitl [HC0 HC1]
  · isplitl [HC0]; · iapply (units_credit 0 c); iexact HC0
    iapply (units_credit 1 c); iexact HC1
  isplitl [H00]; · iapply (units_arrive 0 0 c); iexact H00
  isplitl [H01]; · iapply (units_arrive 0 1 c); iexact H01
  isplitl [H10]; · iapply (units_arrive 1 0 c); iexact H10
  iapply (units_arrive 1 1 c); iexact H11

end Cert.AllReduce

end
-- ==== Proof.Goal.lean ====
/-
# The result

What every device's result buffer holds at the end: each block of `64` rows and half the columns is the full sum as its
last adder sent it. The blocks of hops `30` to `61` are all of them.
-/
module

public import proofs.«01_k».proof.Proof.Hops

@[expose] public section

set_option maxRecDepth 16384

noncomputable section

namespace Cert.AllReduce

open Idealize.ShloMosaic Idealize.ShloMosaic.TcCoe
open Cert.KernelIdeal Cert.KernelIdeal.Gen

variable {F : FTy → Type} [FloatOps F]

/-! ## Where an element of the result is -/

/-- The ring it belongs to, -/
def ringAt (i : S4096x2048.Idx) : Fin 2 := ⟨(i 1).val / 1024, by have : (i 1).val < 2048 := (i 1).isLt; omega⟩
/-- its chunk, -/
def chunkAt (i : S4096x2048.Idx) : Dev nD := ⟨(i 0).val / 128, by have : (i 0).val < 4096 := (i 0).isLt; show _ < 32; omega⟩
/-- which half of the chunk, -/
def halfAt (i : S4096x2048.Idx) : Fin 2 := ⟨(i 0).val / 64 % 2, by omega⟩
/-- and its place in there. -/
def placeAt (i : S4096x2048.Idx) : S64x1024.Idx
  | ⟨0, _⟩ => ⟨(i 0).val % 64, by show _ < 64; omega⟩
  | ⟨1, _⟩ => ⟨(i 1).val % 1024, by show _ < 1024; omega⟩

/-- The result. -/
def goal (Wk : Works F) : OutC F := fun i =>
  k0_pay146 (snt Wk (ringAt i) (halfAt i) 31 (src (ringAt i) (chunkAt i))) (placeAt i)

/-! ## Which chunk a hop fills -/

theorem src_zero (c : Dev nD) : (src 0 c).val = (c.val + 31) % 32 := k0_dev1_eq c
theorem src_one (c : Dev nD) : (src 1 c).val = (c.val + 1) % 32 := k0_dev2_eq c
theorem dst_zero (c : Dev nD) : (dst 0 c).val = (c.val + 1) % 32 := k0_dev2_eq c
theorem dst_one (c : Dev nD) : (dst 1 c).val = (c.val + 31) % 32 := k0_dev1_eq c

def back (d : Fin 2) : ℕ → Dev nD → Dev nD
  | 0, c => c
  | r + 1, c => src d (back d r c)

theorem back_zero (r : ℕ) (c : Dev nD) : (back 0 r c).val = (c.val + 31 * r) % 32 := by
  induction r with
  | zero => have : c.val < 32 := c.isLt; simp only [back]; omega
  | succ r ih => rw [back, src_zero, ih]; omega
theorem back_one (r : ℕ) (c : Dev nD) : (back 1 r c).val = (c.val + r) % 32 := by
  induction r with
  | zero => have : c.val < 32 := c.isLt; simp only [back]; omega
  | succ r ih => rw [back, src_one, ih]; omega
theorem back_src (d : Fin 2) (r : ℕ) (c : Dev nD) : back d r (src d c) = src d (back d r c) := by
  induction r with
  | zero => rfl
  | succ r ih => rw [back, ih, back]

/-- The chunk hop `h` fills on device `c`. -/
def filled (d : Fin 2) (c : Dev nD) (h : ℕ) : Dev nD := if h = 30 then dst d c else back d (h - 31) c

/-- What is sent on after the sums are full is what their last adder sent. -/
theorem snt_full (Wk : Works F) (d q : Fin 2) (r : ℕ) (c : Dev nD) : snt Wk d q (31 + r) c = snt Wk d q 31 (back d r c) := by
  induction r generalizing c with
  | zero => rfl
  | succ r ih => rw [show 31 + (r + 1) = (31 + r) + 1 from rfl, snt_ag Wk d q (31 + r) (by omega) c, ih, back_src, back]

theorem snt_filled (Wk : Works F) (d q : Fin 2) (c : Dev nD) (h : ℕ) (h30 : 30 ≤ h) :
    snt Wk d q (h + 1) c = snt Wk d q 31 (src d (filled d c h)) := by
  unfold filled
  split
  · rename_i e; subst e; rw [src_dst]
  · obtain ⟨r, rfl⟩ : ∃ r, h = 31 + r := ⟨h - 31, by omega⟩
    rw [show 31 + r + 1 = 31 + (r + 1) from rfl, snt_full, back, show 31 + r - 31 = r by omega]

theorem oOff_eq (d : Fin 2) (c : Dev nD) (h : ℕ) (q : Fin 2) (h30 : 30 ≤ h) (h62 : h < 62) :
    oOff d c h q = ![128 * (filled d c h).val + 64 * q.val, 1024 * d.val] := by
  have hc : c.val < 32 := c.isLt
  unfold oOff filled
  by_cases e : h = 30
  · subst e
    rw [if_pos rfl, if_pos rfl]
    rcases fin2 d with rfl | rfl
    · rw [dst_zero]; exact (k0_off3_eq c ⟨30, by decide⟩ q).trans (by
        show ![128 * ((c.val + 63 - 30) % 32) + 64 * q.val, 0] = _
        rw [show (c.val + 63 - 30) % 32 = (c.val + 1) % 32 by omega]; rfl)
    · rw [dst_one]; exact (k0_off4_eq c ⟨30, by decide⟩ q).trans (by
        show ![128 * ((c.val + 30 + 1) % 32) + 64 * q.val, 1024] = _
        rw [show (c.val + 30 + 1) % 32 = (c.val + 31) % 32 by omega]; rfl)
  · obtain ⟨r, rfl⟩ : ∃ r, h = 31 + r := ⟨h - 31, by omega⟩
    have hr : r < 31 := by omega
    rw [if_neg e, if_neg e, show 31 + r - 31 = r by omega]
    have hm : (31 + r) % 31 = r := by omega
    rcases fin2 d with rfl | rfl
    · rw [back_zero]; show k0_off5 c (BitVec.ofNat 32 (31 + (31 + r) % 31)) (qw q) = _; rw [hm]
      exact (k0_off5_eq c ⟨r, hr⟩ q).trans (by
        show ![128 * ((c.val + 64 - r) % 32) + 64 * q.val, 0] = _
        rw [show (c.val + 64 - r) % 32 = (c.val + 31 * r) % 32 by omega]; rfl)
    · rw [back_one]; show k0_off6 c (BitVec.ofNat 32 (31 + (31 + r) % 31)) (qw q) = _; rw [hm]
      exact k0_off6_eq c ⟨r, hr⟩ q

/-! ## The result agrees with every hop, and the hops fill it -/

theorem oblk_goal (Wk : Works F) (d q : Fin 2) (k : Dev nD) : ∀ (off : Fin 2 → ℕ) (_ : off = ![128 * k.val + 64 * q.val, 1024 * d.val])
    (hb : ∀ a, off a + S64x1024.size a ≤ S4096x2048.size a),
    oblk (Rect.unit (s := S4096x2048) off S64x1024.size hb) (goal Wk) = k0_pay146 (snt Wk d q 31 (src d k)) := by
  rintro _ rfl hb
  funext p
  have hp0 : (p 0).val < 64 := (p 0).isLt
  have hp1 : (p 1).val < 1024 := (p 1).isLt
  have hk : k.val < 32 := k.isLt
  have hq := q.isLt
  have hd := d.isLt
  show goal Wk ((Rect.unit (s := S4096x2048) ![128 * k.val + 64 * q.val, 1024 * d.val] S64x1024.size hb).emb p) = _
  generalize hi : (Rect.unit (s := S4096x2048) ![128 * k.val + 64 * q.val, 1024 * d.val] S64x1024.size hb).emb p = i
  have h0 : (i 0).val = 128 * k.val + 64 * q.val + 1 * (p 0).val := by rw [← hi]; rfl
  have h1 : (i 1).val = 1024 * d.val + 1 * (p 1).val := by rw [← hi]; rfl
  have er : ringAt i = d := Fin.ext (by show (i 1).val / 1024 = _; omega)
  have ec : chunkAt i = k := Fin.ext (by show (i 0).val / 128 = _; omega)
  have eh : halfAt i = q := Fin.ext (by show (i 0).val / 64 % 2 = _; omega)
  have ep : placeAt i = p := by
    funext a
    match a with
    | ⟨0, _⟩ => exact Fin.ext (by show (i 0).val % 64 = (p 0).val; omega)
    | ⟨1, _⟩ => exact Fin.ext (by show (i 1).val % 1024 = (p 1).val; omega)
  unfold goal
  rw [er, ec, eh, ep]

theorem goal_agrees (Wk : Works F) (c : Dev nD) : Agrees Wk c (goal Wk) := fun h d q h30 h62 => by
  rw [snt_filled Wk d q c h h30]
  exact oblk_goal Wk d q (filled d c h) _ (oOff_eq d c h q h30 h62) _

theorem mem_oset (d q : Fin 2) (k : Dev nD) (i : S4096x2048.Idx) (hd : ringAt i = d) (hk : chunkAt i = k) (hq : halfAt i = q) :
    ∀ (off : Fin 2 → ℕ) (_ : off = ![128 * k.val + 64 * q.val, 1024 * d.val]) (hb : ∀ a, off a + S64x1024.size a ≤ S4096x2048.size a),
    i ∈ oset (Rect.unit (s := S4096x2048) off S64x1024.size hb) := by
  rintro _ rfl hb
  subst hd hk hq
  refine Finset.mem_map.mpr ⟨placeAt i, Finset.mem_univ _, ?_⟩
  funext a
  match a with
  | ⟨0, _⟩ => exact Fin.ext (by
      show 128 * ((i 0).val / 128) + 64 * ((i 0).val / 64 % 2) + 1 * ((i 0).val % 64) = (i 0).val
      omega)
  | ⟨1, _⟩ => exact Fin.ext (by
      show 1024 * ((i 1).val / 1024) + 1 * ((i 1).val % 1024) = (i 1).val
      omega)

theorem filled_all (d : Fin 2) (c k : Dev nD) : ∃ h, 30 ≤ h ∧ h < 62 ∧ filled d c h = k := by
  have hc : c.val < 32 := c.isLt
  have hk : k.val < 32 := k.isLt
  rcases fin2 d with rfl | rfl
  · by_cases e : k.val = (c.val + 1) % 32
    · exact ⟨30, by omega, by omega, Fin.ext (by show (dst 0 c).val = _; rw [dst_zero]; omega)⟩
    · refine ⟨31 + (c.val + 32 - k.val) % 32, by omega, by omega, Fin.ext ?_⟩
      unfold filled
      rw [if_neg (by omega), back_zero]; omega
  · by_cases e : k.val = (c.val + 31) % 32
    · exact ⟨30, by omega, by omega, Fin.ext (by show (dst 1 c).val = _; rw [dst_one]; omega)⟩
    · refine ⟨31 + (k.val + 32 - c.val) % 32, by omega, by omega, Fin.ext ?_⟩
      unfold filled
      rw [if_neg (by omega), back_one]; omega

theorem done_all (c : Dev nD) (i : S4096x2048.Idx) : done c 62 i := by
  obtain ⟨h, h30, h62, e⟩ := filled_all (ringAt i) c (chunkAt i)
  exact ⟨h, ringAt i, halfAt i, h62, h30, mem_oset _ _ (filled (ringAt i) c h) i rfl e.symm rfl _ (oOff_eq _ c h _ h30 h62) _⟩

end Cert.AllReduce

end
-- ==== Proof.Buffers.lean ====
/-
# The buffers, whole and in slots

A device's landing and staging buffers are held whole outside the kernel's body and slot by slot inside it; its places
and rights are sorted by ring and half for it.
-/
module

public import proofs.«01_k».proof.Proof.Deal
public import proofs.«01_k».proof.Proof.Goal

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Slots of a buffer -/

section Slots
variable (m : Memref sig .tc .vmem S3x2x64x1024 .bf16) (hm : m.IsWhole)

theorem mem_slotRect (s : Fin 3) (q : Fin 2) (i : S3x2x64x1024.Idx) :
    i ∈ (slotRect s q).set ↔ (i 0).val = s.val ∧ (i 1).val = q.val := by
  rw [Rect.mem_set_unit]
  constructor
  · intro h
    have h0 := h 0
    have h1 := h 1
    simp only [Matrix.cons_val_zero, Matrix.cons_val_one] at h0 h1
    have e0 : S1x1x64x1024.size 0 = 1 := rfl
    have e1 : S1x1x64x1024.size 1 = 1 := rfl
    omega
  · rintro ⟨h0, h1⟩ a
    have e0 : S1x1x64x1024.size 0 = 1 := rfl
    have e1 : S1x1x64x1024.size 1 = 1 := rfl
    have i2 : (i 2).val < 64 := (i 2).isLt
    have i3 : (i 3).val < 1024 := (i 3).isLt
    match a with
    | ⟨0, _⟩ => exact ⟨h0.ge, by show (i 0).val < s.val + 1; omega⟩
    | ⟨1, _⟩ => exact ⟨h1.ge, by show (i 1).val < q.val + 1; omega⟩
    | ⟨2, _⟩ => exact ⟨Nat.zero_le _, by show (i 2).val < 0 + 64; omega⟩
    | ⟨3, _⟩ => exact ⟨Nat.zero_le _, by show (i 3).val < 0 + 1024; omega⟩

theorem slot_set_eq (s : Fin 3) (q : Fin 2) : (slotV m s q).set = (slotRect s q).set.map m.view.emb := View.set_slice _ _

theorem slots_disjoint (b b' : Fin 3 × Fin 2) (h : b ≠ b') : Disjoint (slotV m b.1 b.2).set (slotV m b'.1 b'.2).set := by
  rw [slot_set_eq, slot_set_eq, Finset.disjoint_map, Finset.disjoint_left]
  intro i hi hi'
  rw [mem_slotRect] at hi hi'
  exact h (Prod.ext (Fin.ext (hi.1.symm.trans hi'.1)) (Fin.ext (hi.2.symm.trans hi'.2)))

include hm in
theorem slots_cover : (Finset.univ.biUnion fun b : Fin 3 × Fin 2 => (slotV m b.1 b.2).set) = (Finset.univ : Finset m.view.ty.Idx) := by
  refine Finset.eq_univ_iff_forall.mpr fun i => ?_
  have hi : i ∈ m.view.set := by rw [hm.set_eq_univ]; exact Finset.mem_univ _
  obtain ⟨x, -, rfl⟩ := Finset.mem_map.mp hi
  have x0 : (x 0).val < 3 := (x 0).isLt
  have x1 : (x 1).val < 2 := (x 1).isLt
  refine Finset.mem_biUnion.mpr ⟨(⟨(x 0).val, x0⟩, ⟨(x 1).val, x1⟩), Finset.mem_univ _, ?_⟩
  rw [slot_set_eq]
  exact Finset.mem_map_of_mem _ ((mem_slotRect _ _ _).mpr ⟨rfl, rfl⟩)

theorem halves_all (Φ : Fin 3 × Fin 2 → sProp 𝕄) :
    bigSep Finset.univ Φ = iprop(three (fun j => Φ (at3 j, 0)) ∗ three (fun j => Φ (at3 j, 1))) := by
  rw [bigSep_univ_equiv (Equiv.prodComm (Fin 2) (Fin 3)), bigSep_univ_prod, bigSep_univ_two, three_all, three_all]
  rfl

def slotSet (c : Dev nD) (b : Fin 3 × Fin 2) : Finset (Idx (m.view.loc (c : Thread nD τ))) := (slotV m b.1 b.2).set

theorem free_eq (c : Dev nD) (s : Fin 3) (q : Fin 2) :
    (free m s q c : sProp 𝕄) = iprop(∃ f : Buf (Elt F) (m.view.loc (c : Thread nD τ)), m.view.loc (c : Thread nD τ) ↦[slotSet m c (s, q)]{fullShare} f) := rfl

theorem free_all (c : Dev nD) :
    iprop(three (fun j => free m (at3 j) 0 c) ∗ three (fun j => free m (at3 j) 1 c))
      = (bigSep Finset.univ fun b : Fin 3 × Fin 2 =>
          iprop(∃ f : Buf (Elt F) (m.view.loc (c : Thread nD τ)), m.view.loc (c : Thread nD τ) ↦[slotSet m c b]{fullShare} f) : sProp 𝕄) := by
  rw [halves_all]
  simp only [free_eq]

include hm in
theorem split_slots (c : Dev nD) :
    (iprop(∃ f : Buf (Elt F) (m.view.loc (c : Thread nD τ)), m.view.loc (c : Thread nD τ) ↦{fullShare} f) : sProp 𝕄)
      ⊢ iprop(three (fun j => free m (at3 j) 0 c) ∗ three (fun j => free m (at3 j) 1 c)) := by
  rw [free_all]
  iintro ⟨%f, H⟩
  ihave H := (Entails.of_eq (Ring.pointsTo_blocks (ℓ := m.view.loc (c : Thread nD τ)) (slotSet m c) (slots_disjoint m) (slots_cover m hm) f)) $$ H
  iapply (show (bigSep Finset.univ fun b : Fin 3 × Fin 2 => (m.view.loc (c : Thread nD τ) ↦[slotSet m c b]{fullShare} f : sProp 𝕄))
      ⊢ bigSep Finset.univ fun b : Fin 3 × Fin 2 =>
          iprop(∃ f : Buf (Elt F) (m.view.loc (c : Thread nD τ)), m.view.loc (c : Thread nD τ) ↦[slotSet m c b]{fullShare} f) from
    bigSep_mono fun b _ => show (_ : sProp 𝕄) ⊢ _ from by
      iintro H; iexists f; iexact H)
  iexact H

include hm in
theorem join_slots (c : Dev nD) (f₀ : Buf (Elt F) (m.view.loc (c : Thread nD τ))) :
    iprop(three (fun j => free m (at3 j) 0 c) ∗ three (fun j => free m (at3 j) 1 c))
      ⊢ (iprop(∃ f : Buf (Elt F) (m.view.loc (c : Thread nD τ)), m.view.loc (c : Thread nD τ) ↦{fullShare} f) : sProp 𝕄) := by
  rw [free_all]
  exact Ring.pointsTo_blocks_join_exists (ℓ := m.view.loc (c : Thread nD τ)) (slotSet m c) (slots_disjoint m) (slots_cover m hm) f₀

end Slots

/-! ## A device's buffers -/

section Device
variable (c : Dev nD)

def bufs : sProp 𝕄 := lanes4 fun d q => iprop(three (fun j => free (commM d) (at3 j) q c) ∗ three (fun j => free (stageM d) (at3 j) q c))

abbrev someAt (b : Ref sig .tc) : sProp 𝕄 := iprop(∃ f : Buf (Elt F) ((c : Thread nD τ).loc b), ((c : Thread nD τ).loc b) ↦{fullShare} f)

theorem scratch_open : iprop(someAt c cc0_scratch0 ∗ someAt c cc0_scratch1 ∗ someAt c cc0_scratch2 ∗ someAt c cc0_scratch3 ∗ someAt c cc0_scratch4)
    ⊢ (iprop((∃ f, workPts c f) ∗ bufs c) : sProp 𝕄) := by
  unfold bufs lanes4
  iintro ⟨⟨%f, H0⟩, H1, H2, H3, H4⟩
  ihave H1 := (show someAt c cc0_scratch1 ⊢ _ from split_slots (F := F) (commM 0) (Memref.isWhole_whole _) c) $$ H1
  ihave H2 := (show someAt c cc0_scratch2 ⊢ _ from split_slots (F := F) (stageM 0) (Memref.isWhole_whole _) c) $$ H2
  ihave H3 := (show someAt c cc0_scratch3 ⊢ _ from split_slots (F := F) (commM 1) (Memref.isWhole_whole _) c) $$ H3
  ihave H4 := (show someAt c cc0_scratch4 ⊢ _ from split_slots (F := F) (stageM 1) (Memref.isWhole_whole _) c) $$ H4
  icases H1 with ⟨H1, G1⟩
  icases H2 with ⟨H2, G2⟩
  icases H3 with ⟨H3, G3⟩
  icases H4 with ⟨H4, G4⟩
  isplitl [H0]; · iexists f; unfold workPts; iexact H0
  isplitl [H1 H2]
  · isplitl [H1] <;> iassumption
  isplitl [G1 G2]
  · isplitl [G1] <;> iassumption
  isplitl [H3 H4]
  · isplitl [H3] <;> iassumption
  isplitl [G3] <;> iassumption

/-- Some contents of a buffer. -/
def anyC (b : Ref sig .tc) : Buf (Elt F) ((c : Thread nD τ).loc b) := fun _ => Classical.arbitrary _

theorem scratch_close : iprop((∃ f, workPts c f) ∗ bufs c)
    ⊢ (iprop(someAt c cc0_scratch0 ∗ someAt c cc0_scratch1 ∗ someAt c cc0_scratch2 ∗ someAt c cc0_scratch3 ∗ someAt c cc0_scratch4) : sProp 𝕄) := by
  unfold bufs lanes4
  iintro ⟨⟨%f, H0⟩, ⟨H1, H2⟩, ⟨G1, G2⟩, ⟨H3, H4⟩, ⟨G3, G4⟩⟩
  isplitl [H0]; · iexists f; unfold workPts; iexact H0
  isplitl [H1 G1]
  · iapply (show _ ⊢ someAt c cc0_scratch1 from join_slots (F := F) (commM 0) (Memref.isWhole_whole _) c (anyC c cc0_scratch1))
    isplitl [H1] <;> iassumption
  isplitl [H2 G2]
  · iapply (show _ ⊢ someAt c cc0_scratch2 from join_slots (F := F) (stageM 0) (Memref.isWhole_whole _) c (anyC c cc0_scratch2))
    isplitl [H2] <;> iassumption
  isplitl [H3 G3]
  · iapply (show _ ⊢ someAt c cc0_scratch3 from join_slots (F := F) (commM 1) (Memref.isWhole_whole _) c (anyC c cc0_scratch3))
    isplitl [H3] <;> iassumption
  iapply (show _ ⊢ someAt c cc0_scratch4 from join_slots (F := F) (stageM 1) (Memref.isWhole_whole _) c (anyC c cc0_scratch4))
  isplitl [H4] <;> iassumption

/-! ## Places and rights, sorted -/

theorem fewer_credits (d : Fin 2) : (creditToks c d 0 : sProp 𝕄) ⊢ creditToks c d 1 := by
  unfold creditToks
  exact bigSep_subset (Finset.Ico_subset_Ico_left (by omega))

theorem recvPos_zero (d q : Fin 2) :
    iprop((bigSep Finset.univ fun ck : Dev nD × Kind => reached ER (kcell ck) 0) ∗ three (fun j => atPos ER (recvCell c d j q) 0 ∅ 0))
      ⊢ (three (fun j => recvPos c d q j) : sProp 𝕄) := by
  unfold three recvPos
  iintro ⟨#HR, H0, H1, H2⟩
  isplitl [H0]
  · isplitl [H0]; · iexact H0
    iapply (pick (Finset.mem_univ (c, kRecv d 0 q)) fun ck : Dev nD × Kind => (reached ER (kcell ck) 0 : sProp 𝕄)); iexact HR
  isplitl [H1]
  · isplitl [H1]; · iexact H1
    iapply (pick (Finset.mem_univ (c, kRecv d 1 q)) fun ck : Dev nD × Kind => (reached ER (kcell ck) 0 : sProp 𝕄)); iexact HR
  isplitl [H2]; · iexact H2
  iapply (pick (Finset.mem_univ (c, kRecv d 2 q)) fun ck : Dev nD × Kind => (reached ER (kcell ck) 0 : sProp 𝕄)); iexact HR

theorem sendPos_zero (d q : Fin 2) :
    iprop((bigSep Finset.univ fun ck : Dev nD × Kind => reached ER (kcell ck) 0) ∗ three (fun j => atPos ER (sendCell c d j q) 0 ∅ 0))
      ⊢ (three (fun j => sendPos c d q j) : sProp 𝕄) := by
  unfold three sendPos
  iintro ⟨#HR, H0, H1, H2⟩
  isplitl [H0]
  · isplitl [H0]; · iexact H0
    iapply (pick (Finset.mem_univ (c, kSend d 0 q)) fun ck : Dev nD × Kind => (reached ER (kcell ck) 0 : sProp 𝕄)); iexact HR
  isplitl [H1]
  · isplitl [H1]; · iexact H1
    iapply (pick (Finset.mem_univ (c, kSend d 1 q)) fun ck : Dev nD × Kind => (reached ER (kcell ck) 0 : sProp 𝕄)); iexact HR
  isplitl [H2]; · iexact H2
  iapply (pick (Finset.mem_univ (c, kSend d 2 q)) fun ck : Dev nD × Kind => (reached ER (kcell ck) 0 : sProp 𝕄)); iexact HR

/-- A lane's start from its pieces. -/
theorem lane_intro (d q : Fin 2) :
    iprop((bigSep Finset.univ fun ck : Dev nD × Kind => reached ER (kcell ck) 0)
        ∗ (three (fun j => free (commM d) (at3 j) q c) ∗ three (fun j => free (stageM d) (at3 j) q c))
        ∗ three (fun j => Release.readerAt ES (c, d, at3 j, q) 0) ∗ three (fun j => atPos ER (recvCell c d j q) 0 ∅ 0)
        ∗ three (fun j => atPos ER (sendCell c d j q) 0 ∅ 0) ∗ supplies c d q 0 ∗ arrivals c d q 0)
      ⊢ (laneStart c d q : sProp 𝕄) := by
  unfold laneStart
  iintro ⟨#HR, ⟨H1, H2⟩, H3, H4, H5, H6, H7⟩
  ihave H4 := (recvPos_zero c d q) $$ [H4]
  · isplitr; · iexact HR
    iexact H4
  ihave H5 := (sendPos_zero c d q) $$ [H5]
  · isplitr; · iexact HR
    iexact H5
  isplitl [H1]; · iexact H1
  isplitl [H2]; · iexact H2
  isplitl [H3]; · iexact H3
  isplitl [H4]; · iexact H4
  isplitl [H5]; · iexact H5
  isplitl [H6] <;> iassumption

theorem lanes_intro :
    iprop((bigSep Finset.univ fun ck : Dev nD × Kind => reached ER (kcell ck) 0) ∗ bufs c
        ∗ lanes4 (fun d q => three fun j => Release.readerAt ES (c, d, at3 j, q) 0)
        ∗ lanes4 (fun d q => three fun j => atPos ER (recvCell c d j q) 0 ∅ 0)
        ∗ lanes4 (fun d q => three fun j => atPos ER (sendCell c d j q) 0 ∅ 0)
        ∗ lanes4 (fun d q => supplies c d q 0) ∗ lanes4 (fun d q => arrivals c d q 0))
      ⊢ (lanes4 (fun d q => laneStart c d q) : sProp 𝕄) := by
  unfold bufs
  refine BIBase.Entails.trans ?_ (lanes4_mono _ _ fun d q => lane_intro c d q)
  refine (BIClass.sep_mono ?_ (BIClass.sep_mono .rfl (BIClass.sep_mono .rfl (BIClass.sep_mono .rfl (BIClass.sep_mono .rfl (lanes4_sep _ _)))))).trans
    ((BIClass.sep_mono .rfl (BIClass.sep_mono .rfl (BIClass.sep_mono .rfl (BIClass.sep_mono .rfl (lanes4_sep _ _))))).trans
      ((BIClass.sep_mono .rfl (BIClass.sep_mono .rfl (BIClass.sep_mono .rfl (lanes4_sep _ _)))).trans
        ((BIClass.sep_mono .rfl (BIClass.sep_mono .rfl (lanes4_sep _ _))).trans
          ((BIClass.sep_mono .rfl (lanes4_sep _ _)).trans (lanes4_sep _ _)))))
  unfold lanes4
  iintro #H
  isplitr; · iexact H
  isplitr; · iexact H
  isplitr <;> iexact H

/-- What a device starts the kernel's body from. -/
theorem start_ring (Wk : Works F) (ν : Names) :
    iprop(ctx Wk ν ∗ places c ∗ rights c ∗ units c ∗ bufs c) ⊢ (iprop(lanes4 (fun d q => laneStart c d q) ∗ part c) : sProp 𝕄) := by
  unfold places rights units part
  rw [kinds_all]
  iintro ⟨#Hctx, ⟨⟨Hab, ⟨Hac0, Hac1⟩, Hs, Hr⟩, Hrd⟩, ⟨⟨Htb0, Htb1⟩, ⟨Htc0, Htc1⟩, Hsup⟩, ⟨Hcb, ⟨Hu0, Hu1⟩, Harr⟩, Hbuf⟩
  ihave Htc0 := (fewer_credits c 0) $$ Htc0
  ihave Htc1 := (fewer_credits c 1) $$ Htc1
  isplitl [Hs Hr Hrd Hsup Harr Hbuf]
  · iapply (lanes_intro (F := F) c)
    isplitr
    · unfold ctx
      icases Hctx with ⟨-, -, H, -⟩
      iexact H
    isplitl [Hbuf]; · iexact Hbuf
    isplitl [Hrd]; · iexact Hrd
    isplitl [Hr]; · iexact Hr
    isplitl [Hs]; · iexact Hs
    isplitl [Hsup] <;> iassumption
  isplitl [Htb0 Htb1]
  · isplitl [Htb0] <;> iassumption
  isplitl [Hcb]; · iexact Hcb
  isplitl [Hab]; · iexact Hab
  isplitl [Htc0 Htc1]
  · isplitl [Htc0] <;> iassumption
  isplitl [Hac0 Hu0]
  · isplitl [Hac0]; · iexact Hac0
    iexact Hu0
  isplitl [Hac1]; · iexact Hac1
  iexact Hu1

/-- What it leaves. -/
def sems : sProp 𝕄 :=
  iprop(zeros c ∗ lanes4 (fun d q => iprop(three (fun j => semVal (recvCell c d j q) 0) ∗ three (fun j => semVal (sendCell c d j q) 0))))

theorem end_lanes : (lanes4 (fun d q => laneEnd c d q) : sProp 𝕄)
    ⊢ iprop(bufs c ∗ lanes4 (fun d q => iprop(three (fun j => semVal (recvCell c d j q) 0) ∗ three (fun j => semVal (sendCell c d j q) 0)))) := by
  unfold bufs laneEnd lanes4
  iintro ⟨⟨A1, A2, A3, A4⟩, ⟨B1, B2, B3, B4⟩, ⟨C1, C2, C3, C4⟩, D1, D2, D3, D4⟩
  isplitl [A1 A2 B1 B2 C1 C2 D1 D2]
  · isplitl [A1 A2]
    · isplitl [A1] <;> iassumption
    isplitl [B1 B2]
    · isplitl [B1] <;> iassumption
    isplitl [C1 C2]
    · isplitl [C1] <;> iassumption
    isplitl [D1] <;> iassumption
  isplitl [A3 A4]
  · isplitl [A3] <;> iassumption
  isplitl [B3 B4]
  · isplitl [B3] <;> iassumption
  isplitl [C3 C4]
  · isplitl [C3] <;> iassumption
  isplitl [D3] <;> iassumption

end Device

end Cert.AllReduce

end
-- ==== Proof.Launch.lean ====
/-
# The launch

Every execution of the kernel on the mesh terminates, leaves the arguments as they were, leaves in every device's result
array the full sum and leaves every semaphore counter at zero — for any float values and any initial memory.
-/
module

public import proofs.«01_k».proof.Proof.Buffers
public import Idealize.ShloMosaic.Lib.Pipeline.Launch
public import Idealize.ShloMosaic.Lib.Pipeline.CollectiveSegs

@[expose] public section

set_option maxRecDepth 16384

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The memory at launch. -/
def atLaunch : MemSt nD τ sig (Elt F) := ⟨m, fun _ => 0, ρ⟩

/-- A device's blocks of the two arguments. -/
def xAt (c : Dev nD) : XC F := (win0_0.blk (0 : Fin 1)).view.read (Elt F) (m (win0_0.arr.view.loc (c : Thread nD τ)))
def wAt (c : Dev nD) : WC F := (win0_1.blk (0 : Fin 1)).view.read (Elt F) (m (win0_1.arr.view.loc (c : Thread nD τ)))

/-- The devices' products, -/
def prods : Works F := fun c => k0_pay1 (xAt m c) (wAt m c)
/-- and what each device ends with. -/
def outAt : OutC F := goal (prods m)

/-! ## The body's data -/

def t₀ : Fin cfg0.N := t0_0
theorem fin_N (t : Fin cfg0.N) : t = t₀ := fin_N0 t

def start (c : Dev nD) : sProp 𝕄 := iprop((∃ ν, ctx (prods m) ν) ∗ places c ∗ rights c ∗ units c)
def before (c : Dev nD) : sProp 𝕄 := iprop(start m c ∗ (∃ f, workPts c f) ∗ bufs c)
def after (c : Dev nD) : sProp 𝕄 := iprop(sems c ∗ (∃ f, workPts c f) ∗ bufs c)

def dats (_ : Fin 1) (c : Dev nD) : Dat τ (Elt F) ℕ ℕ UU ℕ cfg0 c where
  A w := m ((cfg0.win w).arr.view.loc (c : Thread nD τ))
  after w _ := match w with
    | ⟨0, _⟩ => xAt m c
    | ⟨1, _⟩ => wAt m c
    | ⟨2, _⟩ => outAt m
  Φ t := match t with
    | ⟨0, _⟩ => before m c
    | ⟨_ + 1, _⟩ => after c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

def bodyPre (c : Dev nD) : sProp 𝕄 :=
  iprop(before m c ∗ (dats m 0 c).owesAt 0 t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(after c ∗ (dats m 0 c).owesAt 0 t₀.succ ∗ stg c cc0_stg0_0 (xAt m c) ∗ stg c cc0_stg1_0 (wAt m c) ∗ stg c cc0_stg2_0 (outAt m))

theorem before_x (c : Dev nD) (d) : (dats m 0 c).before (0 : Fin 3) t₀ d = xAt m c := by
  unfold Dat.before; rw [if_pos (fetch0_0 t₀)]; rfl
theorem before_w (c : Dev nD) (d) : (dats m 0 c).before (1 : Fin 3) t₀ d = wAt m c := by
  unfold Dat.before; rw [if_pos (fetch0_1 t₀)]; rfl

/-- What the kernel's body starts from, -/
theorem pre_ring (c : Dev nD) :
    bodyPre m c ⊢ iprop(∃ ν W, ctx (prods m) ν ∗ ringStart c (outAt m) (xAt m c) (wAt m c) ∗ owes (c : Thread nD τ) (O₀ c) W) := by
  unfold bodyPre before start ringStart xPts wPts outPts Dat.owesAt Pipeline.owesWithin
  rw [show (dats m 0 c).owed t₀.castSucc = O₀ c from rfl]
  iintro ⟨⟨⟨⟨%ν, #Hctx⟩, Hp, Hr, Hu⟩, Hwork, Hb⟩, ⟨%W, %hW, HO⟩, ⟨%d0, %g0, %hg0, Hx⟩, ⟨%d1, %g1, %hg1, Hw⟩, ⟨%d2, %g2, %hg2, Ho⟩⟩
  have hx : g0 = xAt m c := hg0.trans (before_x m c d0)
  have hw : g1 = wAt m c := hg1.trans (before_w m c d1)
  subst hx hw
  iexists ν
  iexists W
  isplitr; · iexact Hctx
  isplitr [HO]
  · isplitl [Hx Hw Hwork]
    · isplitl [Hx]; · iexact Hx
      isplitl [Hw]; · iexact Hw
      iexact Hwork
    isplitl [Ho]
    · iexists g2
      isplitr; · ipureintro; exact fun _ h => h.elim
      iexact Ho
    iapply (start_ring c (prods m) ν)
    isplitr; · iexact Hctx
    isplitl [Hp]; · iexact Hp
    isplitl [Hr]; · iexact Hr
    isplitl [Hu] <;> iassumption
  iexact HO

/-- and what it leaves. -/
theorem ring_post (c : Dev nD) : iprop(ringEnd c (outAt m) (xAt m c) (wAt m c) ∗ debt c 0) ⊢ bodyPost m c := by
  unfold bodyPost after sems ringEnd xPts wPts outPts debt Dat.owesAt Pipeline.owesWithin
  rw [show (dats m 0 c).owed t₀.succ = 0 from rfl]
  iintro ⟨⟨⟨Hx, Hw, Hwork⟩, ⟨%g, %hg, Ho⟩, Hl, Hz⟩, ⟨%W, HO⟩⟩
  have hgoal : g = outAt m := funext fun i => hg i (done_all c i)
  subst hgoal
  ihave Hl := (end_lanes c) $$ Hl
  icases Hl with ⟨Hb, Hs⟩
  isplitl [Hz Hs Hwork Hb]
  · isplitl [Hz Hs]
    · isplitl [Hz] <;> iassumption
    isplitl [Hwork] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem body_wp (c : Dev nD) : bodyPre m c ⊢ runs c (bodyAt0 t0_0 : Body F) (fun _ => bodyPost m c) := by
  refine BIBase.Entails.trans (pre_ring m c) ?_
  rw [body_eq, runs_def]
  simp only [Prog.lift, Prog.bind_op, Prog.bind_ret, wp_deviceId]
  iintro ⟨%ν, %W, #Hctx, Hs, HO⟩
  iapply (ring_wp (prods m) ν c (outAt m) (xAt m c) (wAt m c) rfl (goal_agrees (prods m) c) W _) $$ [Hs HO]
  · isplitr; · iexact Hctx
    isplitl [Hs] <;> iassumption
  iintro H
  iapply (ring_post m c); iexact H

theorem body_at : (defs₀ (F := F) .tc 0 (t₀, cfg0.slots t₀)) = bodyAt0 t0_0 := by chain_rfl

theorem body_obligation (c : Dev nD) : BodyObligation (dats (F := F) m 0 c) (defs₀ (F := F)) 𝒱₀ 0 Set.univ := fun t => by
  rw [fin_N t]
  rw [bigSep_W, bigSep_W]
  simp only [owns_whole_eq]
  rw [body_at, show (dats m 0 c).Φ t₀.castSucc = before m c from rfl, show (dats m 0 c).Φ t₀.succ = after c from rfl,
    show (dats m 0 c).after (0 : Fin 3) t₀ = xAt m c from rfl, show (dats m 0 c).after (1 : Fin 3) t₀ = wAt m c from rfl,
    show (dats m 0 c).after (2 : Fin 3) t₀ = outAt m from rfl]
  have h := body_wp m c
  unfold bodyPre bodyPost at h
  convert h using 2

/-! ## The semaphores -/

/-- The kernel's own semaphores: all but the barrier's. -/
abbrev OKind : Type := Fin 2 ⊕ (Fin 2 × Fin 3 × Fin 2) ⊕ (Fin 2 × Fin 3 × Fin 2)
def osem : OKind → SemLoc sig := fun k => csem (.inr k)

theorem ownSemFacts : Pipeline.OwnSemFacts cfg0.spec osem := by decide +kernel

abbrev ownAt (c : Dev nD) : sProp 𝕄 := Pipeline.ownSems0 (Ix := ℕ) (Name := ℕ) (U := UU) (Lvl := ℕ) (Val := Elt F) (τ := τ) osem c

theorem ownAt_eq (c : Dev nD) : (ownAt c : sProp 𝕄)
    = iprop((semVal (creditCell c 0) 0 ∗ semVal (creditCell c 1) 0) ∗ lanes4 (fun d q => three fun j => semVal (sendCell c d j q) 0)
      ∗ lanes4 (fun d q => three fun j => semVal (recvCell c d j q) 0)) := by
  unfold ownAt Pipeline.ownSems0
  rw [all_sum, all_sum, bigSep_univ_two, slots_all, slots_all]
  rfl

/-- The barrier's is the launch's. -/
theorem unscoped_eq (c : Dev nD) : (unscopedSems0 c : sProp 𝕄) = semVal (barCell c) 0 := by
  unfold unscopedSems0; rw [bigSep_eq_bigSepL_of_eq [SemLoc.reg barSem] (by decide) (by decide)]; rfl

theorem all_sems (c : Dev nD) : iprop(ownAt c ∗ unscopedSems0 c) ⊢ (bigSep Finset.univ fun k : Kind => semVal (kcell (c, k)) 0 : sProp 𝕄) := by
  rw [ownAt_eq, unscoped_eq, kinds_all]
  iintro ⟨⟨HC, HS, HV⟩, HB⟩
  isplitl [HB]; · iexact HB
  isplitl [HC]; · iexact HC
  isplitl [HS]; · iexact HS
  iexact HV

theorem sems_split (c : Dev nD) : (sems c : sProp 𝕄) ⊢ iprop(unscopedSems0 c ∗ ownAt c) := by
  rw [ownAt_eq, unscoped_eq]
  unfold sems zeros lanes4
  iintro ⟨⟨HB, HC0, HC1⟩, ⟨R0, S0⟩, ⟨R1, S1⟩, ⟨R2, S2⟩, R3, S3⟩
  isplitl [HB]; · iexact HB
  isplitl [HC0 HC1]
  · isplitl [HC0] <;> iassumption
  isplitl [S0 S1 S2 S3]
  · isplitl [S0]; · iexact S0
    isplitl [S1]; · iexact S1
    isplitl [S2] <;> iassumption
  isplitl [R0]; · iexact R0
  isplitl [R1]; · iexact R1
  isplitl [R2] <;> iassumption

/-! ## The protocol, launched -/

def u₀ : UU :=
  (initOf (Pipeline.cells cfgs cellOf_inj) (Pipeline.launchToks cfgs cellOf_inj), (initOf allCells allToks, Release.initSlots (Finset.univ : Finset Key) 21))

/-- What a device is dealt, -/
def G (c : Dev nD) : sProp 𝕄 := iprop((bigSep Finset.univ fun k : Kind => roundState ER (Rd (prods m)) (kcell (c, k)) 0) ∗ dealt c)

def cells : sProp 𝕄 := iprop(∃ κ : Dev nD × Kind → ℕ, bigSep Finset.univ fun ck : Dev nD × Kind => cellInv ER (Rd (prods m)) (κ ck) (kcell ck))
instance cells_persistent : BI.Persistent (cells m) := by unfold cells; infer_instance

/-- and what it has once the semaphores' invariants are made. -/
def G' (c : Dev nD) : sProp 𝕄 := iprop(cells m ∗ dealt c)

theorem core_alloc (c : Dev nD) :
    iprop(ownAt c ∗ unscopedSems0 c ∗ G m c)
      ⊢ |={Set.univ}=> iprop((bigSep Finset.univ fun k : Kind => iprop(∃ κ : ℕ, cellInv ER (Rd (prods m)) κ (kcell (c, k)))) ∗ dealt c) := by
  unfold G
  iintro ⟨Hos, Hus, Hst, Hd⟩
  ihave Hv := (all_sems (F := F) c) $$ [Hos Hus]
  · isplitl [Hos] <;> iassumption
  imod (show iprop((bigSep Finset.univ fun k : Kind => semVal (kcell (c, k)) 0) ∗ bigSep Finset.univ fun k : Kind => roundState ER (Rd (prods m)) (kcell (c, k)) 0)
      ⊢ (|={Set.univ}=> bigSep Finset.univ fun k : Kind => iprop(∃ κ : ℕ, cellInv ER (Rd (prods m)) κ (kcell (c, k))) : sProp 𝕄) from by
        rw [← bigSep_sep']
        exact (bigSep_mono fun k _ => (Rounds.body_intro ER (Rd (prods m)) (kcell (c, k))).trans inv_alloc).trans (bigSep_fupd _ _)) $$ [Hv Hst] with Hinv
  · isplitl [Hv] <;> iassumption
  imodintro
  isplitl [Hinv] <;> iassumption

theorem regroup :
    (bigSep Finset.univ fun c : Dev nD => iprop((bigSep Finset.univ fun k : Kind => iprop(∃ κ : ℕ, cellInv ER (Rd (prods m)) κ (kcell (c, k)))) ∗ dealt c) : sProp 𝕄)
      ⊢ bigSep Finset.univ (G' m) := by
  rw [bigSep_sep', ← bigSep_univ_prod (fun ck : Dev nD × Kind => iprop(∃ κ : ℕ, cellInv ER (Rd (prods m)) κ (kcell ck)))]
  iintro ⟨HI, Hd⟩
  haveI : DecidableEq (Dev nD × Kind) := Classical.decEq _
  ihave HK := (BI.bigSep_exists_pi Finset.univ (fun (ck : Dev nD × Kind) (κ : ℕ) => (cellInv ER (Rd (prods m)) κ (kcell ck) : sProp 𝕄))) $$ HI
  ihave #HI := (show _ ⊢ cells m from by unfold cells; exact BIBase.Entails.rfl) $$ HK
  ihave #Hs := (BI.bigSep_of_persistent (Finset.univ : Finset (Dev nD)) (cells m)) $$ HI
  iapply (Entails.of_eq (bigSep_sep' Finset.univ (fun _ : Dev nD => cells m) (fun c => dealt (F := F) c)).symm)
  isplitr; · iexact Hs
  iexact Hd

theorem glob : (bigSep Finset.univ fun c => iprop(ownAt c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch's side conditions -/

theorem share_eq (c : Dev nD) (w : Fin cfg0.W) : (dats m 0 c).share w = fullShare := by unfold Dat.share; split <;> rfl

theorem ctx_intro : iprop(cells m ∗ known ∗ levAts L lv) ⊢ (∃ ν, ctx (prods m) ν : sProp 𝕄) := by
  unfold cells known
  iintro ⟨⟨%κ, #HI⟩, ⟨⟨%ιs, #HS⟩, #HR⟩, #HL⟩
  iexists (⟨κ, ιs⟩ : Names)
  unfold ctx
  isplitr; · iexact HI
  isplitr; · iexact HS
  isplitr <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' dealt start
  iintro ⟨-, Hlev, Hcr, -, Hcell, Hp, Hr, Hk⟩
  ihave Hu := (units_intro (F := F) c) $$ Hcr
  ihave Hctx := (ctx_intro m) $$ [Hcell Hk Hlev]
  · isplitl [Hcell]; · iexact Hcell
    isplitl [Hk] <;> iassumption
  imodintro
  isplitl
  · isplitl [Hctx]; · iexact Hctx
    isplitl [Hp]; · iexact Hp
    isplitl [Hr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hr⟩
  isplitl [Hs]; · iexact Hs
  iapply (scratch_open (F := F) c); iexact Hr

theorem phi1_exit (c : Dev nD) :
    (dats m 0 c).Φ (Fin.last cfg0.N) ⊢ iprop(unscopedSems0 c ∗ ownAt c ∗ Pipeline.scopedRest cfg0.spec c) := by
  rw [show (dats m 0 c).Φ (Fin.last cfg0.N) = after c from rfl, scopedRest0_eq]
  unfold after
  iintro ⟨Hs, Hr⟩
  ihave Hs := (sems_split c) $$ Hs
  icases Hs with ⟨Hb, Ho⟩
  isplitl [Hb]; · iexact Hb
  isplitl [Ho]; · iexact Ho
  iapply (scratch_close (F := F) c); iexact Hr

theorem O₀_above (c : Dev nD) : Above 0 (O₀ c) := by
  unfold O₀
  exact (((O₀_rest_above c).mono (by omega)).add (Above.tally _ _ _ _ (by omega) (by rw [lv_bar]; omega))).add
    (Above.tally _ _ _ _ (by omega) (by rw [lv_bar]; omega))

/-- A staging buffer's semaphore is none of the kernel's. -/
theorem stage_kind : ∀ (w : Fin cfg0.W) (s : Fin (cfg0.win w).nbuf), ¬ ∃ k : Kind, csem k = .dma ((cfg0.win w).sem s) := by decide +kernel

theorem stage_level (c : Dev nD) (w : Fin cfg0.W) (s : Fin (cfg0.win w).nbuf) : lv ((c : Thread nD τ), .dma ((cfg0.win w).sem s)) 0 = 0 := by
  unfold lv kindOf Function.partialInv
  rw [dif_neg (stage_kind w s)]
  rfl

theorem owed_above (c : Dev nD) (t : Fin (cfg0.N + 1)) : Above 0 ((dats m 0 c).owed t) := by
  rcases t with ⟨_ | _, ht⟩
  · exact O₀_above c
  · exact Above.zero 0

theorem waits (c : Dev nD) : (levAts L lv : sProp 𝕄) ⊢ Pipeline.cellsWaits cfgs (dats m) 0 0 c :=
  Pipeline.cellsWaits_intro cfgs (dats m) 0 0 c fun w s t =>
    may_wait c _ 0 0 (by omega) (stage_level c w s) _ (owed_above m c t)

theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (own_pair_emb embR _ _) $$ HX
  imod (fund (prods m)) $$ HX with HG
  imodintro
  isplitl [HP]; · iexact HP
  iexact HG

/-! ## The run -/

def finalA (c : Dev nD) (w : Fin cfg0.W) : Buf (Elt F) ((cfg0.win w).arr.view.loc (c : Thread nD τ)) := (dats m 0 c).arrAt w cfg0.N

def Final : PUnit × MemSt nD τ sig (Elt F) → Prop := fun r =>
  ∀ c : Dev nD, ∀ w : Fin cfg0.W, r.2.mem ((cfg0.win w).arr.view.loc (c : Thread nD τ)) = finalA m c w

theorem run_main : θ_run defs (onTc (τ := τ) (main (F := F))) (atLaunch m ρ) (fun r => Final m r ∧ r.2.sem = fun _ => 0) :=
by
 have hb := body_obligation m
 have hg := glob m
 have hX := start_intro m ρ
 have h0 := phi0_intro m
 have h1 := phi1_exit m
 have hw := waits m
 have hu := fund_all m
 refine Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := ?_) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := ?_)
    (G := G m) (G' := G' m) (u₀ := u₀)
    (hu₀ := ?_)
    (hglob := ?_)
    (hA := fun _ _ => rfl) (hpf := fun _ k => k.elim0)
    (X := start m) (Y := fun c => unscopedSems0 c) (Z := fun _ => iprop(emp))
    (hX := ?_) (hin := ?_) (hout := ?_)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)
 · exact fun c => (hb c).loose
 · exact hw
 · exact hu
 · exact hg
 · exact hX
 · exact h0
 · exact h1

theorem final_x (c : Dev nD) : finalA m c (0 : Fin 3) = m ((c : Thread nD τ).loc main_arg0) := (dats (F := F) m 0 c).arrAt_in (0 : Fin 3) rfl _
theorem final_w (c : Dev nD) : finalA m c (1 : Fin 3) = m ((c : Thread nD τ).loc main_arg1) := (dats (F := F) m 0 c).arrAt_in (1 : Fin 3) rfl _

end Cert.AllReduce

end
-- ==== Proof.Frames.lean ====
/-
  The frames. The kernel and its idealization have the same text, so one run (Launch.lean) serves both: at the
  bit-exact floats it is the kernel's, at the real ones its idealization's. In each the two arguments end as they
  began and every semaphore ends at zero.
-/
module

public import proofs.«01_k».proof.Defs
public import proofs.«01_k».proof.Proof.Launch
public import proofs.«01_k».proof.Proof.Gen.Kernel
public import Idealize.ShloMosaic.Lib.Pipeline.Regions

@[expose] public section

set_option maxRecDepth 16384

noncomputable section

namespace Cert.AllReduce

open Idealize.ShloMosaic Idealize.ShloMosaic.TcCoe Idealize.SL.Sem

/-- Over the reals the run keeps the arguments and ends with the semaphores at zero. -/
theorem frame_ideal : Cert.quiescent_KernelIdeal := fun m ρ _ =>
  (θ_run Cert.KernelIdeal.defs _ _).mono
    (fun _ h => ⟨fun c => ⟨(h.1 c (0 : Fin 3)).trans (final_x m c), (h.1 c (1 : Fin 3)).trans (final_w m c)⟩, h.2⟩)
    (run_main (F := Ideal) m ρ)

/-- The kernel's frame is its idealization's at the bit-exact floats: the two programs have one text. -/
theorem frame_same : Cert.quiescent_Kernel = (∀ (m : (ℓ : Loc Cert.KernelIdeal.nD Cert.KernelIdeal.τ Cert.KernelIdeal.sig) → Buf (Elt Bits) ℓ)
    (ρ : Dev Cert.KernelIdeal.nD → PrngReg), True →
      θ_run Cert.KernelIdeal.defs (onTc (τ := Cert.KernelIdeal.τ) (Cert.KernelIdeal.main (F := Bits))) ⟨m, fun _ => 0, ρ⟩
        (fun r => (∀ c : Dev Cert.KernelIdeal.nD,
            r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
            ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))
          ∧ r.2.sem = fun _ => 0)) := by
  chain_rfl

/-- At the bit-exact floats too. -/
theorem frame_kernel : Cert.quiescent_Kernel :=
  frame_same.mpr fun m ρ _ =>
  (θ_run Cert.KernelIdeal.defs _ _).mono
    (fun _ h => ⟨fun c => ⟨(h.1 c (0 : Fin 3)).trans (final_x m c), (h.1 c (1 : Fin 3)).trans (final_w m c)⟩, h.2⟩)
    (run_main (F := Bits) m ρ)

end Cert.AllReduce

end
-- ==== Proof.Value.lean ====
/-
# The value over the reals

Over the reals a change of format is the identity, so what travels round a ring is a plain sum of the devices' products,
one device's term added at each hop. After thirty-one hops a chunk has met all thirty-two devices. A device's product sums
over its own 128 of the 4096 contracted positions, so the sum of them all is the whole product.
-/
module

public import proofs.«01_k».proof.Proof.Launch
public import Idealize.ShloMosaic.PureOps.Ideal.Laws
public import Idealize.ShloMosaic.Lib.ValueIdx
public import Idealize.ShloMosaic.Lib.MatmulPlain
public import Idealize.ShloMosaic.Lib.StackMember
public import Idealize.ShloMosaic.Lib.Pipeline.Value

@[expose] public section

set_option maxRecDepth 16384

noncomputable section

namespace Cert.AllReduce

open Idealize.ShloMosaic Idealize.ShloMosaic.TcCoe Idealize.ShloMosaic.ValueIdx
open Cert.KernelIdeal Cert.KernelIdeal.Gen

/-! ## One hop -/

/-- What a message says, laid out as a block. -/
def flat (v : Vec Ideal S1x1x64x1024 .bf16) (p : S64x1024.Idx) : EReal := k0_pay146 (F := Ideal) v p

theorem flat_first (b : Vec Ideal S64x1024 .bf16) (p : S64x1024.Idx) : flat (k0_pay2 (F := Ideal) b) p = b p := by
  show shapeCast S64x1024 (shapeCast S1x1x64x1024 b _) _ p = b p
  rw [shapeCast_shapeCast]

theorem flat_next (b : Vec Ideal S64x1024 .bf16) (v : Vec Ideal S1x1x64x1024 .bf16) (p : S64x1024.Idx) :
    flat (k0_pay6 (F := Ideal) b v) p = (b p : EReal) + flat v p := by
  show shapeCast S64x1024 (shapeCast S1x1x64x1024 (addf (F := Ideal) b (shapeCast S64x1024 v _)) _) _ p = _
  rw [shapeCast_shapeCast]
  rfl

/-! ## Where a block lies in the product -/

/-- Place `p` of half `q` of chunk `k` in ring `d`'s columns. -/
def place (d : Fin 2) (k : Dev nD) (q : Fin 2) (p : S64x1024.Idx) : S4096x2048.Idx
  | ⟨0, _⟩ => ⟨128 * k.val + 64 * q.val + (p 0).val, by
      have : k.val < 32 := k.isLt; have : (p 0).val < 64 := (p 0).isLt; have := q.isLt; show _ < 4096; omega⟩
  | ⟨1, _⟩ => ⟨1024 * d.val + (p 1).val, by have : (p 1).val < 1024 := (p 1).isLt; have := d.isLt; show _ < 2048; omega⟩

theorem blk_at (f : (cc0_scratch0 : Ref sig .tc).ty.Contents (Elt Ideal)) (d : Fin 2) (k : Dev nD) (q : Fin 2) :
    ∀ (off : Fin 2 → ℕ) (_ : off = ![128 * k.val + 64 * q.val, 1024 * d.val])
      (hb : ∀ a, off a + S64x1024.size a ≤ S4096x2048.size a) (p : S64x1024.Idx),
      blk (F := Ideal) (Rect.unit (s := S4096x2048) off S64x1024.size hb) f p = f (place d k q p) := by
  rintro _ rfl hb p
  show f ((Rect.unit (s := S4096x2048) ![128 * k.val + 64 * q.val, 1024 * d.val] S64x1024.size hb).emb p) = _
  refine congrArg f (funext fun a => Fin.ext ?_)
  match a with
  | ⟨0, _⟩ => show 128 * k.val + 64 * q.val + 1 * (p 0).val = 128 * k.val + 64 * q.val + (p 0).val; omega
  | ⟨1, _⟩ => show 1024 * d.val + 1 * (p 1).val = 1024 * d.val + (p 1).val; omega

theorem two (d : Fin 2) : d = 0 ∨ d = 1 := by revert d; decide

theorem ownOff_at (d : Fin 2) (c : Dev nD) (q : Fin 2) : ownOff d c q = ![128 * c.val + 64 * q.val, 1024 * d.val] := by
  rcases two d with rfl | rfl
  · exact k0_off1_eq c q
  · exact k0_off2_eq c q

/-- At hop `j` a device adds to the chunk that set out `j + 1` devices before it. -/
theorem rsOff_at (d : Fin 2) (c : Dev nD) (j : ℕ) (h : j ≤ 30) (q : Fin 2) :
    rsOff d c j q = ![128 * (back d (j + 1) c).val + 64 * q.val, 1024 * d.val] := by
  have hc : c.val < 32 := c.isLt
  have hm : j % 31 = j := by omega
  rcases two d with rfl | rfl
  · rw [back_zero]; show k0_off3 c (BitVec.ofNat 32 (j % 31)) (qw q) = _; rw [hm]
    exact (k0_off3_eq c ⟨j, by omega⟩ q).trans (by
      show ![128 * ((c.val + 63 - j) % 32) + 64 * q.val, 0] = _
      rw [show (c.val + 63 - j) % 32 = (c.val + 31 * (j + 1)) % 32 by omega]; rfl)
  · rw [back_one]; show k0_off4 c (BitVec.ofNat 32 (j % 31)) (qw q) = _; rw [hm]
    exact (k0_off4_eq c ⟨j, by omega⟩ q).trans (by
      show ![128 * ((c.val + j + 1) % 32) + 64 * q.val, 1024] = _
      rw [show (c.val + j + 1) % 32 = (c.val + (j + 1)) % 32 by omega]; rfl)

/-! ## The sum a ring makes -/

/-- Device `e`'s term of the sum at `i`. -/
def term (Wk : Works Ideal) (e : Dev nD) (i : S4096x2048.Idx) : EReal := Wk e i

/-- After `j` hops: the terms of the sender and of the `j` devices before it. -/
theorem flat_snt (Wk : Works Ideal) (d q : Fin 2) (p : S64x1024.Idx) (j : ℕ) (h : j ≤ 31) (c : Dev nD) :
    flat (snt Wk d q j c) p = ∑ t ∈ Finset.range (j + 1), term Wk (back d t c) (place d (back d j c) q p) := by
  induction j generalizing c with
  | zero =>
    rw [snt, flat_first, blk_at _ d c q _ (ownOff_at d c q)]
    exact (Finset.sum_range_one (fun t => term Wk (back d t c) (place d (back d 0 c) q p))).symm
  | succ j ih =>
    rw [snt_rs Wk d q j (by omega) c, flat_next, blk_at _ d (back d (j + 1) c) q _ (rsOff_at d c j (by omega) q),
      ih (by omega) (src d c), add_comm, Finset.sum_range_succ' _ (j + 1)]
    refine congrArg₂ (fun a b : EReal => a + b) (Finset.sum_congr rfl fun t _ => ?_) rfl
    rw [back_src, back_src]; rfl

theorem back_round (d : Fin 2) (k : Dev nD) : back d 32 k = k := by
  have : k.val < 32 := k.isLt
  rcases two d with rfl | rfl
  · exact Fin.ext (by rw [back_zero]; omega)
  · exact Fin.ext (by rw [back_one]; omega)

/-- Thirty-two steps back meet every device once. -/
theorem back_all (d : Fin 2) (c : Dev nD) : Function.Bijective (fun t : Fin 32 => back d t.val c) := by
  have hc : c.val < 32 := c.isLt
  refine (Finite.injective_iff_bijective (α := Fin 32) (f := fun t : Fin 32 => (back d t.val c : Fin 32))).mp fun s t e => ?_
  have hs := s.isLt
  have ht := t.isLt
  have e' : (back d s.val c).val = (back d t.val c).val := congrArg Fin.val e
  rcases two d with rfl | rfl
  · rw [back_zero, back_zero] at e'; exact Fin.ext (by omega)
  · rw [back_one, back_one] at e'; exact Fin.ext (by omega)

theorem place_at (i : S4096x2048.Idx) : place (ringAt i) (chunkAt i) (halfAt i) (placeAt i) = i := by
  funext a
  match a with
  | ⟨0, _⟩ => exact Fin.ext (by show 128 * ((i 0).val / 128) + 64 * ((i 0).val / 64 % 2) + (i 0).val % 64 = (i 0).val; omega)
  | ⟨1, _⟩ => exact Fin.ext (by show 1024 * ((i 1).val / 1024) + (i 1).val % 1024 = (i 1).val; omega)

/-- The result sums the devices' products. -/
theorem goal_at (Wk : Works Ideal) (i : S4096x2048.Idx) : (goal (F := Ideal) Wk i : EReal) = ∑ e : Dev nD, term Wk e i := by
  show flat (snt Wk (ringAt i) (halfAt i) 31 (src (ringAt i) (chunkAt i))) (placeAt i) = _
  rw [flat_snt Wk _ _ _ 31 le_rfl, back_src, show src (ringAt i) (back (ringAt i) 31 (chunkAt i)) = back (ringAt i) 32 (chunkAt i) from rfl,
    back_round, place_at, Finset.sum_range]
  exact (back_all (ringAt i) (src (ringAt i) (chunkAt i))).sum_comp (fun e => term Wk e i)

/-! ## The products -/

/-- A device's product, element by element. -/
theorem pay1_at (x : S4096x128.Idx → EReal) (w : S128x2048.Idx → EReal) (r : Fin 4096) (l : Fin 2048) :
    (k0_pay1 (F := Ideal) x w (ix2 r l) : EReal) = ∑ k : Fin 128, x (ix2 r k) * w (ix2 k l) := by
  unfold k0_pay1
  rw [shapeCast_self, shapeCast_self, shapeCast_self]
  show (FloatOps.matmul (F := Ideal) (φ₁ := .bf16) (φ₂ := .bf16) (DotDims.plain 4096 128 2048) none x w (constant S4096x2048 .f32 0x00000000#32) (ix2 r l) : EReal) = _
  rw [Ideal.matmul_plain_apply]
  rw [show (constant (F := Ideal) S4096x2048 .f32 0x00000000#32 (ix2 r l) : EReal) = 0 from Ideal.ofBits_zero_f32, zero_add]

/-! ## The windows are whole arrays -/

section
variable {F : FTy → Type} [FloatOps F]
variable (m : (ℓ : Loc nD τ sig) → Buf (Elt F) ℓ)

theorem xAt_eq (c : Dev nD) : xAt m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem wAt_eq (c : Dev nD) : wAt m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The result array ends as the body left its buffer. -/
theorem final_out (c : Dev nD) : finalA m c (2 : Fin 3) = outAt m := by
  have hz : (fun a => (win0_2.index (0 : Fin 1)) a * main_v1.ty.shape.size a) = fun _ => 0 :=
    funext fun a => by fin_cases a <;> decide
  have hr : (win0_2.blk (0 : Fin 1)).view.read (Elt F) (finalA m c (2 : Fin 3)) = finalA m c (2 : Fin 3) :=
    Memref.read_access_unit_zero (Elt F) main_v1 hz (fun a => by fin_cases a <;> decide) _
  rw [← hr]
  unfold finalA
  rw [show cfg0.N = ((0 : Fin 1) : Fin cfg0.N).val + 1 from rfl, (dats m 0 c).arrAt_succ (2 : Fin 3) (0 : Fin 1),
    show (cfg0.win (2 : Fin 3)).flush (0 : Fin 1) = true from by decide, if_pos rfl]
  exact View.read_write_univ _ _

end

end Cert.AllReduce

end
-- ==== Proof.Whole.lean ====
/-
# Against the whole product

The 4096 contracted positions are the thirty-two devices' 128 each, in the devices' order. So the devices' products, of
their blocks of the two arguments, sum to the product of the whole arguments. With the runs of the kernel and of the
reference this is the claim about values.
-/
module

public import proofs.«01_k».proof.Defs
public import proofs.«01_k».proof.Proof.Value
public import proofs.«01_k».proof.Proof.Gen.ReferenceIdeal.Run

@[expose] public section

set_option maxRecDepth 16384

noncomputable section

namespace Cert.AllReduce

open Idealize.ShloMosaic Idealize.ShloMosaic.TcCoe Idealize.ShloMosaic.ValueIdx Idealize.SL.Sem
open Cert.KernelIdeal Cert.KernelIdeal.Gen

/-- Position `k` of device `e`'s share of the contracted axis. -/
def pos (e : Fin 32) (k : Fin 128) : Fin 4096 := ⟨e.val * 128 + k.val, by omega⟩

theorem sum_shares (f : Fin 4096 → EReal) : ∑ n : Fin 4096, f n = ∑ e : Fin 32, ∑ k : Fin 128, f (pos e k) := by
  rw [← Fintype.sum_prod_type' (f := fun (e : Fin 32) (k : Fin 128) => f (pos e k))]
  refine (Fintype.sum_equiv (finProdFinEquiv (m := 32) (n := 128)) _ _ fun ek => congrArg f (Fin.ext ?_)).symm
  show ek.1.val * 128 + ek.2.val = ek.2.val + 128 * ek.1.val
  omega

/-- The whole product. -/
abbrev whole (X : Cert.ReferenceIdeal.S4096x4096.Idx → EReal) (W : Cert.ReferenceIdeal.S4096x2048.Idx → EReal) :
    FVec Ideal Cert.ReferenceIdeal.S4096x2048 .f32 :=
  Host.dotGeneral (F := Ideal) (φ₁ := .bf16) (φ₂ := .bf16) Cert.ReferenceIdeal.dot_S4096x4096_S4096x2048_S4096x2048_1_0_0_1_n_n none X W

theorem whole_at (X : Cert.ReferenceIdeal.S4096x4096.Idx → EReal) (W : Cert.ReferenceIdeal.S4096x2048.Idx → EReal) (r : Fin 4096) (l : Fin 2048) :
    (whole X W (ix2 r l) : EReal) = ∑ n : Fin 4096, X (ix2 r n) * W (ix2 n l) :=
  StackMember.dotGeneral_plain_apply (φ₁ := .bf16) (φ₂ := .bf16) none X W r l

variable (m : (ℓ : Loc nD τ sig) → Buf (Elt Ideal) ℓ)

/-- Every device ends with the whole product. -/
theorem out_whole (X : Cert.ReferenceIdeal.S4096x4096.Idx → EReal) (W : Cert.ReferenceIdeal.S4096x2048.Idx → EReal)
    (hx : ∀ c : Dev nD, m ((c : Thread nD τ).loc main_arg0) = Layout.block ⟨2, ![4096, 128]⟩ ⟨2, ![4096, 4096]⟩ 1 32 c X)
    (hw : ∀ c : Dev nD, m ((c : Thread nD τ).loc main_arg1) = Layout.block ⟨2, ![128, 2048]⟩ ⟨2, ![4096, 2048]⟩ 0 32 c W) :
    outAt m = whole X W := by
  funext i
  obtain ⟨r, l, rfl⟩ : ∃ (r : Fin 4096) (l : Fin 2048), i = ix2 r l := ⟨i 0, i 1, eq_ix2 i⟩
  refine (goal_at (prods m) (ix2 r l)).trans (Eq.trans ?_ ((whole_at X W r l).trans (sum_shares _)).symm)
  refine Fintype.sum_congr (M := EReal) _ _ fun e => ?_
  show (k0_pay1 (F := Ideal) (xAt m e) (wAt m e) (ix2 r l) : EReal) = _
  rw [xAt_eq, wAt_eq, hx e, hw e]
  refine (pay1_at _ _ r l).trans (Finset.sum_congr rfl fun k _ => congrArg₂ (fun a b : EReal => a * b) (congrArg X ?_) (congrArg W ?_))
  · funext a; match a with | ⟨0, _⟩ => rfl | ⟨1, _⟩ => rfl
  · funext a; match a with | ⟨0, _⟩ => rfl | ⟨1, _⟩ => rfl

/-- The reference keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals every device's result is the reference's. -/
theorem value : Cert.algebraic_KernelIdeal_ReferenceIdeal := fun m ρ m' ρ' _ hag =>
  ⟨whole (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ h c => ⟨(h.1 c (2 : Fin 3)).trans ((final_out m c).trans (out_whole m _ _ (fun e => (hag e).1) (fun e => (hag e).2))),
        (h.1 c (0 : Fin 3)).trans (final_x m c), (h.1 c (1 : Fin 3)).trans (final_w m c)⟩)
      (run_main (F := Ideal) m ρ),
    (θ_run Cert.ReferenceIdeal.defs _ _).mono (fun _ h => h 0) (Cert.ReferenceIdeal.Value.run (F := Ideal) m' ρ')⟩

end Cert.AllReduce

end
-- ==== Proof.lean ====
/-
  The claims, together: the three frames (Frames.lean, Whole.lean), that the idealization rewrites nothing, and that over
  the reals every device's result is the reference's (Whole.lean).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Whole
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.AllReduce.frame_kernel, Cert.AllReduce.frame_ideal, Cert.AllReduce.frame_reference, trivial, Cert.AllReduce.value⟩

end Cert.Proof

end
